-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v15) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v9_0)) (v1 : (c : Dev Cert.OutProjIdeal.nD) → Buf (Elt Ideal) ((c.tc : Thread Cert.OutProjIdeal.nD Cert.OutProjIdeal.τ).loc Cert.OutProjIdeal.main_v9_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v9_0) = v0 c
          ∧ r.2.mem ((c.tc : Thread Cert.OutProjIdeal.nD Cert.OutProjIdeal.τ).loc Cert.OutProjIdeal.main_v9_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v29) = v0 c
          ∧ r.2.mem ((c.tc : Thread Cert.OutProjReferenceIdeal.nD Cert.OutProjReferenceIdeal.τ).loc Cert.OutProjReferenceIdeal.main_v45) = v1 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
-- ==== Kernel.lean ====
abbrev S1x16384x16x64 : Shape := ⟨4, ![1, 16384, 16, 64]⟩
abbrev S1x16384x5120 : Shape := ⟨3, ![1, 16384, 5120]⟩
abbrev S16384x1024 : Shape := ⟨2, ![16384, 1024]⟩
abbrev S_ : Shape := ⟨0, ![]⟩
abbrev S16384x2048 : Shape := ⟨2, ![16384, 2048]⟩
abbrev S16384x5120 : Shape := ⟨2, ![16384, 5120]⟩
abbrev S4096x128 : Shape := ⟨2, ![4096, 128]⟩
abbrev S1024x128 : Shape := ⟨2, ![1024, 128]⟩
abbrev S6144x128 : Shape := ⟨2, ![6144, 128]⟩
abbrev S1x128 : Shape := ⟨2, ![1, 128]⟩
abbrev S256x128 : Shape := ⟨2, ![256, 128]⟩
abbrev S256x256 : Shape := ⟨2, ![256, 256]⟩
abbrev S128x128 : Shape := ⟨2, ![128, 128]⟩
abbrev S256 : Shape := ⟨1, ![256]⟩
abbrev S256x1 : Shape := ⟨2, ![256, 1]⟩
abbrev S128x1 : Shape := ⟨2, ![128, 1]⟩

abbrev nBuf : Space → Nat
  | .hbm => 13
  | .vmem => 22
  | .smem => 0
  | _ => 0

abbrev bufTy : (tb : Table) → Fin (tcTables nBuf tb) → BufTy
  | .hbm, ⟨0, _⟩ => ⟨S1x16384x16x64, .f32⟩
  | .hbm, ⟨1, _⟩ => ⟨S1x16384x16x64, .f32⟩
  | .hbm, ⟨2, _⟩ => ⟨S1x16384x5120, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x2048, .f32⟩
  | .hbm, ⟨9, _⟩ => ⟨S16384x2048, .bf16⟩
  | .hbm, ⟨10, _⟩ => ⟨S16384x5120, .f32⟩
  | .hbm, ⟨11, _⟩ => ⟨S16384x5120, .bf16⟩
  | .hbm, ⟨12, _⟩ => ⟨S16384x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S4096x128, .bf16⟩
  | .local _ .vmem, ⟨9, _⟩ => ⟨S4096x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .f32⟩
  | .local _ .vmem, ⟨17, _⟩ => ⟨S6144x128, .f32⟩
  | .local _ .vmem, ⟨18, _⟩ => ⟨S6144x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | _, _ => ⟨S1x16384x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_35 : BitVec 32 := 0#32
  let c8_i32 : BitVec 32 := 8#32
  let v84 : BitVec 32 := Scalar.addi c0_i32_35 c8_i32
  let c1_i32_36 : BitVec 32 := 1#32
  ⟨c0_i32_35, v84, c1_i32_36⟩
def k0_off1 (k0_t1 : Fin k0_t1_loop.trips) (c0_i32_53 : BitVec 32) : Fin 2 → Nat :=
  let c4_i32_52 : BitVec 32 := 4#32
  let c0_i32_35 : BitVec 32 := 0#32
  let c1_i32_36 : BitVec 32 := 1#32
  let arg16 : BitVec 32 := Scf.iv c0_i32_35 c1_i32_36 k0_t1
  let v92 : BitVec 32 := Scalar.muli c4_i32_52 arg16
  let v93 : BitVec 32 := Scalar.addi v92 c0_i32_53
  let c32_i32_60 : BitVec 32 := 32#32
  let c0_i32_61 : BitVec 32 := 0#32
  let v111 : BitVec 1 := Scalar.cmpi .eq c32_i32_60 c0_i32_61
  let c1_i32_62 : BitVec 32 := 1#32
  let v112 : BitVec 32 := Scalar.select v111 c1_i32_62 c32_i32_60
  let v113 : BitVec 32 := Scalar.remsi v93 v112
  let c0_i32_64 : BitVec 32 := 0#32
  let v115 : BitVec 1 := Scalar.cmpi .slt v113 c0_i32_64
  let c0_i32_65 : BitVec 32 := 0#32
  let v116 : BitVec 1 := Scalar.cmpi .slt v112 c0_i32_65
  let v117 : BitVec 1 := Scalar.xori v115 v116
  let c0_i32_63 : BitVec 32 := 0#32
  let v114 : BitVec 1 := Scalar.cmpi .ne v113 c0_i32_63
  let v118 : BitVec 1 := Scalar.andi v117 v114
  let v119 : BitVec 32 := Scalar.addi v113 v112
  let v120 : BitVec 32 := Scalar.select v118 v119 v113
  let c128_i32_66 : BitVec 32 := 128#32
  let v121 : BitVec 32 := Scalar.muli v120 c128_i32_66
  let c1_i32_67 : BitVec 32 := 1#32
  let v122 : BitVec 32 := Scalar.muli v121 c1_i32_67
  let c0_i32_54 : BitVec 32 := 0#32
  let v95 : BitVec 1 := Scalar.cmpi .sgt v93 c0_i32_54
  let v96 : BitVec 32 := Scalar.extui v95
  let c0_i32_55 : BitVec 32 := 0#32
  let v97 : BitVec 1 := Scalar.cmpi .slt v93 c0_i32_55
  let v98 : BitVec 32 := Scalar.extui v97
  let v99 : BitVec 32 := Scalar.subi v96 v98
  let c32_i32 : BitVec 32 := 32#32
  let c0_i32_56 : BitVec 32 := 0#32
  let v100 : BitVec 1 := Scalar.cmpi .sgt c32_i32 c0_i32_56
  let v101 : BitVec 32 := Scalar.extui v100
  let c0_i32_57 : BitVec 32 := 0#32
  let v102 : BitVec 1 := Scalar.cmpi .slt c32_i32 c0_i32_57
  let v103 : BitVec 32 := Scalar.extui v102
  let v104 : BitVec 32 := Scalar.subi v101 v103
  let v105 : BitVec 1 := Scalar.cmpi .ne v99 v104
  let v106 : BitVec 32 := Scalar.remsi v93 c32_i32
  let c0_i32_58 : BitVec 32 := 0#32
  let v107 : BitVec 1 := Scalar.cmpi .ne v106 c0_i32_58
  let v108 : BitVec 1 := Scalar.andi v105 v107
  let v94 : BitVec 32 := Scalar.divsi v93 c32_i32
  let c1_i32_59 : BitVec 32 := 1#32
  let v109 : BitVec 32 := Scalar.subi v94 c1_i32_59
  let v110 : BitVec 32 := Scalar.select v108 v109 v94
  let v123 : BitVec 32 := Scalar.addi v122 v110
  let v128 : Index := Scalar.indexCast v123
  let c0_70 : Index := 0#32
  ![v128.toNat, 0]
def k0_off2 (k0_t1 : Fin k0_t1_loop.trips) (c0_i32_53 : BitVec 32) : Fin 2 → Nat :=
  let c1024_i32 : BitVec 32 := 1024#32
  let c4_i32_52 : BitVec 32 := 4#32
  let c0_i32_35 : BitVec 32 := 0#32
  let c1_i32_36 : BitVec 32 := 1#32
  let arg16 : BitVec 32 := Scf.iv c0_i32_35 c1_i32_36 k0_t1
  let v92 : BitVec 32 := Scalar.muli c4_i32_52 arg16
  let v93 : BitVec 32 := Scalar.addi v92 c0_i32_53
  let c32_i32_60 : BitVec 32 := 32#32
  let c0_i32_61 : BitVec 32 := 0#32
  let v111 : BitVec 1 := Scalar.cmpi .eq c32_i32_60 c0_i32_61
  let c1_i32_62 : BitVec 32 := 1#32
  let v112 : BitVec 32 := Scalar.select v111 c1_i32_62 c32_i32_60
  let v113 : BitVec 32 := Scalar.remsi v93 v112
  let c0_i32_64 : BitVec 32 := 0#32
  let v115 : BitVec 1 := Scalar.cmpi .slt v113 c0_i32_64
  let c0_i32_65 : BitVec 32 := 0#32
  let v116 : BitVec 1 := Scalar.cmpi .slt v112 c0_i32_65
  let v117 : BitVec 1 := Scalar.xori v115 v116
  let c0_i32_63 : BitVec 32 := 0#32
  let v114 : BitVec 1 := Scalar.cmpi .ne v113 c0_i32_63
  let v118 : BitVec 1 := Scalar.andi v117 v114
  let v119 : BitVec 32 := Scalar.addi v113 v112
  let v120 : BitVec 32 := Scalar.select v118 v119 v113
  let c128_i32_66 : BitVec 32 := 128#32
  let v121 : BitVec 32 := Scalar.muli v120 c128_i32_66
  let c64_i32_68 : BitVec 32 := 64#32
  let v124 : BitVec 32 := Scalar.subi v121 c64_i32_68
  let c1_i32_69 : BitVec 32 := 1#32
  let v125 : BitVec 32 := Scalar.muli v124 c1_i32_69
  let v126 : BitVec 32 := Scalar.addi c1024_i32 v125
  let c0_i32_54 : BitVec 32 := 0#32
  let v95 : BitVec 1 := Scalar.cmpi .sgt v93 c0_i32_54
  let v96 : BitVec 32 := Scalar.extui v95
  let c0_i32_55 : BitVec 32 := 0#32
  let v97 : BitVec 1 := Scalar.cmpi .slt v93 c0_i32_55
  let v98 : BitVec 32 := Scalar.extui v97
  let v99 : BitVec 32 := Scalar.subi v96 v98
  let c32_i32 : BitVec 32 := 32#32
  let c0_i32_56 : BitVec 32 := 0#32
  let v100 : BitVec 1 := Scalar.cmpi .sgt c32_i32 c0_i32_56
  let v101 : BitVec 32 := Scalar.extui v100
  let c0_i32_57 : BitVec 32 := 0#32
  let v102 : BitVec 1 := Scalar.cmpi .slt c32_i32 c0_i32_57
  let v103 : BitVec 32 := Scalar.extui v102
  let v104 : BitVec 32 := Scalar.subi v101 v103
  let v105 : BitVec 1 := Scalar.cmpi .ne v99 v104
  let v106 : BitVec 32 := Scalar.remsi v93 c32_i32
  let c0_i32_58 : BitVec 32 := 0#32
  let v107 : BitVec 1 := Scalar.cmpi .ne v106 c0_i32_58
  let v108 : BitVec 1 := Scalar.andi v105 v107
  let v94 : BitVec 32 := Scalar.divsi v93 c32_i32
  let c1_i32_59 : BitVec 32 := 1#32
  let v109 : BitVec 32 := Scalar.subi v94 c1_i32_59
  let v110 : BitVec 32 := Scalar.select v108 v109 v94
  let v127 : BitVec 32 := Scalar.addi v126 v110
  let v133 : Index := Scalar.indexCast v127
  let c0_71 : Index := 0#32
  ![v133.toNat, 0]
@[reducible] def k0_t2_loop : Scf.Loop 32 :=
  let c0_i32_38 : BitVec 32 := 0#32
  let c8_i32_39 : BitVec 32 := 8#32
  let v85 : BitVec 32 := Scalar.addi c0_i32_38 c8_i32_39
  let c1_i32_40 : BitVec 32 := 1#32
  ⟨c0_i32_38, v85, c1_i32_40⟩
def k0_off3 (k0_t2 : Fin k0_t2_loop.trips) (c0_i32_53 : BitVec 32) : Fin 2 → Nat :=
  let c4_i32_52 : BitVec 32 := 4#32
  let c0_i32_38 : BitVec 32 := 0#32
  let c1_i32_40 : BitVec 32 := 1#32
  let arg16 : BitVec 32 := Scf.iv c0_i32_38 c1_i32_40 k0_t2
  let v92 : BitVec 32 := Scalar.muli c4_i32_52 arg16
  let v93 : BitVec 32 := Scalar.addi v92 c0_i32_53
  let c8_i32_61 : BitVec 32 := 8#32
  let c0_i32_62 : BitVec 32 := 0#32
  let v111 : BitVec 1 := Scalar.cmpi .eq c8_i32_61 c0_i32_62
  let c1_i32_63 : BitVec 32 := 1#32
  let v112 : BitVec 32 := Scalar.select v111 c1_i32_63 c8_i32_61
  let v113 : BitVec 32 := Scalar.remsi v93 v112
  let c0_i32_65 : BitVec 32 := 0#32
  let v115 : BitVec 1 := Scalar.cmpi .slt v113 c0_i32_65
  let c0_i32_66 : BitVec 32 := 0#32
  let v116 : BitVec 1 := Scalar.cmpi .slt v112 c0_i32_66
  let v117 : BitVec 1 := Scalar.xori v115 v116
  let c0_i32_64 : BitVec 32 := 0#32
  let v114 : BitVec 1 := Scalar.cmpi .ne v113 c0_i32_64
  let v118 : BitVec 1 := Scalar.andi v117 v114
  let v119 : BitVec 32 := Scalar.addi v113 v112
  let v120 : BitVec 32 := Scalar.select v118 v119 v113
  let c128_i32_67 : BitVec 32 := 128#32
  let v121 : BitVec 32 := Scalar.muli v120 c128_i32_67
  let c4_i32_68 : BitVec 32 := 4#32
  let v122 : BitVec 32 := Scalar.muli v121 c4_i32_68
  let c0_i32_55 : BitVec 32 := 0#32
  let v95 : BitVec 1 := Scalar.cmpi .sgt v93 c0_i32_55
  let v96 : BitVec 32 := Scalar.extui v95
  let c0_i32_56 : BitVec 32 := 0#32
  let v97 : BitVec 1 := Scalar.cmpi .slt v93 c0_i32_56
  let v98 : BitVec 32 := Scalar.extui v97
  let v99 : BitVec 32 := Scalar.subi v96 v98
  let c8_i32_54 : BitVec 32 := 8#32
  let c0_i32_57 : BitVec 32 := 0#32
  let v100 : BitVec 1 := Scalar.cmpi .sgt c8_i32_54 c0_i32_57
  let v101 : BitVec 32 := Scalar.extui v100
  let c0_i32_58 : BitVec 32 := 0#32
  let v102 : BitVec 1 := Scalar.cmpi .slt c8_i32_54 c0_i32_58
  let v103 : BitVec 32 := Scalar.extui v102
  let v104 : BitVec 32 := Scalar.subi v101 v103
  let v105 : BitVec 1 := Scalar.cmpi .ne v99 v104
  let v106 : BitVec 32 := Scalar.remsi v93 c8_i32_54
  let c0_i32_59 : BitVec 32 := 0#32
  let v107 : BitVec 1 := Scalar.cmpi .ne v106 c0_i32_59
  let v108 : BitVec 1 := Scalar.andi v105 v107
  let v94 : BitVec 32 := Scalar.divsi v93 c8_i32_54
  let c1_i32_60 : BitVec 32 := 1#32
  let v109 : BitVec 32 := Scalar.subi v94 c1_i32_60
  let v110 : BitVec 32 := Scalar.select v108 v109 v94
  let v123 : BitVec 32 := Scalar.addi v122 v110
  let v128 : Index := Scalar.indexCast v123
  let c0_71 : Index := 0#32
  ![v128.toNat, 0]
def k0_off4 (k0_t2 : Fin k0_t2_loop.trips) (c0_i32_53 : BitVec 32) : Fin 2 → Nat :=
  let c1024_i32 : BitVec 32 := 1024#32
  let c4_i32_52 : BitVec 32 := 4#32
  let c0_i32_38 : BitVec 32 := 0#32
  let c1_i32_40 : BitVec 32 := 1#32
  let arg16 : BitVec 32 := Scf.iv c0_i32_38 c1_i32_40 k0_t2
  let v92 : BitVec 32 := Scalar.muli c4_i32_52 arg16
  let v93 : BitVec 32 := Scalar.addi v92 c0_i32_53
  let c8_i32_61 : BitVec 32 := 8#32
  let c0_i32_62 : BitVec 32 := 0#32
  let v111 : BitVec 1 := Scalar.cmpi .eq c8_i32_61 c0_i32_62
  let c1_i32_63 : BitVec 32 := 1#32
  let v112 : BitVec 32 := Scalar.select v111 c1_i32_63 c8_i32_61
  let v113 : BitVec 32 := Scalar.remsi v93 v112
  let c0_i32_65 : BitVec 32 := 0#32
  let v115 : BitVec 1 := Scalar.cmpi .slt v113 c0_i32_65
  let c0_i32_66 : BitVec 32 := 0#32
  let v116 : BitVec 1 := Scalar.cmpi .slt v112 c0_i32_66
  let v117 : BitVec 1 := Scalar.xori v115 v116
  let c0_i32_64 : BitVec 32 := 0#32
  let v114 : BitVec 1 := Scalar.cmpi .ne v113 c0_i32_64
  let v118 : BitVec 1 := Scalar.andi v117 v114
  let v119 : BitVec 32 := Scalar.addi v113 v112
  let v120 : BitVec 32 := Scalar.select v118 v119 v113
  let c128_i32_67 : BitVec 32 := 128#32
  let v121 : BitVec 32 := Scalar.muli v120 c128_i32_67
  let c64_i32_69 : BitVec 32 := 64#32
  let v124 : BitVec 32 := Scalar.subi v121 c64_i32_69
  let c4_i32_70 : BitVec 32 := 4#32
  let v125 : BitVec 32 := Scalar.muli v124 c4_i32_70
  let v126 : BitVec 32 := Scalar.addi c1024_i32 v125
  let c0_i32_55 : BitVec 32 := 0#32
  let v95 : BitVec 1 := Scalar.cmpi .sgt v93 c0_i32_55
  let v96 : BitVec 32 := Scalar.extui v95
  let c0_i32_56 : BitVec 32 := 0#32
  let v97 : BitVec 1 := Scalar.cmpi .slt v93 c0_i32_56
  let v98 : BitVec 32 := Scalar.extui v97
  let v99 : BitVec 32 := Scalar.subi v96 v98
  let c8_i32_54 : BitVec 32 := 8#32
  let c0_i32_57 : BitVec 32 := 0#32
  let v100 : BitVec 1 := Scalar.cmpi .sgt c8_i32_54 c0_i32_57
  let v101 : BitVec 32 := Scalar.extui v100
  let c0_i32_58 : BitVec 32 := 0#32
  let v102 : BitVec 1 := Scalar.cmpi .slt c8_i32_54 c0_i32_58
  let v103 : BitVec 32 := Scalar.extui v102
  let v104 : BitVec 32 := Scalar.subi v101 v103
  let v105 : BitVec 1 := Scalar.cmpi .ne v99 v104
  let v106 : BitVec 32 := Scalar.remsi v93 c8_i32_54
  let c0_i32_59 : BitVec 32 := 0#32
  let v107 : BitVec 1 := Scalar.cmpi .ne v106 c0_i32_59
  let v108 : BitVec 1 := Scalar.andi v105 v107
  let v94 : BitVec 32 := Scalar.divsi v93 c8_i32_54
  let c1_i32_60 : BitVec 32 := 1#32
  let v109 : BitVec 32 := Scalar.subi v94 c1_i32_60
  let v110 : BitVec 32 := Scalar.select v108 v109 v94
  let v127 : BitVec 32 := Scalar.addi v126 v110
  let v133 : Index := Scalar.indexCast v127
  let c0_72 : Index := 0#32
  ![v133.toNat, 0]
@[reducible] def k0_t3_loop : Scf.Loop 32 :=
  let c0_i32_42 : BitVec 32 := 0#32
  let c8_i32_43 : BitVec 32 := 8#32
  let v86 : BitVec 32 := Scalar.addi c0_i32_42 c8_i32_43
  let c1_i32_44 : BitVec 32 := 1#32
  ⟨c0_i32_42, v86, c1_i32_44⟩
def k0_off5 (k0_t3 : Fin k0_t3_loop.trips) (c0_i32_53 : BitVec 32) : Fin 2 → Nat :=
  let c4_i32_52 : BitVec 32 := 4#32
  let c0_i32_42 : BitVec 32 := 0#32
  let c1_i32_44 : BitVec 32 := 1#32
  let arg16 : BitVec 32 := Scf.iv c0_i32_42 c1_i32_44 k0_t3
  let v92 : BitVec 32 := Scalar.muli c4_i32_52 arg16
  let v93 : BitVec 32 := Scalar.addi v92 c0_i32_53
  let c2_i32_60 : BitVec 32 := 2#32
  let c0_i32_61 : BitVec 32 := 0#32
  let v111 : BitVec 1 := Scalar.cmpi .eq c2_i32_60 c0_i32_61
  let c1_i32_62 : BitVec 32 := 1#32
  let v112 : BitVec 32 := Scalar.select v111 c1_i32_62 c2_i32_60
  let v113 : BitVec 32 := Scalar.remsi v93 v112
  let c0_i32_64 : BitVec 32 := 0#32
  let v115 : BitVec 1 := Scalar.cmpi .slt v113 c0_i32_64
  let c0_i32_65 : BitVec 32 := 0#32
  let v116 : BitVec 1 := Scalar.cmpi .slt v112 c0_i32_65
  let v117 : BitVec 1 := Scalar.xori v115 v116
  let c0_i32_63 : BitVec 32 := 0#32
  let v114 : BitVec 1 := Scalar.cmpi .ne v113 c0_i32_63
  let v118 : BitVec 1 := Scalar.andi v117 v114
  let v119 : BitVec 32 := Scalar.addi v113 v112
  let v120 : BitVec 32 := Scalar.select v118 v119 v113
  let c128_i32_66 : BitVec 32 := 128#32
  let v121 : BitVec 32 := Scalar.muli v120 c128_i32_66
  let c16_i32 : BitVec 32 := 16#32
  let v122 : BitVec 32 := Scalar.muli v121 c16_i32
  let c0_i32_54 : BitVec 32 := 0#32
  let v95 : BitVec 1 := Scalar.cmpi .sgt v93 c0_i32_54
  let v96 : BitVec 32 := Scalar.extui v95
  let c0_i32_55 : BitVec 32 := 0#32
  let v97 : BitVec 1 := Scalar.cmpi .slt v93 c0_i32_55
  let v98 : BitVec 32 := Scalar.extui v97
  let v99 : BitVec 32 := Scalar.subi v96 v98
  let c2_i32 : BitVec 32 := 2#32
  let c0_i32_56 : BitVec 32 := 0#32
  let v100 : BitVec 1 := Scalar.cmpi .sgt c2_i32 c0_i32_56
  let v101 : BitVec 32 := Scalar.extui v100
  let c0_i32_57 : BitVec 32 := 0#32
  let v102 : BitVec 1 := Scalar.cmpi .slt c2_i32 c0_i32_57
  let v103 : BitVec 32 := Scalar.extui v102
  let v104 : BitVec 32 := Scalar.subi v101 v103
  let v105 : BitVec 1 := Scalar.cmpi .ne v99 v104
  let v106 : BitVec 32 := Scalar.remsi v93 c2_i32
  let c0_i32_58 : BitVec 32 := 0#32
  let v107 : BitVec 1 := Scalar.cmpi .ne v106 c0_i32_58
  let v108 : BitVec 1 := Scalar.andi v105 v107
  let v94 : BitVec 32 := Scalar.divsi v93 c2_i32
  let c1_i32_59 : BitVec 32 := 1#32
  let v109 : BitVec 32 := Scalar.subi v94 c1_i32_59
  let v110 : BitVec 32 := Scalar.select v108 v109 v94
  let v123 : BitVec 32 := Scalar.addi v122 v110
  let v128 : Index := Scalar.indexCast v123
  let c0_69 : Index := 0#32
  ![v128.toNat, 0]
def k0_off6 (k0_t3 : Fin k0_t3_loop.trips) (c0_i32_53 : BitVec 32) : Fin 2 → Nat :=
  let c1024_i32 : BitVec 32 := 1024#32
  let c4_i32_52 : BitVec 32 := 4#32
  let c0_i32_42 : BitVec 32 := 0#32
  let c1_i32_44 : BitVec 32 := 1#32
  let arg16 : BitVec 32 := Scf.iv c0_i32_42 c1_i32_44 k0_t3
  let v92 : BitVec 32 := Scalar.muli c4_i32_52 arg16
  let v93 : BitVec 32 := Scalar.addi v92 c0_i32_53
  let c2_i32_60 : BitVec 32 := 2#32
  let c0_i32_61 : BitVec 32 := 0#32
  let v111 : BitVec 1 := Scalar.cmpi .eq c2_i32_60 c0_i32_61
  let c1_i32_62 : BitVec 32 := 1#32
  let v112 : BitVec 32 := Scalar.select v111 c1_i32_62 c2_i32_60
  let v113 : BitVec 32 := Scalar.remsi v93 v112
  let c0_i32_64 : BitVec 32 := 0#32
  let v115 : BitVec 1 := Scalar.cmpi .slt v113 c0_i32_64
  let c0_i32_65 : BitVec 32 := 0#32
  let v116 : BitVec 1 := Scalar.cmpi .slt v112 c0_i32_65
  let v117 : BitVec 1 := Scalar.xori v115 v116
  let c0_i32_63 : BitVec 32 := 0#32
  let v114 : BitVec 1 := Scalar.cmpi .ne v113 c0_i32_63
  let v118 : BitVec 1 := Scalar.andi v117 v114
  let v119 : BitVec 32 := Scalar.addi v113 v112
  let v120 : BitVec 32 := Scalar.select v118 v119 v113
  let c128_i32_66 : BitVec 32 := 128#32
  let v121 : BitVec 32 := Scalar.muli v120 c128_i32_66
  let c64_i32_67 : BitVec 32 := 64#32
  let v124 : BitVec 32 := Scalar.subi v121 c64_i32_67
  let c16_i32_68 : BitVec 32 := 16#32
  let v125 : BitVec 32 := Scalar.muli v124 c16_i32_68
  let v126 : BitVec 32 := Scalar.addi c1024_i32 v125
  let c0_i32_54 : BitVec 32 := 0#32
  let v95 : BitVec 1 := Scalar.cmpi .sgt v93 c0_i32_54
  let v96 : BitVec 32 := Scalar.extui v95
  let c0_i32_55 : BitVec 32 := 0#32
  let v97 : BitVec 1 := Scalar.cmpi .slt v93 c0_i32_55
  let v98 : BitVec 32 := Scalar.extui v97
  let v99 : BitVec 32 := Scalar.subi v96 v98
  let c2_i32 : BitVec 32 := 2#32
  let c0_i32_56 : BitVec 32 := 0#32
  let v100 : BitVec 1 := Scalar.cmpi .sgt c2_i32 c0_i32_56
  let v101 : BitVec 32 := Scalar.extui v100
  let c0_i32_57 : BitVec 32 := 0#32
  let v102 : BitVec 1 := Scalar.cmpi .slt c2_i32 c0_i32_57
  let v103 : BitVec 32 := Scalar.extui v102
  let v104 : BitVec 32 := Scalar.subi v101 v103
  let v105 : BitVec 1 := Scalar.cmpi .ne v99 v104
  let v106 : BitVec 32 := Scalar.remsi v93 c2_i32
  let c0_i32_58 : BitVec 32 := 0#32
  let v107 : BitVec 1 := Scalar.cmpi .ne v106 c0_i32_58
  let v108 : BitVec 1 := Scalar.andi v105 v107
  let v94 : BitVec 32 := Scalar.divsi v93 c2_i32
  let c1_i32_59 : BitVec 32 := 1#32
  let v109 : BitVec 32 := Scalar.subi v94 c1_i32_59
  let v110 : BitVec 32 := Scalar.select v108 v109 v94
  let v127 : BitVec 32 := Scalar.addi v126 v110
  let v133 : Index := Scalar.indexCast v127
  let c0_70 : Index := 0#32
  ![v133.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c15_i32 : BitVec 32 := 15#32
  let v2 : BitVec 32 := Scalar.minsi v1 c15_i32
  let c8_i32 : BitVec 32 := 8#32
  let v3 : BitVec 32 := Scalar.addi c8_i32 arg1
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi c16_i32 arg1
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c15_i32 : BitVec 32 := 15#32
  let v2 : BitVec 32 := Scalar.minsi v1 c15_i32
  let c16_i32 : BitVec 32 := 16#32
  let v3 : BitVec 32 := Scalar.addi c16_i32 arg1
  let c0_i32 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x16384x16x64 : Shape := ⟨4, ![1, 16384, 16, 64]⟩
abbrev S1x16384x5120 : Shape := ⟨3, ![1, 16384, 5120]⟩
abbrev S3 : Shape := ⟨1, ![3]⟩
abbrev S1x16384x1024 : Shape := ⟨3, ![1, 16384, 1024]⟩
abbrev S16384x1024 : Shape := ⟨2, ![16384, 1024]⟩
abbrev S16384x16x64 : Shape := ⟨3, ![16384, 16, 64]⟩
abbrev S16384 : Shape := ⟨1, ![16384]⟩
abbrev S16384x1x1 : Shape := ⟨3, ![16384, 1, 1]⟩
abbrev S3x1 : Shape := ⟨2, ![3, 1]⟩
abbrev S129 : Shape := ⟨1, ![129]⟩
abbrev S_ : Shape := ⟨0, ![]⟩
abbrev S1x129 : Shape := ⟨2, ![1, 129]⟩
abbrev S3x129 : Shape := ⟨2, ![3, 129]⟩
abbrev S1x3x129 : Shape := ⟨3, ![1, 3, 129]⟩
abbrev S16384x3x129 : Shape := ⟨3, ![16384, 3, 129]⟩
abbrev S16384x3x129x1 : Shape := ⟨4, ![16384, 3, 129, 1]⟩
abbrev S16384x3x129x16x64 : Shape := ⟨5, ![16384, 3, 129, 16, 64]⟩
abbrev S16384x16x3x129 : Shape := ⟨4, ![16384, 16, 3, 129]⟩
abbrev S16384x1x3x129 : Shape := ⟨4, ![16384, 1, 3, 129]⟩
abbrev S16384x16x3 : Shape := ⟨3, ![16384, 16, 3]⟩
abbrev S16384x16x3x1 : Shape := ⟨4, ![16384, 16, 3, 1]⟩
abbrev S16384x16x3x64 : Shape := ⟨4, ![16384, 16, 3, 64]⟩
abbrev S16384x16 : Shape := ⟨2, ![16384, 16]⟩
abbrev S16384x16x1 : Shape := ⟨3, ![16384, 16, 1]⟩

abbrev nBuf : Space → Nat
  | .hbm => 90
  | .vmem => 0
  | .smem => 0
  | _ => 0

abbrev bufTy : (tb : Table) → Fin (tcTables nBuf tb) → BufTy
  | .hbm, ⟨0, _⟩ => ⟨S1x16384x16x64, .f32⟩
  | .hbm, ⟨1, _⟩ => ⟨S1x16384x16x64, .f32⟩
  | .hbm, ⟨2, _⟩ => ⟨S1x16384x5120, .f32⟩
  | .hbm, ⟨3, _⟩ => ⟨S3, .i32⟩
  | .hbm, ⟨4, _⟩ => ⟨S1x16384x1024, .f32⟩
  | .hbm, ⟨5, _⟩ => ⟨S16384x1024, .f32⟩
  | .hbm, ⟨6, _⟩ => ⟨S16384x16x64, .f32⟩
  | .hbm, ⟨7, _⟩ => ⟨S16384x16x64, .f32⟩
  | .hbm, ⟨8, _⟩ => ⟨S16384x16x64, .f32⟩
  | .hbm, ⟨9, _⟩ => ⟨S16384, .i32⟩
  | .hbm, ⟨10, _⟩ => ⟨S16384x1x1, .i32⟩
  | .hbm, ⟨11, _⟩ => ⟨S3x1, .i32⟩
  | .hbm, ⟨12, _⟩ => ⟨S129, .i32⟩
  | .hbm, ⟨13, _⟩ => ⟨S_, .i32⟩
  | .hbm, ⟨14, _⟩ => ⟨S129, .i32⟩
  | .hbm, ⟨15, _⟩ => ⟨S129, .i32⟩
  | .hbm, ⟨16, _⟩ => ⟨S1x129, .i32⟩
  | .hbm, ⟨17, _⟩ => ⟨S3x129, .i32⟩
  | .hbm, ⟨18, _⟩ => ⟨S3x129, .i32⟩
  | .hbm, ⟨19, _⟩ => ⟨S3x129, .i32⟩
  | .hbm, ⟨20, _⟩ => ⟨S1x3x129, .i32⟩
  | .hbm, ⟨21, _⟩ => ⟨S16384x3x129, .i32⟩
  | .hbm, ⟨22, _⟩ => ⟨S16384x3x129, .i32⟩
  | .hbm, ⟨23, _⟩ => ⟨S16384x3x129, .i32⟩
  | .hbm, ⟨24, _⟩ => ⟨S_, .i32⟩
  | .hbm, ⟨25, _⟩ => ⟨S16384x3x129, .i32⟩
  | .hbm, ⟨26, _⟩ => ⟨S16384x3x129, .i1⟩
  | .hbm, ⟨27, _⟩ => ⟨S_, .i32⟩
  | .hbm, ⟨28, _⟩ => ⟨S16384x3x129, .i32⟩
  | .hbm, ⟨29, _⟩ => ⟨S16384x3x129, .i1⟩
  | .hbm, ⟨30, _⟩ => ⟨S16384x3x129, .i1⟩
  | .hbm, ⟨31, _⟩ => ⟨S_, .i32⟩
  | .hbm, ⟨32, _⟩ => ⟨S16384x3x129, .i32⟩
  | .hbm, ⟨33, _⟩ => ⟨S16384x3x129, .i1⟩
  | .hbm, ⟨34, _⟩ => ⟨S_, .i32⟩
  | .hbm, ⟨35, _⟩ => ⟨S16384x3x129, .i32⟩
  | .hbm, ⟨36, _⟩ => ⟨S16384x3x129, .i32⟩
  | .hbm, ⟨37, _⟩ => ⟨S16384x3x129, .i32⟩
  | .hbm, ⟨38, _⟩ => ⟨S16384x3x129x1, .i32⟩
  | .hbm, ⟨39, _⟩ => ⟨S16384x3x129x16x64, .f32⟩
  | .hbm, ⟨40, _⟩ => ⟨S_, .i32⟩
  | .hbm, ⟨41, _⟩ => ⟨S16384x3x129, .i32⟩
  | .hbm, ⟨42, _⟩ => ⟨S16384x3x129, .i1⟩
  | .hbm, ⟨43, _⟩ => ⟨S_, .i32⟩
  | .hbm, ⟨44, _⟩ => ⟨S16384x3x129, .i32⟩
  | .hbm, ⟨45, _⟩ => ⟨S16384x3x129, .i32⟩
  | .hbm, ⟨46, _⟩ => ⟨S16384x3x129, .i32⟩
  | .hbm, ⟨47, _⟩ => ⟨S16384x3x129x1, .i32⟩
  | .hbm, ⟨48, _⟩ => ⟨S16384x3x129x16x64, .f32⟩
  | .hbm, ⟨49, _⟩ => ⟨S16384x16x3x129, .f32⟩
  | .hbm, ⟨50, _⟩ => ⟨S_, .f32⟩
  | .hbm, ⟨51, _⟩ => ⟨S16384x16x3x129, .f32⟩
  | .hbm, ⟨52, _⟩ => ⟨S16384x16x3x129, .f32⟩
  | .hbm, ⟨53, _⟩ => ⟨S16384x1x3x129, .i1⟩
  | .hbm, ⟨54, _⟩ => ⟨S_, .f32⟩
  | .hbm, ⟨55, _⟩ => ⟨S_, .f32⟩
  | .hbm, ⟨56, _⟩ => ⟨S16384x16x3x129, .i1⟩
  | .hbm, ⟨57, _⟩ => ⟨S16384x16x3x129, .f32⟩
  | .hbm, ⟨58, _⟩ => ⟨S16384x16x3x129, .f32⟩
  | .hbm, ⟨59, _⟩ => ⟨S_, .f32⟩
  | .hbm, ⟨60, _⟩ => ⟨S16384x16x3, .f32⟩
  | .hbm, ⟨61, _⟩ => ⟨S16384x16x3x1, .f32⟩
  | .hbm, ⟨62, _⟩ => ⟨S16384x16x3x129, .f32⟩
  | .hbm, ⟨63, _⟩ => ⟨S16384x16x3x129, .f32⟩
  | .hbm, ⟨64, _⟩ => ⟨S16384x16x3x129, .f32⟩
  | .hbm, ⟨65, _⟩ => ⟨S_, .f32⟩
  | .hbm, ⟨66, _⟩ => ⟨S16384x16x3, .f32⟩
  | .hbm, ⟨67, _⟩ => ⟨S16384x16x3x64, .f32⟩
  | .hbm, ⟨68, _⟩ => ⟨S16384x16x3x1, .f32⟩
  | .hbm, ⟨69, _⟩ => ⟨S16384x16x3x64, .f32⟩
  | .hbm, ⟨70, _⟩ => ⟨S16384x16x3x64, .f32⟩
  | .hbm, ⟨71, _⟩ => ⟨S_, .f32⟩
  | .hbm, ⟨72, _⟩ => ⟨S16384x16, .f32⟩
  | .hbm, ⟨73, _⟩ => ⟨S16384x16x1, .f32⟩
  | .hbm, ⟨74, _⟩ => ⟨S16384x16x3, .f32⟩
  | .hbm, ⟨75, _⟩ => ⟨S16384x16x3, .f32⟩
  | .hbm, ⟨76, _⟩ => ⟨S16384x16x3, .f32⟩
  | .hbm, ⟨77, _⟩ => ⟨S16384x16x3, .f32⟩
  | .hbm, ⟨78, _⟩ => ⟨S16384x16x3x1, .f32⟩
  | .hbm, ⟨79, _⟩ => ⟨S16384x16x3x64, .f32⟩
  | .hbm, ⟨80, _⟩ => ⟨S16384x16x3x64, .f32⟩
  | .hbm, ⟨81, _⟩ => ⟨S_, .f32⟩
  | .hbm, ⟨82, _⟩ => ⟨S16384x16x64, .f32⟩
  | .hbm, ⟨83, _⟩ => ⟨S_, .f32⟩
  | .hbm, ⟨84, _⟩ => ⟨S16384x16, .f32⟩
  | .hbm, ⟨85, _⟩ => ⟨S16384x16x1, .f32⟩
  | .hbm, ⟨86, _⟩ => ⟨S16384x16x64, .f32⟩
  | .hbm, ⟨87, _⟩ => ⟨S16384x16x64, .f32⟩
  | .hbm, ⟨88, _⟩ => ⟨S16384x16x64, .bf16⟩
  | .hbm, ⟨89, _⟩ => ⟨S16384x1024, .bf16⟩
  | _, _ => ⟨S1x16384x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_1 : Ref sig .tc := ⟨.hbm, 24, rfl⟩
abbrev main_v19 : Ref sig .tc := ⟨.hbm, 25, rfl⟩
abbrev main_v20 : Ref sig .tc := ⟨.hbm, 26, rfl⟩
abbrev main_c_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_5 : Ref sig .tc := ⟨.hbm, 40, rfl⟩
abbrev main_v31 : Ref sig .tc := ⟨.hbm, 41, rfl⟩
abbrev main_v32 : Ref sig .tc := ⟨.hbm, 42, rfl⟩
abbrev main_c_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]

def κ : String → Option EReal := fun
  | "mask" => some ⊥
  | _ => none
-- ==== InProj.lean ====
abbrev S1x16384x2048 : Shape := ⟨3, ![1, 16384, 2048]⟩
abbrev S2048 : Shape := ⟨1, ![2048]⟩
abbrev S2048x5120 : Shape := ⟨2, ![2048, 5120]⟩
abbrev S16384x2048 : Shape := ⟨2, ![16384, 2048]⟩
abbrev S1x2048 : Shape := ⟨2, ![1, 2048]⟩
abbrev S16384x5120 : Shape := ⟨2, ![16384, 5120]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S1x16384x2048, .f32⟩
  | .hbm, ⟨1, _⟩ => ⟨S2048, .f32⟩
  | .hbm, ⟨2, _⟩ => ⟨S2048x5120, .f32⟩
  | .hbm, ⟨3, _⟩ => ⟨S16384x2048, .f32⟩
  | .hbm, ⟨4, _⟩ => ⟨S2048x5120, .bf16⟩
  | .hbm, ⟨5, _⟩ => ⟨S1x2048, .f32⟩
  | .hbm, ⟨6, _⟩ => ⟨S16384x5120, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjReferenceIdeal.lean ====
abbrev S1x16384x2048 : Shape := ⟨3, ![1, 16384, 2048]⟩
abbrev S2048 : Shape := ⟨1, ![2048]⟩
abbrev S2048x5120 : Shape := ⟨2, ![2048, 5120]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S16384x2048 : Shape := ⟨2, ![16384, 2048]⟩
abbrev S16384x5120 : Shape := ⟨2, ![16384, 5120]⟩

abbrev nBuf : Space → Nat
  | .hbm => 22
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S2048, .f32⟩
  | .hbm, ⟨2, _⟩ => ⟨S2048x5120, .f32⟩
  | .hbm, ⟨3, _⟩ => ⟨S1x16384x2048, .f32⟩
  | .hbm, ⟨4, _⟩ => ⟨S_, .f32⟩
  | .hbm, ⟨5, _⟩ => ⟨S1x16384, .f32⟩
  | .hbm, ⟨6, _⟩ => ⟨S1x16384x1, .f32⟩
  | .hbm, ⟨7, _⟩ => ⟨S_, .f32⟩
  | .hbm, ⟨8, _⟩ => ⟨S1x16384x1, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S1x16384x1, .f32⟩
  | .hbm, ⟨14, _⟩ => ⟨S1x16384x2048, .f32⟩
  | .hbm, ⟨15, _⟩ => ⟨S1x16384x2048, .f32⟩
  | .hbm, ⟨16, _⟩ => ⟨S1x1x2048, .f32⟩
  | .hbm, ⟨17, _⟩ => ⟨S1x16384x2048, .f32⟩
  | .hbm, ⟨18, _⟩ => ⟨S1x16384x2048, .f32⟩
  | .hbm, ⟨19, _⟩ => ⟨S16384x2048, .f32⟩
  | .hbm, ⟨20, _⟩ => ⟨S16384x5120, .f32⟩
  | .hbm, ⟨21, _⟩ => ⟨S16384x5120, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== OutProj.lean ====
abbrev S1x16384x2048 : Shape := ⟨3, ![1, 16384, 2048]⟩
abbrev S1x16384x1024 : Shape := ⟨3, ![1, 16384, 1024]⟩
abbrev S1024 : Shape := ⟨1, ![1024]⟩
abbrev S2048x2048 : Shape := ⟨2, ![2048, 2048]⟩
abbrev S2048 : Shape := ⟨1, ![2048]⟩
abbrev S16384x2048 : Shape := ⟨2, ![16384, 2048]⟩
abbrev S16384x1024 : Shape := ⟨2, ![16384, 1024]⟩
abbrev S1x1024 : Shape := ⟨2, ![1, 1024]⟩
abbrev S1x2048 : Shape := ⟨2, ![1, 2048]⟩
abbrev S2048x16384 : Shape := ⟨2, ![2048, 16384]⟩
abbrev S512x2048 : Shape := ⟨2, ![512, 2048]⟩
abbrev S512x1024 : Shape := ⟨2, ![512, 1024]⟩
abbrev S2048x512 : Shape := ⟨2, ![2048, 512]⟩
abbrev S512 : Shape := ⟨1, ![512]⟩
abbrev S512x1 : Shape := ⟨2, ![512, 1]⟩
abbrev S1024x2048 : Shape := ⟨2, ![1024, 2048]⟩

abbrev nBuf : Space → Nat
  | .hbm => 18
  | .vmem => 14
  | .smem => 0
  | _ => 0

abbrev bufTy : (tb : Table) → Fin (tcTables nBuf tb) → BufTy
  | .hbm, ⟨0, _⟩ => ⟨S1x16384x2048, .f32⟩
  | .hbm, ⟨1, _⟩ => ⟨S1x16384x1024, .f32⟩
  | .hbm, ⟨2, _⟩ => ⟨S1x16384x1024, .f32⟩
  | .hbm, ⟨3, _⟩ => ⟨S1024, .f32⟩
  | .hbm, ⟨4, _⟩ => ⟨S1024, .f32⟩
  | .hbm, ⟨5, _⟩ => ⟨S2048x2048, .f32⟩
  | .hbm, ⟨6, _⟩ => ⟨S2048, .f32⟩
  | .hbm, ⟨7, _⟩ => ⟨S16384x2048, .f32⟩
  | .hbm, ⟨8, _⟩ => ⟨S16384x1024, .f32⟩
  | .hbm, ⟨9, _⟩ => ⟨S16384x1024, .f32⟩
  | .hbm, ⟨10, _⟩ => ⟨S16384x1024, .bf16⟩
  | .hbm, ⟨11, _⟩ => ⟨S16384x1024, .bf16⟩
  | .hbm, ⟨12, _⟩ => ⟨S2048x2048, .bf16⟩
  | .hbm, ⟨13, _⟩ => ⟨S1x1024, .f32⟩
  | .hbm, ⟨14, _⟩ => ⟨S1x1024, .f32⟩
  | .hbm, ⟨15, _⟩ => ⟨S1x2048, .f32⟩
  | .hbm, ⟨16, _⟩ => ⟨S16384x2048, .f32⟩
  | .hbm, ⟨17, _⟩ => ⟨S2048x16384, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S2048x512, .bf16⟩
  | .local _ .vmem, ⟨13, _⟩ => ⟨S2048x512, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjReferenceIdeal.lean ====
abbrev S1x16384x2048 : Shape := ⟨3, ![1, 16384, 2048]⟩
abbrev S1x16384x1024 : Shape := ⟨3, ![1, 16384, 1024]⟩
abbrev S1024 : Shape := ⟨1, ![1024]⟩
abbrev S2048x2048 : Shape := ⟨2, ![2048, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S16384x2048 : Shape := ⟨2, ![16384, 2048]⟩
abbrev S1x1x2048 : Shape := ⟨3, ![1, 1, 2048]⟩
abbrev S2048x16384 : Shape := ⟨2, ![2048, 16384]⟩

abbrev nBuf : Space → Nat
  | .hbm => 62
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384x1024, .f32⟩
  | .hbm, ⟨2, _⟩ => ⟨S1x16384x1024, .f32⟩
  | .hbm, ⟨3, _⟩ => ⟨S1024, .f32⟩
  | .hbm, ⟨4, _⟩ => ⟨S1024, .f32⟩
  | .hbm, ⟨5, _⟩ => ⟨S2048x2048, .f32⟩
  | .hbm, ⟨6, _⟩ => ⟨S2048, .f32⟩
  | .hbm, ⟨7, _⟩ => ⟨S1x16384x1024, .f32⟩
  | .hbm, ⟨8, _⟩ => ⟨S_, .f32⟩
  | .hbm, ⟨9, _⟩ => ⟨S1x16384, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S1x16384x1024, .f32⟩
  | .hbm, ⟨19, _⟩ => ⟨S1x16384x1024, .f32⟩
  | .hbm, ⟨20, _⟩ => ⟨S1x1x1024, .f32⟩
  | .hbm, ⟨21, _⟩ => ⟨S1x16384x1024, .f32⟩
  | .hbm, ⟨22, _⟩ => ⟨S1x16384x1024, .f32⟩
  | .hbm, ⟨23, _⟩ => ⟨S1x16384x1024, .f32⟩
  | .hbm, ⟨24, _⟩ => ⟨S_, .f32⟩
  | .hbm, ⟨25, _⟩ => ⟨S1x16384, .f32⟩
  | .hbm, ⟨26, _⟩ => ⟨S1x16384x1, .f32⟩
  | .hbm, ⟨27, _⟩ => ⟨S_, .f32⟩
  | .hbm, ⟨28, _⟩ => ⟨S1x16384x1, .f32⟩
  | .hbm, ⟨29, _⟩ => ⟨S1x16384x1, .f32⟩
  | .hbm, ⟨30, _⟩ => ⟨S_, .f32⟩
  | .hbm, ⟨31, _⟩ => ⟨S1x16384x1, .f32⟩
  | .hbm, ⟨32, _⟩ => ⟨S1x16384x1, .f32⟩
  | .hbm, ⟨33, _⟩ => ⟨S1x16384x1, .f32⟩
  | .hbm, ⟨34, _⟩ => ⟨S1x16384x1024, .f32⟩
  | .hbm, ⟨35, _⟩ => ⟨S1x16384x1024, .f32⟩
  | .hbm, ⟨36, _⟩ => ⟨S1x1x1024, .f32⟩
  | .hbm, ⟨37, _⟩ => ⟨S1x16384x1024, .f32⟩
  | .hbm, ⟨38, _⟩ => ⟨S1x16384x1024, .f32⟩
  | .hbm, ⟨39, _⟩ => ⟨S1x16384x2048, .f32⟩
  | .hbm, ⟨40, _⟩ => ⟨S1x16384x2048, .f32⟩
  | .hbm, ⟨41, _⟩ => ⟨S1x16384x2048, .f32⟩
  | .hbm, ⟨42, _⟩ => ⟨S16384x2048, .f32⟩
  | .hbm, ⟨43, _⟩ => ⟨S1x16384x2048, .f32⟩
  | .hbm, ⟨44, _⟩ => ⟨S_, .f32⟩
  | .hbm, ⟨45, _⟩ => ⟨S1x16384, .f32⟩
  | .hbm, ⟨46, _⟩ => ⟨S1x16384x1, .f32⟩
  | .hbm, ⟨47, _⟩ => ⟨S_, .f32⟩
  | .hbm, ⟨48, _⟩ => ⟨S1x16384x1, .f32⟩
  | .hbm, ⟨49, _⟩ => ⟨S1x16384x1, .f32⟩
  | .hbm, ⟨50, _⟩ => ⟨S_, .f32⟩
  | .hbm, ⟨51, _⟩ => ⟨S1x16384x1, .f32⟩
  | .hbm, ⟨52, _⟩ => ⟨S1x16384x1, .f32⟩
  | .hbm, ⟨53, _⟩ => ⟨S1x16384x1, .f32⟩
  | .hbm, ⟨54, _⟩ => ⟨S1x16384x2048, .f32⟩
  | .hbm, ⟨55, _⟩ => ⟨S1x16384x2048, .f32⟩
  | .hbm, ⟨56, _⟩ => ⟨S1x1x2048, .f32⟩
  | .hbm, ⟨57, _⟩ => ⟨S1x16384x2048, .f32⟩
  | .hbm, ⟨58, _⟩ => ⟨S1x16384x2048, .f32⟩
  | .hbm, ⟨59, _⟩ => ⟨S16384x2048, .f32⟩
  | .hbm, ⟨60, _⟩ => ⟨S2048x16384, .f32⟩
  | .hbm, ⟨61, _⟩ => ⟨S2048x16384, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Proof.KB.Value.lean ====
module

public import proofs.«01_k».proof.Proof.Gen.Kernel.Skeleton
public import proofs.«01_k».proof.Proof.Gen.Kernel.Loops
public import proofs.«01_k».proof.Proof.Gen.Kernel
public import proofs.«01_k».proof.Proof.KB.Loops
public import proofs.«01_k».proof.Proof.Gen.Kernel.Frame
public import Idealize.ShloMosaic.Lib.Tactic
public import Idealize.ShloMosaic.Lib.VecWindow
public import Idealize.ShloMosaic.Lib.ValueIdx
public import proofs.«01_k».proof.Proof.KB.Body
public import proofs.«01_k».proof.Proof.KB.RowSt
public import proofs.«01_k».proof.Proof.Gen.Kernel.Launch
public import Idealize.ShloMosaic.Lib.Pipeline.Frame

@[expose] public section

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.ValueIdx

/-! ## What the body leaves, at one row and lane -/

section Value

variable (c : Dev nD) (i : grid0.Coords)
  (arg2 : Memref sig .tc .vmem S4096x128 .bf16) (harg2 : arg2.IsWhole)
  (arg3 : Memref sig .tc .vmem S4096x128 .bf16) (harg3 : arg3.IsWhole)
  (arg4 : Memref sig .tc .vmem S1024x128 .bf16) (harg4 : arg4.IsWhole)
  (arg5 : Memref sig .tc .vmem S1024x128 .bf16) (harg5 : arg5.IsWhole)
  (arg6 : Memref sig .tc .vmem S4096x128 .bf16) (harg6 : arg6.IsWhole)
  (arg7 : Memref sig .tc .vmem S1024x128 .bf16) (harg7 : arg7.IsWhole)
  (arg8 : Memref sig .tc .vmem S1024x128 .bf16) (harg8 : arg8.IsWhole)
  (arg9 : Memref sig .tc .vmem S4096x128 .bf16) (harg9 : arg9.IsWhole)
  (arg10 : Memref sig .tc .vmem S4096x128 .f32) (harg10 : arg10.IsWhole)
  (arg11 : Memref sig .tc .vmem S6144x128 .f32) (harg11 : arg11.IsWhole)
  (arg12 : Memref sig .tc .vmem S6144x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S4096x128 .f32) (harg15 : arg15.IsWhole)
    (x2 : Vec F S4096x128 .bf16) (x3 : Vec F S4096x128 .bf16) (x4 : Vec F S1024x128 .bf16) (x5 : Vec F S1024x128 .bf16) (x6 : Vec F S4096x128 .bf16) (x7 : Vec F S1024x128 .bf16) (x8 : Vec F S1024x128 .bf16)

/-- The query scratch, written. -/
def F10 : Buf (Elt F) (arg10.view.loc (c : Thread nD τ)) := arg10.view.writes (Elt F) arg10.view.junk (kernelRun.sl.H10_1 c arg2 harg2 x2)
/-- The key scratch, written. -/
def F11 : Buf (Elt F) (arg11.view.loc (c : Thread nD τ)) := arg11.view.writes (Elt F) arg11.view.junk (kernelRun.sl.H11_3 c arg3 harg3 arg4 harg4 arg5 harg5 x3 x4 x5)
/-- The value scratch, written. -/
def F12 : Buf (Elt F) (arg12.view.loc (c : Thread nD τ)) := arg12.view.writes (Elt F) arg12.view.junk (kernelRun.sl.H12_3 c arg6 harg6 arg7 harg7 arg8 harg8 x6 x7 x8)

/-- The weighted values of a row and lane after the three branches' merges. -/
def accAt (y : S4096x128.Idx) : F .f32 :=
  sA (sA (U1 c arg10 arg11 arg12 (kernelRun.sl.v10 i) k0_pay179 k0_pay180 kernelRun.sl.v66 (128#32) kernelRun.sl.v83 (tOf1 y) (F10 c arg2 harg2 arg10 x2) (F11 c arg3 harg3 arg4 harg4 arg5 harg5 arg11 x3 x4 x5) (F12 c arg6 harg6 arg7 harg7 arg8 harg8 arg12 x6 x7 x8) (bOf1 y) (xOf 1 y)) (M1 c arg10 arg11 (kernelRun.sl.v10 i) k0_pay179 k0_pay180 kernelRun.sl.v66 (128#32) kernelRun.sl.v83 (tOf1 y) (F10 c arg2 harg2 arg10 x2) (F11 c arg3 harg3 arg4 harg4 arg5 harg5 arg11 x3 x4 x5) (bOf1 y) (xOf 1 y)) (U2 c arg10 arg11 arg12 (kernelRun.sl.v10 i) k0_pay179 k0_pay180 kernelRun.sl.v66 (128#32) kernelRun.sl.v83 (tOf2 y) (F10 c arg2 harg2 arg10 x2) (F11 c arg3 harg3 arg4 harg4 arg5 harg5 arg11 x3 x4 x5) (F12 c arg6 harg6 arg7 harg7 arg8 harg8 arg12 x6 x7 x8) (bOf2 y) (xOf 4 y)) (M2 c arg10 arg11 (kernelRun.sl.v10 i) k0_pay179 k0_pay180 kernelRun.sl.v66 (128#32) kernelRun.sl.v83 (tOf2 y) (F10 c arg2 harg2 arg10 x2) (F11 c arg3 harg3 arg4 harg4 arg5 harg5 arg11 x3 x4 x5) (bOf2 y) (xOf 4 y))) (sM (M1 c arg10 arg11 (kernelRun.sl.v10 i) k0_pay179 k0_pay180 kernelRun.sl.v66 (128#32) kernelRun.sl.v83 (tOf1 y) (F10 c arg2 harg2 arg10 x2) (F11 c arg3 harg3 arg4 harg4 arg5 harg5 arg11 x3 x4 x5) (bOf1 y) (xOf 1 y)) (M2 c arg10 arg11 (kernelRun.sl.v10 i) k0_pay179 k0_pay180 kernelRun.sl.v66 (128#32) kernelRun.sl.v83 (tOf2 y) (F10 c arg2 harg2 arg10 x2) (F11 c arg3 harg3 arg4 harg4 arg5 harg5 arg11 x3 x4 x5) (bOf2 y) (xOf 4 y))) (U3 c arg10 arg11 arg12 (kernelRun.sl.v10 i) k0_pay179 k0_pay180 kernelRun.sl.v66 (128#32) kernelRun.sl.v83 (tOf3 y) (F10 c arg2 harg2 arg10 x2) (F11 c arg3 harg3 arg4 harg4 arg5 harg5 arg11 x3 x4 x5) (F12 c arg6 harg6 arg7 harg7 arg8 harg8 arg12 x6 x7 x8) (bOf3 y) (xOf 16 y)) (M3 c arg10 arg11 (kernelRun.sl.v10 i) k0_pay179 k0_pay180 kernelRun.sl.v66 (128#32) kernelRun.sl.v83 (tOf3 y) (F10 c arg2 harg2 arg10 x2) (F11 c arg3 harg3 arg4 harg4 arg5 harg5 arg11 x3 x4 x5) (bOf3 y) (xOf 16 y))
/-- The mass of a row and lane after the three branches' merges. -/
def massAt (y : S4096x128.Idx) : F .f32 :=
  sA (sA (L1 c arg10 arg11 (kernelRun.sl.v10 i) k0_pay179 k0_pay180 kernelRun.sl.v66 (128#32) kernelRun.sl.v83 (tOf1 y) (F10 c arg2 harg2 arg10 x2) (F11 c arg3 harg3 arg4 harg4 arg5 harg5 arg11 x3 x4 x5) (bOf1 y) (xOf 1 y)) (M1 c arg10 arg11 (kernelRun.sl.v10 i) k0_pay179 k0_pay180 kernelRun.sl.v66 (128#32) kernelRun.sl.v83 (tOf1 y) (F10 c arg2 harg2 arg10 x2) (F11 c arg3 harg3 arg4 harg4 arg5 harg5 arg11 x3 x4 x5) (bOf1 y) (xOf 1 y)) (L2 c arg10 arg11 (kernelRun.sl.v10 i) k0_pay179 k0_pay180 kernelRun.sl.v66 (128#32) kernelRun.sl.v83 (tOf2 y) (F10 c arg2 harg2 arg10 x2) (F11 c arg3 harg3 arg4 harg4 arg5 harg5 arg11 x3 x4 x5) (bOf2 y) (xOf 4 y)) (M2 c arg10 arg11 (kernelRun.sl.v10 i) k0_pay179 k0_pay180 kernelRun.sl.v66 (128#32) kernelRun.sl.v83 (tOf2 y) (F10 c arg2 harg2 arg10 x2) (F11 c arg3 harg3 arg4 harg4 arg5 harg5 arg11 x3 x4 x5) (bOf2 y) (xOf 4 y))) (sM (M1 c arg10 arg11 (kernelRun.sl.v10 i) k0_pay179 k0_pay180 kernelRun.sl.v66 (128#32) kernelRun.sl.v83 (tOf1 y) (F10 c arg2 harg2 arg10 x2) (F11 c arg3 harg3 arg4 harg4 arg5 harg5 arg11 x3 x4 x5) (bOf1 y) (xOf 1 y)) (M2 c arg10 arg11 (kernelRun.sl.v10 i) k0_pay179 k0_pay180 kernelRun.sl.v66 (128#32) kernelRun.sl.v83 (tOf2 y) (F10 c arg2 harg2 arg10 x2) (F11 c arg3 harg3 arg4 harg4 arg5 harg5 arg11 x3 x4 x5) (bOf2 y) (xOf 4 y))) (L3 c arg10 arg11 (kernelRun.sl.v10 i) k0_pay179 k0_pay180 kernelRun.sl.v66 (128#32) kernelRun.sl.v83 (tOf3 y) (F10 c arg2 harg2 arg10 x2) (F11 c arg3 harg3 arg4 harg4 arg5 harg5 arg11 x3 x4 x5) (bOf3 y) (xOf 16 y)) (M3 c arg10 arg11 (kernelRun.sl.v10 i) k0_pay179 k0_pay180 kernelRun.sl.v66 (128#32) kernelRun.sl.v83 (tOf3 y) (F10 c arg2 harg2 arg10 x2) (F11 c arg3 harg3 arg4 harg4 arg5 harg5 arg11 x3 x4 x5) (bOf3 y) (xOf 16 y))

variable (g13 : Buf (Elt F) (arg13.view.loc (c : Thread nD τ))) (g14 : Buf (Elt F) (arg14.view.loc (c : Thread nD τ))) (g15 : Buf (Elt F) (arg15.view.loc (c : Thread nD τ)))

/-- The running buffers after the first loop. -/
def run1 := st1 c i arg2 harg2 arg3 harg3 arg4 harg4 arg5 harg5 arg6 harg6 arg7 harg7 arg8 harg8 arg9 harg9 arg10 harg10 arg11 harg11 arg12 harg12 arg13 harg13 arg14 harg14 arg15 harg15 (kernelRun.sl.v10 i) k0_pay179 k0_pay180 kernelRun.sl.v66 (128#32) kernelRun.sl.v83 (F10 c arg2 harg2 arg10 x2) (F11 c arg3 harg3 arg4 harg4 arg5 harg5 arg11 x3 x4 x5) (F12 c arg6 harg6 arg7 harg7 arg8 harg8 arg12 x6 x7 x8) g13 g14 g15 8
/-- The running buffers after the second loop. -/
def run2 := st2 c i arg2 harg2 arg3 harg3 arg4 harg4 arg5 harg5 arg6 harg6 arg7 harg7 arg8 harg8 arg9 harg9 arg10 harg10 arg11 harg11 arg12 harg12 arg13 harg13 arg14 harg14 arg15 harg15 (kernelRun.sl.v10 i) k0_pay179 k0_pay180 kernelRun.sl.v66 (128#32) kernelRun.sl.v83 (F10 c arg2 harg2 arg10 x2) (F11 c arg3 harg3 arg4 harg4 arg5 harg5 arg11 x3 x4 x5) (F12 c arg6 harg6 arg7 harg7 arg8 harg8 arg12 x6 x7 x8) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 8
/-- The running buffers after the third loop. -/
def run3 := st3 c i arg2 harg2 arg3 harg3 arg4 harg4 arg5 harg5 arg6 harg6 arg7 harg7 arg8 harg8 arg9 harg9 arg10 harg10 arg11 harg11 arg12 harg12 arg13 harg13 arg14 harg14 arg15 harg15 (kernelRun.sl.v10 i) k0_pay179 k0_pay180 kernelRun.sl.v66 (128#32) kernelRun.sl.v83 (F10 c arg2 harg2 arg10 x2) (F11 c arg3 harg3 arg4 harg4 arg5 harg5 arg11 x3 x4 x5) (F12 c arg6 harg6 arg7 harg7 arg8 harg8 arg12 x6 x7 x8) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 8

theorem run1_at (y : S4096x128.Idx) :
    arg13.view.read (Elt F) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 y = (U1 c arg10 arg11 arg12 (kernelRun.sl.v10 i) k0_pay179 k0_pay180 kernelRun.sl.v66 (128#32) kernelRun.sl.v83 (tOf1 y) (F10 c arg2 harg2 arg10 x2) (F11 c arg3 harg3 arg4 harg4 arg5 harg5 arg11 x3 x4 x5) (F12 c arg6 harg6 arg7 harg7 arg8 harg8 arg12 x6 x7 x8) (bOf1 y) (xOf 1 y)) ∧ arg14.view.read (Elt F) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 y = (M1 c arg10 arg11 (kernelRun.sl.v10 i) k0_pay179 k0_pay180 kernelRun.sl.v66 (128#32) kernelRun.sl.v83 (tOf1 y) (F10 c arg2 harg2 arg10 x2) (F11 c arg3 harg3 arg4 harg4 arg5 harg5 arg11 x3 x4 x5) (bOf1 y) (xOf 1 y)) ∧ arg15.view.read (Elt F) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 y = (L1 c arg10 arg11 (kernelRun.sl.v10 i) k0_pay179 k0_pay180 kernelRun.sl.v66 (128#32) kernelRun.sl.v83 (tOf1 y) (F10 c arg2 harg2 arg10 x2) (F11 c arg3 harg3 arg4 harg4 arg5 harg5 arg11 x3 x4 x5) (bOf1 y) (xOf 1 y)) := by
  have h1 : blkOf 1 (y 0).val < 4 * 8 := blk1_lt (y 0).val (y0_lt y)
  obtain ⟨a13, a14, a15⟩ := st1_row c i arg2 harg2 arg3 harg3 arg4 harg4 arg5 harg5 arg6 harg6 arg7 harg7 arg8 harg8 arg9 harg9 arg10 harg10 arg11 harg11 arg12 harg12 arg13 harg13 arg14 harg14 arg15 harg15 (kernelRun.sl.v10 i) k0_pay179 k0_pay180 kernelRun.sl.v66 (128#32) kernelRun.sl.v83 (F10 c arg2 harg2 arg10 x2) (F11 c arg3 harg3 arg4 harg4 arg5 harg5 arg11 x3 x4 x5) (F12 c arg6 harg6 arg7 harg7 arg8 harg8 arg12 x6 x7 x8) g13 g14 g15 y 8 le_rfl
  unfold run1
  exact ⟨a13.trans (if_pos h1), a14.trans (if_pos h1), a15.trans (if_pos h1)⟩

theorem run2_at (y : S4096x128.Idx) :
    arg13.view.read (Elt F) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 y = sA (arg13.view.read (Elt F) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 y) (arg14.view.read (Elt F) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 y) (U2 c arg10 arg11 arg12 (kernelRun.sl.v10 i) k0_pay179 k0_pay180 kernelRun.sl.v66 (128#32) kernelRun.sl.v83 (tOf2 y) (F10 c arg2 harg2 arg10 x2) (F11 c arg3 harg3 arg4 harg4 arg5 harg5 arg11 x3 x4 x5) (F12 c arg6 harg6 arg7 harg7 arg8 harg8 arg12 x6 x7 x8) (bOf2 y) (xOf 4 y)) (M2 c arg10 arg11 (kernelRun.sl.v10 i) k0_pay179 k0_pay180 kernelRun.sl.v66 (128#32) kernelRun.sl.v83 (tOf2 y) (F10 c arg2 harg2 arg10 x2) (F11 c arg3 harg3 arg4 harg4 arg5 harg5 arg11 x3 x4 x5) (bOf2 y) (xOf 4 y)) ∧ arg14.view.read (Elt F) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 y = sM (arg14.view.read (Elt F) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 y) (M2 c arg10 arg11 (kernelRun.sl.v10 i) k0_pay179 k0_pay180 kernelRun.sl.v66 (128#32) kernelRun.sl.v83 (tOf2 y) (F10 c arg2 harg2 arg10 x2) (F11 c arg3 harg3 arg4 harg4 arg5 harg5 arg11 x3 x4 x5) (bOf2 y) (xOf 4 y)) ∧
    arg15.view.read (Elt F) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 y = sA (arg15.view.read (Elt F) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 y) (arg14.view.read (Elt F) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 y) (L2 c arg10 arg11 (kernelRun.sl.v10 i) k0_pay179 k0_pay180 kernelRun.sl.v66 (128#32) kernelRun.sl.v83 (tOf2 y) (F10 c arg2 harg2 arg10 x2) (F11 c arg3 harg3 arg4 harg4 arg5 harg5 arg11 x3 x4 x5) (bOf2 y) (xOf 4 y)) (M2 c arg10 arg11 (kernelRun.sl.v10 i) k0_pay179 k0_pay180 kernelRun.sl.v66 (128#32) kernelRun.sl.v83 (tOf2 y) (F10 c arg2 harg2 arg10 x2) (F11 c arg3 harg3 arg4 harg4 arg5 harg5 arg11 x3 x4 x5) (bOf2 y) (xOf 4 y)) := by
  have h2 : blkOf 4 (y 0).val < 4 * 8 := blk2_lt (y 0).val (y0_lt y)
  obtain ⟨a13, a14, a15⟩ := st2_row c i arg2 harg2 arg3 harg3 arg4 harg4 arg5 harg5 arg6 harg6 arg7 harg7 arg8 harg8 arg9 harg9 arg10 harg10 arg11 harg11 arg12 harg12 arg13 harg13 arg14 harg14 arg15 harg15 (kernelRun.sl.v10 i) k0_pay179 k0_pay180 kernelRun.sl.v66 (128#32) kernelRun.sl.v83 (F10 c arg2 harg2 arg10 x2) (F11 c arg3 harg3 arg4 harg4 arg5 harg5 arg11 x3 x4 x5) (F12 c arg6 harg6 arg7 harg7 arg8 harg8 arg12 x6 x7 x8) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 y 8 le_rfl
  unfold run2
  exact ⟨a13.trans (if_pos h2), a14.trans (if_pos h2), a15.trans (if_pos h2)⟩

theorem run3_at' (y : S4096x128.Idx) :
    arg13.view.read (Elt F) (run3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 y = sA (arg13.view.read (Elt F) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 y) (arg14.view.read (Elt F) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 y) (U3 c arg10 arg11 arg12 (kernelRun.sl.v10 i) k0_pay179 k0_pay180 kernelRun.sl.v66 (128#32) kernelRun.sl.v83 (tOf3 y) (F10 c arg2 harg2 arg10 x2) (F11 c arg3 harg3 arg4 harg4 arg5 harg5 arg11 x3 x4 x5) (F12 c arg6 harg6 arg7 harg7 arg8 harg8 arg12 x6 x7 x8) (bOf3 y) (xOf 16 y)) (M3 c arg10 arg11 (kernelRun.sl.v10 i) k0_pay179 k0_pay180 kernelRun.sl.v66 (128#32) kernelRun.sl.v83 (tOf3 y) (F10 c arg2 harg2 arg10 x2) (F11 c arg3 harg3 arg4 harg4 arg5 harg5 arg11 x3 x4 x5) (bOf3 y) (xOf 16 y)) ∧
    arg15.view.read (Elt F) (run3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 y = sA (arg15.view.read (Elt F) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 y) (arg14.view.read (Elt F) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 y) (L3 c arg10 arg11 (kernelRun.sl.v10 i) k0_pay179 k0_pay180 kernelRun.sl.v66 (128#32) kernelRun.sl.v83 (tOf3 y) (F10 c arg2 harg2 arg10 x2) (F11 c arg3 harg3 arg4 harg4 arg5 harg5 arg11 x3 x4 x5) (bOf3 y) (xOf 16 y)) (M3 c arg10 arg11 (kernelRun.sl.v10 i) k0_pay179 k0_pay180 kernelRun.sl.v66 (128#32) kernelRun.sl.v83 (tOf3 y) (F10 c arg2 harg2 arg10 x2) (F11 c arg3 harg3 arg4 harg4 arg5 harg5 arg11 x3 x4 x5) (bOf3 y) (xOf 16 y)) := by
  have h3 : blkOf 16 (y 0).val < 4 * 8 := blk3_lt (y 0).val (y0_lt y)
  obtain ⟨a13, a14, a15⟩ := st3_row c i arg2 harg2 arg3 harg3 arg4 harg4 arg5 harg5 arg6 harg6 arg7 harg7 arg8 harg8 arg9 harg9 arg10 harg10 arg11 harg11 arg12 harg12 arg13 harg13 arg14 harg14 arg15 harg15 (kernelRun.sl.v10 i) k0_pay179 k0_pay180 kernelRun.sl.v66 (128#32) kernelRun.sl.v83 (F10 c arg2 harg2 arg10 x2) (F11 c arg3 harg3 arg4 harg4 arg5 harg5 arg11 x3 x4 x5) (F12 c arg6 harg6 arg7 harg7 arg8 harg8 arg12 x6 x7 x8) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 y 8 le_rfl
  unfold run3
  exact ⟨a13.trans (if_pos h3), a15.trans (if_pos h3)⟩

theorem v87_run : kernelRun.sl.v87 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 = View.readAt (Elt F) arg13.view (Rect.unit ![0, 0] S4096x128.size inb_S4096x128_S4096x128_0_0).toLoadRect (run3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 := rfl
theorem v88_run : kernelRun.sl.v88 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 = View.readAt (Elt F) arg15.view (Rect.unit ![0, 0] S4096x128.size inb_S4096x128_S4096x128_0_0).toLoadRect (run3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 := rfl

attribute [local irreducible] run1 run2 run3

theorem run3_at (y : S4096x128.Idx) :
    arg13.view.read (Elt F) (run3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 y = accAt c i arg2 harg2 arg3 harg3 arg4 harg4 arg5 harg5 arg6 harg6 arg7 harg7 arg8 harg8 arg10 arg11 arg12 x2 x3 x4 x5 x6 x7 x8 y ∧ arg15.view.read (Elt F) (run3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 y = massAt c i arg2 harg2 arg3 harg3 arg4 harg4 arg5 harg5 arg10 arg11 x2 x3 x4 x5 y := by
  obtain ⟨a13, a14, a15⟩ := run1_at c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 y
  obtain ⟨b13, b14, b15⟩ := run2_at c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 y
  obtain ⟨c13, c15⟩ := run3_at' c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 y
  rw [a13, a14] at b13
  rw [a14] at b14
  rw [a15, a14] at b15
  rw [b13, b14] at c13
  rw [b15, b14] at c15
  exact ⟨c13, c15⟩

/-- The block's result: the weighted values over the mass, entry by entry, rounded to the output's type. -/
def outVal : Vec F S4096x128 .bf16 := k0_pay8 (fun y => accAt c i arg2 harg2 arg3 harg3 arg4 harg4 arg5 harg5 arg6 harg6 arg7 harg7 arg8 harg8 arg10 arg11 arg12 x2 x3 x4 x5 x6 x7 x8 y) (fun y => massAt c i arg2 harg2 arg3 harg3 arg4 harg4 arg5 harg5 arg10 arg11 x2 x3 x4 x5 y)

theorem v87_eq : kernelRun.sl.v87 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 = fun y => accAt c i arg2 harg2 arg3 harg3 arg4 harg4 arg5 harg5 arg6 harg6 arg7 harg7 arg8 harg8 arg10 arg11 arg12 x2 x3 x4 x5 x6 x7 x8 y :=
  (v87_run c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).trans ((View.readAt_full arg13.view _ _).trans (funext fun y => (run3_at c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 y).1))
theorem v88_eq : kernelRun.sl.v88 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 = fun y => massAt c i arg2 harg2 arg3 harg3 arg4 harg4 arg5 harg5 arg10 arg11 x2 x3 x4 x5 y :=
  (v88_run c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).trans ((View.readAt_full arg15.view _ _).trans (funext fun y => (run3_at c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 y).2))

/-- What the run leaves in the output's buffer does not depend on what the scratch held. -/
theorem kernelRun_val (g10 g11 g12) : (kernelRun c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8).1 g10 g11 g12 g13 g14 g15 = outVal c i arg2 harg2 arg3 harg3 arg4 harg4 arg5 harg5 arg6 harg6 arg7 harg7 arg8 harg8 arg10 arg11 arg12 x2 x3 x4 x5 x6 x7 x8 := by
  unfold kernelRun
  dsimp only
  unfold kernelRun.sl.H9_1
  rw [v87_eq, v88_eq]
  funext y
  refine (View.read_writes_cons_hit arg9.view _ (Rect.unit ![0, 0] S4096x128.size inb_S4096x128_S4096x128_0_0) _ _ y y (funext fun a => Fin.ext (by fin_cases a <;> exact (Nat.zero_add _).trans (Nat.one_mul _)))).trans ?_
  rfl

end Value

end Cert.Proof.KB

end
-- ==== Proof.KI.Offs.lean ====
module

public import proofs.«01_k».proof.Proof.Gen.KernelIdeal.Skeleton
public import proofs.«01_k».proof.Proof.Gen.KernelIdeal.Loops
public import proofs.«01_k».proof.Proof.Gen.KernelIdeal
public import Idealize.ShloMosaic.Lib.Tactic

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Where a block's rows lie

Block `n = 4 t + b` of a branch of dilation `d` (the loop's trip `t`, unrolled copy `b`) has residue
`n / (32 / d)` and starts at the row `128 (n % (32 / d))` of it. -/

theorem off1_0 : ∀ t : Fin k0_t1_loop.trips, k0_off1 t 0#32 = ![128*(4*t.val), 0] := by decide +kernel
instance (t : Fin k0_t1_loop.trips) : ClosedOff (k0_off1 t 0#32) := ⟨_, off1_0 t⟩
theorem off1_1 : ∀ t : Fin k0_t1_loop.trips, k0_off1 t 1#32 = ![128*(4*t.val+1), 0] := by decide +kernel
instance (t : Fin k0_t1_loop.trips) : ClosedOff (k0_off1 t 1#32) := ⟨_, off1_1 t⟩
theorem off1_2 : ∀ t : Fin k0_t1_loop.trips, k0_off1 t 2#32 = ![128*(4*t.val+2), 0] := by decide +kernel
instance (t : Fin k0_t1_loop.trips) : ClosedOff (k0_off1 t 2#32) := ⟨_, off1_2 t⟩
theorem off1_3 : ∀ t : Fin k0_t1_loop.trips, k0_off1 t 3#32 = ![128*(4*t.val+3), 0] := by decide +kernel
instance (t : Fin k0_t1_loop.trips) : ClosedOff (k0_off1 t 3#32) := ⟨_, off1_3 t⟩
theorem off2_0 : ∀ t : Fin k0_t1_loop.trips, k0_off2 t 0#32 = ![960+128*(4*t.val), 0] := by decide +kernel
instance (t : Fin k0_t1_loop.trips) : ClosedOff (k0_off2 t 0#32) := ⟨_, off2_0 t⟩
theorem off2_1 : ∀ t : Fin k0_t1_loop.trips, k0_off2 t 1#32 = ![960+128*(4*t.val+1), 0] := by decide +kernel
instance (t : Fin k0_t1_loop.trips) : ClosedOff (k0_off2 t 1#32) := ⟨_, off2_1 t⟩
theorem off2_2 : ∀ t : Fin k0_t1_loop.trips, k0_off2 t 2#32 = ![960+128*(4*t.val+2), 0] := by decide +kernel
instance (t : Fin k0_t1_loop.trips) : ClosedOff (k0_off2 t 2#32) := ⟨_, off2_2 t⟩
theorem off2_3 : ∀ t : Fin k0_t1_loop.trips, k0_off2 t 3#32 = ![960+128*(4*t.val+3), 0] := by decide +kernel
instance (t : Fin k0_t1_loop.trips) : ClosedOff (k0_off2 t 3#32) := ⟨_, off2_3 t⟩
theorem off3_0 : ∀ t : Fin k0_t2_loop.trips, k0_off3 t 0#32 = ![t.val/2+512*(4*(t.val%2)), 0] := by decide +kernel
instance (t : Fin k0_t2_loop.trips) : ClosedOff (k0_off3 t 0#32) := ⟨_, off3_0 t⟩
theorem off3_1 : ∀ t : Fin k0_t2_loop.trips, k0_off3 t 1#32 = ![t.val/2+512*(4*(t.val%2)+1), 0] := by decide +kernel
instance (t : Fin k0_t2_loop.trips) : ClosedOff (k0_off3 t 1#32) := ⟨_, off3_1 t⟩
theorem off3_2 : ∀ t : Fin k0_t2_loop.trips, k0_off3 t 2#32 = ![t.val/2+512*(4*(t.val%2)+2), 0] := by decide +kernel
instance (t : Fin k0_t2_loop.trips) : ClosedOff (k0_off3 t 2#32) := ⟨_, off3_2 t⟩
theorem off3_3 : ∀ t : Fin k0_t2_loop.trips, k0_off3 t 3#32 = ![t.val/2+512*(4*(t.val%2)+3), 0] := by decide +kernel
instance (t : Fin k0_t2_loop.trips) : ClosedOff (k0_off3 t 3#32) := ⟨_, off3_3 t⟩
theorem off4_0 : ∀ t : Fin k0_t2_loop.trips, k0_off4 t 0#32 = ![768+(t.val/2+512*(4*(t.val%2))), 0] := by decide +kernel
instance (t : Fin k0_t2_loop.trips) : ClosedOff (k0_off4 t 0#32) := ⟨_, off4_0 t⟩
theorem off4_1 : ∀ t : Fin k0_t2_loop.trips, k0_off4 t 1#32 = ![768+(t.val/2+512*(4*(t.val%2)+1)), 0] := by decide +kernel
instance (t : Fin k0_t2_loop.trips) : ClosedOff (k0_off4 t 1#32) := ⟨_, off4_1 t⟩
theorem off4_2 : ∀ t : Fin k0_t2_loop.trips, k0_off4 t 2#32 = ![768+(t.val/2+512*(4*(t.val%2)+2)), 0] := by decide +kernel
instance (t : Fin k0_t2_loop.trips) : ClosedOff (k0_off4 t 2#32) := ⟨_, off4_2 t⟩
theorem off4_3 : ∀ t : Fin k0_t2_loop.trips, k0_off4 t 3#32 = ![768+(t.val/2+512*(4*(t.val%2)+3)), 0] := by decide +kernel
instance (t : Fin k0_t2_loop.trips) : ClosedOff (k0_off4 t 3#32) := ⟨_, off4_3 t⟩
theorem off5_0 : ∀ t : Fin k0_t3_loop.trips, k0_off5 t 0#32 = ![2*t.val+0, 0] := by decide +kernel
instance (t : Fin k0_t3_loop.trips) : ClosedOff (k0_off5 t 0#32) := ⟨_, off5_0 t⟩
theorem off5_1 : ∀ t : Fin k0_t3_loop.trips, k0_off5 t 1#32 = ![2*t.val+2048, 0] := by decide +kernel
instance (t : Fin k0_t3_loop.trips) : ClosedOff (k0_off5 t 1#32) := ⟨_, off5_1 t⟩
theorem off5_2 : ∀ t : Fin k0_t3_loop.trips, k0_off5 t 2#32 = ![2*t.val+1, 0] := by decide +kernel
instance (t : Fin k0_t3_loop.trips) : ClosedOff (k0_off5 t 2#32) := ⟨_, off5_2 t⟩
theorem off5_3 : ∀ t : Fin k0_t3_loop.trips, k0_off5 t 3#32 = ![2*t.val+2049, 0] := by decide +kernel
instance (t : Fin k0_t3_loop.trips) : ClosedOff (k0_off5 t 3#32) := ⟨_, off5_3 t⟩
theorem off6_0 : ∀ t : Fin k0_t3_loop.trips, k0_off6 t 0#32 = ![2*t.val+0, 0] := by decide +kernel
instance (t : Fin k0_t3_loop.trips) : ClosedOff (k0_off6 t 0#32) := ⟨_, off6_0 t⟩
theorem off6_1 : ∀ t : Fin k0_t3_loop.trips, k0_off6 t 1#32 = ![2*t.val+2048, 0] := by decide +kernel
instance (t : Fin k0_t3_loop.trips) : ClosedOff (k0_off6 t 1#32) := ⟨_, off6_1 t⟩
theorem off6_2 : ∀ t : Fin k0_t3_loop.trips, k0_off6 t 2#32 = ![2*t.val+1, 0] := by decide +kernel
instance (t : Fin k0_t3_loop.trips) : ClosedOff (k0_off6 t 2#32) := ⟨_, off6_2 t⟩
theorem off6_3 : ∀ t : Fin k0_t3_loop.trips, k0_off6 t 3#32 = ![2*t.val+2049, 0] := by decide +kernel
instance (t : Fin k0_t3_loop.trips) : ClosedOff (k0_off6 t 3#32) := ⟨_, off6_3 t⟩

end Cert.Proof.KI
-- ==== Proof.KI.Trips.lean ====
module

public import proofs.«01_k».proof.Proof.Gen.KernelIdeal.Skeleton
public import proofs.«01_k».proof.Proof.Gen.KernelIdeal.Loops
public import proofs.«01_k».proof.Proof.Gen.KernelIdeal
public import proofs.«01_k».proof.Proof.KI.Offs
public import Idealize.ShloMosaic.Lib.Tactic

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev UU (nD : Nat) (τ : Topo) : Type := UR sig nD τ
abbrev 𝒱₀ : Variants := Variants.none

variable (c : Dev nD) (i : grid0.Coords)
  (arg2 : Memref sig .tc .vmem S4096x128 .bf16) (harg2 : arg2.IsWhole)
  (arg3 : Memref sig .tc .vmem S4096x128 .bf16) (harg3 : arg3.IsWhole)
  (arg4 : Memref sig .tc .vmem S1024x128 .bf16) (harg4 : arg4.IsWhole)
  (arg5 : Memref sig .tc .vmem S1024x128 .bf16) (harg5 : arg5.IsWhole)
  (arg6 : Memref sig .tc .vmem S4096x128 .bf16) (harg6 : arg6.IsWhole)
  (arg7 : Memref sig .tc .vmem S1024x128 .bf16) (harg7 : arg7.IsWhole)
  (arg8 : Memref sig .tc .vmem S1024x128 .bf16) (harg8 : arg8.IsWhole)
  (arg9 : Memref sig .tc .vmem S4096x128 .bf16) (harg9 : arg9.IsWhole)
  (arg10 : Memref sig .tc .vmem S4096x128 .f32) (harg10 : arg10.IsWhole)
  (arg11 : Memref sig .tc .vmem S6144x128 .f32) (harg11 : arg11.IsWhole)
  (arg12 : Memref sig .tc .vmem S6144x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S4096x128 .f32) (harg15 : arg15.IsWhole)
  (v10 : BitVec 32) (v55 : IVec S1x128 1) (v65 : FVec F S256x128 .f32) (v66 : IVec S256x256 32) (v68 : BitVec 32) (v83 : IVec S256x256 32)

/-- The six buffers a trip touches: the staged queries, keys and values, and the running sum, maximum and mass. -/
abbrev Trip (f10 : Buf (Elt F) (arg10.view.loc (c : Thread nD τ))) (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ))) (f15 : Buf (Elt F) (arg15.view.loc (c : Thread nD τ))) : sProp 𝕄 :=
  iprop((arg10.view.loc (c : Thread nD τ) ↦[arg10.view.set]{fullShare} f10)
    ∗ (arg11.view.loc (c : Thread nD τ) ↦[arg11.view.set]{fullShare} f11)
    ∗ (arg12.view.loc (c : Thread nD τ) ↦[arg12.view.set]{fullShare} f12)
    ∗ (arg13.view.loc (c : Thread nD τ) ↦[arg13.view.set]{fullShare} f13)
    ∗ (arg14.view.loc (c : Thread nD τ) ↦[arg14.view.set]{fullShare} f14)
    ∗ (arg15.view.loc (c : Thread nD τ) ↦[arg15.view.set]{fullShare} f15))

set_option maxHeartbeats 8000000 in
/-- One trip of loop 1: the pieces it writes, found by the run. -/
@[irreducible] def trip1 (t : Fin k0_t1_loop.trips) (f10 : Buf (Elt F) (arg10.view.loc (c : Thread nD τ))) (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ))) (f15 : Buf (Elt F) (arg15.view.loc (c : Thread nD τ))) :
    Σ' (L13 : List (View.Piece (Elt F) S4096x128 .f32)) (L14 : List (View.Piece (Elt F) S4096x128 .f32)),
      { L15 : List (View.Piece (Elt F) S4096x128 .f32) //
        Trip c arg10 arg11 arg12 arg13 arg14 arg15 f10 f11 f12 f13 f14 f15
          ⊢ wp frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t ())
            (fun _ => Trip c arg10 arg11 arg12 arg13 arg14 arg15 f10 f11 f12 (arg13.view.writes (Elt F) f13 L13) (arg14.view.writes (Elt F) f14 L14) (arg15.view.writes (Elt F) f15 L15)) } := by
  refine ⟨?_, ?_, ?_, ?run⟩
  case run =>
    unfold Trip
    iintro ⟨H10, H11, H12, H13, H14, H15⟩
    sl_unfold [k0_t1_body]
    sl_exec_parts
    sl_step
    sl_close

set_option maxHeartbeats 8000000 in
/-- One trip of loop 2: the pieces it writes, found by the run. -/
@[irreducible] def trip2 (t : Fin k0_t2_loop.trips) (f10 : Buf (Elt F) (arg10.view.loc (c : Thread nD τ))) (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ))) (f15 : Buf (Elt F) (arg15.view.loc (c : Thread nD τ))) :
    Σ' (L13 : List (View.Piece (Elt F) S4096x128 .f32)) (L14 : List (View.Piece (Elt F) S4096x128 .f32)),
      { L15 : List (View.Piece (Elt F) S4096x128 .f32) //
        Trip c arg10 arg11 arg12 arg13 arg14 arg15 f10 f11 f12 f13 f14 f15
          ⊢ wp frame (wpE (defs₀ (F := F)) 𝒱₀ (c : Thread nD τ) none) Set.univ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t ())
            (fun _ => Trip c arg10 arg11 arg12 arg13 arg14 arg15 f10 f11 f12 (arg13.view.writes (Elt F) f13 L13) (arg14.view.writes (Elt F) f14 L14) (arg15.view.writes (Elt F) f15 L15)) } := by
  refine ⟨?_, ?_, ?_, ?run⟩
  case run =>
    unfold Trip
    iintro ⟨H10, H11, H12, H13, H14, H15⟩
    sl_unfold [k0_t2_body]
    sl_exec_parts
    sl_step
    sl_close

set_option maxHeartbeats 8000000 in
/-- One trip of loop 3: the pieces it writes, found by the run. -/
@[irreducible] def trip3 (t : Fin k0_t3_loop.trips) (f10 : Buf (Elt F) (arg10.view.loc (c : Thread nD τ))) (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ))) (f15 : Buf (Elt F) (arg15.view.loc (c : Thread nD τ))) :
    Σ' (L13 : List (View.Piece (Elt F) S4096x128 .f32)) (L14 : List (View.Piece (Elt F) S4096x128 .f32)),
      { L15 : List (View.Piece (Elt F) S4096x128 .f32) //
        Trip c arg10 arg11 arg12 arg13 arg14 arg15 f10 f11 f12 f13 f14 f15
          ⊢ wp frame (wpE (defs₀ (F := F)) 𝒱₀ (c : Thread nD τ) none) Set.univ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t ())
            (fun _ => Trip c arg10 arg11 arg12 arg13 arg14 arg15 f10 f11 f12 (arg13.view.writes (Elt F) f13 L13) (arg14.view.writes (Elt F) f14 L14) (arg15.view.writes (Elt F) f15 L15)) } := by
  refine ⟨?_, ?_, ?_, ?run⟩
  case run =>
    unfold Trip
    iintro ⟨H10, H11, H12, H13, H14, H15⟩
    sl_unfold [k0_t3_body]
    sl_exec_parts
    sl_step
    sl_close

end Cert.Proof.KI
-- ==== Proof.KI.Loops.lean ====
module

public import proofs.«01_k».proof.Proof.Gen.KernelIdeal.Skeleton
public import proofs.«01_k».proof.Proof.Gen.KernelIdeal.Loops
public import proofs.«01_k».proof.Proof.Gen.KernelIdeal
public import proofs.«01_k».proof.Proof.KI.Trips
public import Idealize.ShloMosaic.Lib.Tactic

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S4096x128 .bf16) (harg2 : arg2.IsWhole)
  (arg3 : Memref sig .tc .vmem S4096x128 .bf16) (harg3 : arg3.IsWhole)
  (arg4 : Memref sig .tc .vmem S1024x128 .bf16) (harg4 : arg4.IsWhole)
  (arg5 : Memref sig .tc .vmem S1024x128 .bf16) (harg5 : arg5.IsWhole)
  (arg6 : Memref sig .tc .vmem S4096x128 .bf16) (harg6 : arg6.IsWhole)
  (arg7 : Memref sig .tc .vmem S1024x128 .bf16) (harg7 : arg7.IsWhole)
  (arg8 : Memref sig .tc .vmem S1024x128 .bf16) (harg8 : arg8.IsWhole)
  (arg9 : Memref sig .tc .vmem S4096x128 .bf16) (harg9 : arg9.IsWhole)
  (arg10 : Memref sig .tc .vmem S4096x128 .f32) (harg10 : arg10.IsWhole)
  (arg11 : Memref sig .tc .vmem S6144x128 .f32) (harg11 : arg11.IsWhole)
  (arg12 : Memref sig .tc .vmem S6144x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S4096x128 .f32) (harg15 : arg15.IsWhole)
  (v10 : BitVec 32) (v55 : IVec S1x128 1) (v65 : FVec F S256x128 .f32) (v66 : IVec S256x256 32) (v68 : BitVec 32) (v83 : IVec S256x256 32)
  (f10 : Buf (Elt F) (arg10.view.loc (c : Thread nD τ))) (f11 : Buf (Elt F) (arg11.view.loc (c : Thread nD τ))) (f12 : Buf (Elt F) (arg12.view.loc (c : Thread nD τ)))
  (g13 : Buf (Elt F) (arg13.view.loc (c : Thread nD τ))) (g14 : Buf (Elt F) (arg14.view.loc (c : Thread nD τ))) (g15 : Buf (Elt F) (arg15.view.loc (c : Thread nD τ)))

/-- The running sum, maximum and mass after `k` trips of loop 1, from their contents at its entry. -/
def st1 : ℕ → Buf (Elt F) (arg13.view.loc (c : Thread nD τ)) × Buf (Elt F) (arg14.view.loc (c : Thread nD τ)) × Buf (Elt F) (arg15.view.loc (c : Thread nD τ))
  | 0 => (g13, g14, g15)
  | k + 1 =>
    if h : k < k0_t1_loop.trips then
      (arg13.view.writes (Elt F) (st1 k).1 (trip1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 ⟨k, h⟩ f10 f11 f12 (st1 k).1 (st1 k).2.1 (st1 k).2.2).1,
       arg14.view.writes (Elt F) (st1 k).2.1 (trip1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 ⟨k, h⟩ f10 f11 f12 (st1 k).1 (st1 k).2.1 (st1 k).2.2).2.1,
       arg15.view.writes (Elt F) (st1 k).2.2 (trip1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 ⟨k, h⟩ f10 f11 f12 (st1 k).1 (st1 k).2.1 (st1 k).2.2).2.2.1)
    else st1 k

set_option warn.classDefReducibility false in
/-- Loop 1's invariant: the staged queries, keys and values as found, the running buffers after `k` trips. -/
@[sl_loop] def loopInv1 :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 where
  inv k _ := Trip c arg10 arg11 arg12 arg13 arg14 arg15 f10 f11 f12
    (st1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).1
    (st1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).2.1
    (st1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).2.2
  step k _ := by
    rw [st1, dif_pos k.isLt]
    exact (trip1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 k f10 f11 f12 _ _ _).2.2.2

/-- The running sum, maximum and mass after `k` trips of loop 2, from their contents at its entry. -/
def st2 : ℕ → Buf (Elt F) (arg13.view.loc (c : Thread nD τ)) × Buf (Elt F) (arg14.view.loc (c : Thread nD τ)) × Buf (Elt F) (arg15.view.loc (c : Thread nD τ))
  | 0 => (g13, g14, g15)
  | k + 1 =>
    if h : k < k0_t2_loop.trips then
      (arg13.view.writes (Elt F) (st2 k).1 (trip2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 ⟨k, h⟩ f10 f11 f12 (st2 k).1 (st2 k).2.1 (st2 k).2.2).1,
       arg14.view.writes (Elt F) (st2 k).2.1 (trip2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 ⟨k, h⟩ f10 f11 f12 (st2 k).1 (st2 k).2.1 (st2 k).2.2).2.1,
       arg15.view.writes (Elt F) (st2 k).2.2 (trip2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 ⟨k, h⟩ f10 f11 f12 (st2 k).1 (st2 k).2.1 (st2 k).2.2).2.2.1)
    else st2 k

set_option warn.classDefReducibility false in
/-- Loop 2's invariant: the staged queries, keys and values as found, the running buffers after `k` trips. -/
@[sl_loop] def loopInv2 :
    LoopInvTy_k0_t2 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 where
  inv k _ := Trip c arg10 arg11 arg12 arg13 arg14 arg15 f10 f11 f12
    (st2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).1
    (st2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).2.1
    (st2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).2.2
  step k _ := by
    rw [st2, dif_pos k.isLt]
    exact (trip2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 k f10 f11 f12 _ _ _).2.2.2

/-- The running sum, maximum and mass after `k` trips of loop 3, from their contents at its entry. -/
def st3 : ℕ → Buf (Elt F) (arg13.view.loc (c : Thread nD τ)) × Buf (Elt F) (arg14.view.loc (c : Thread nD τ)) × Buf (Elt F) (arg15.view.loc (c : Thread nD τ))
  | 0 => (g13, g14, g15)
  | k + 1 =>
    if h : k < k0_t3_loop.trips then
      (arg13.view.writes (Elt F) (st3 k).1 (trip3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 ⟨k, h⟩ f10 f11 f12 (st3 k).1 (st3 k).2.1 (st3 k).2.2).1,
       arg14.view.writes (Elt F) (st3 k).2.1 (trip3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 ⟨k, h⟩ f10 f11 f12 (st3 k).1 (st3 k).2.1 (st3 k).2.2).2.1,
       arg15.view.writes (Elt F) (st3 k).2.2 (trip3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 ⟨k, h⟩ f10 f11 f12 (st3 k).1 (st3 k).2.1 (st3 k).2.2).2.2.1)
    else st3 k

set_option warn.classDefReducibility false in
/-- Loop 3's invariant: the staged queries, keys and values as found, the running buffers after `k` trips. -/
@[sl_loop] def loopInv3 :
    LoopInvTy_k0_t3 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 where
  inv k _ := Trip c arg10 arg11 arg12 arg13 arg14 arg15 f10 f11 f12
    (st3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).1
    (st3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).2.1
    (st3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).2.2
  step k _ := by
    rw [st3, dif_pos k.isLt]
    exact (trip3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 k f10 f11 f12 _ _ _).2.2.2

end Cert.Proof.KI
-- ==== Proof.KI.Body.lean ====
module

public import proofs.«01_k».proof.Proof.Gen.KernelIdeal.Skeleton
public import proofs.«01_k».proof.Proof.Gen.KernelIdeal.Loops
public import proofs.«01_k».proof.Proof.Gen.KernelIdeal
public import proofs.«01_k».proof.Proof.KI.Loops
public import proofs.«01_k».proof.Proof.Gen.KernelIdeal.Frame
public import Idealize.ShloMosaic.Lib.Tactic

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- The body's run on whole staging memrefs and scratch: the inputs as found, the output's buffer at a value found by
    the run, from the inputs and from what the scratch held before. -/
def kernelRun (c : Dev nD) (i : grid0.Coords)
  (arg2 : Memref sig .tc .vmem S4096x128 .bf16) (harg2 : arg2.IsWhole)
  (arg3 : Memref sig .tc .vmem S4096x128 .bf16) (harg3 : arg3.IsWhole)
  (arg4 : Memref sig .tc .vmem S1024x128 .bf16) (harg4 : arg4.IsWhole)
  (arg5 : Memref sig .tc .vmem S1024x128 .bf16) (harg5 : arg5.IsWhole)
  (arg6 : Memref sig .tc .vmem S4096x128 .bf16) (harg6 : arg6.IsWhole)
  (arg7 : Memref sig .tc .vmem S1024x128 .bf16) (harg7 : arg7.IsWhole)
  (arg8 : Memref sig .tc .vmem S1024x128 .bf16) (harg8 : arg8.IsWhole)
  (arg9 : Memref sig .tc .vmem S4096x128 .bf16) (harg9 : arg9.IsWhole)
  (arg10 : Memref sig .tc .vmem S4096x128 .f32) (harg10 : arg10.IsWhole)
  (arg11 : Memref sig .tc .vmem S6144x128 .f32) (harg11 : arg11.IsWhole)
  (arg12 : Memref sig .tc .vmem S6144x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S4096x128 .f32) (harg15 : arg15.IsWhole)
    (x2 : Vec F S4096x128 .bf16) (x3 : Vec F S4096x128 .bf16) (x4 : Vec F S1024x128 .bf16) (x5 : Vec F S1024x128 .bf16) (x6 : Vec F S4096x128 .bf16) (x7 : Vec F S1024x128 .bf16) (x8 : Vec F S1024x128 .bf16) :
    { Y : Buf (Elt F) (arg10.view.loc (c : Thread nD τ)) → Buf (Elt F) (arg11.view.loc (c : Thread nD τ)) → Buf (Elt F) (arg12.view.loc (c : Thread nD τ)) → Buf (Elt F) (arg13.view.loc (c : Thread nD τ)) → Buf (Elt F) (arg14.view.loc (c : Thread nD τ)) → Buf (Elt F) (arg15.view.loc (c : Thread nD τ)) → Vec F S4096x128 .bf16 //
      ∀ (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
            ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (Y g10 g11 g12 g13 g14 g15) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f)) -∗ K ⟨⟩))
          ⊢ wp frame (wpE (defs₀ (F := F)) 𝒱₀ c none) Set.univ (cc0_attention i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun g10 g11 g12 g13 g14 g15 E K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, H10, H11, H12, H13, H14, H15, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    sl_unfold [cc0_attention]
    sl_exec!
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro; rfl
    isplitl [H10]; · iexists _; iexact H10
    isplitl [H11]; · iexists _; iexact H11
    isplitl [H12]; · iexists _; iexact H12
    isplitl [H13]; · iexists _; iexact H13
    isplitl [H14]; · iexists _; iexact H14
    iexists _; iexact H15

end Cert.Proof.KI
-- ==== Proof.KI.Model.lean ====
module

public import proofs.«01_k».proof.Proof.Gen.KernelIdeal.Skeleton
public import proofs.«01_k».proof.Proof.Gen.KernelIdeal.Loops
public import proofs.«01_k».proof.Proof.Gen.KernelIdeal
public import Idealize.ShloMosaic.Lib.Tactic
public import proofs.«01_k».proof.Proof.KI.Trips

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## A block's work, in named pieces

The three loops of the kernel do the same arithmetic on blocks of 128 query rows and 256 key rows; only
the spacing of the rows differs. This module gives that arithmetic names and says that the pieces which a trip
writes are these names at the trip's four blocks.
-/

variable {F : FTy → Type} [FloatOps F]

/-- Scores of two heads stacked: the 128 query rows twice, each copy masked to its own head's lanes, against 256 key rows. -/
def scr (v65 : FVec F S256x128 .f32) (q : FVec F S128x128 .f32) (k : FVec F S256x128 .f32) : FVec F S256x256 .f32 :=
  matmul dot_S256x128_S256x128_S256x256_1_1_0_0_n_n none
    (truncf .bf16 (mulf (concatenate S256x128 0 [⟨S128x128, q⟩, ⟨S128x128, q⟩] concatenates_S128x128_S128x128_S256x128_d0) v65) bitsLt_bf16_f32)
    (truncf .bf16 k bitsLt_bf16_f32) (constant S256x256 .f32 0x00000000#32)

/-- The larger head's rows or the smaller's, by lane. -/
def pickW (v55 : IVec S1x128 1) (o : FVec F S256x128 .f32) : FVec F S128x128 .f32 :=
  select (broadcastTo S128x128 (shapeCast S1x128 v55 shapeCasts_S1x128_S1x128) broadcasts_S1x128_S128x128)
    (extractStridedSlice S128x128 ![0, 0] o slices_S256x128_o0_0_S128x128)
    (extractStridedSlice S128x128 ![128, 0] o slices_S256x128_o128_0_S128x128)

/-- The same for a column, spread over the lanes. -/
def pickC (v55 : IVec S1x128 1) (m : FVec F S256x1 .f32) : FVec F S128x128 .f32 :=
  select (broadcastTo S128x128 (shapeCast S1x128 v55 shapeCasts_S1x128_S1x128) broadcasts_S1x128_S128x128)
    (broadcastTo S128x128 (shapeCast S128x1 (extractStridedSlice S128x1 ![0, 0] m slices_S256x1_o0_0_S128x1) shapeCasts_S128x1_S128x1) broadcasts_S128x1_S128x128)
    (broadcastTo S128x128 (shapeCast S128x1 (extractStridedSlice S128x1 ![128, 0] m slices_S256x1_o128_0_S128x1) shapeCasts_S128x1_S128x1) broadcasts_S128x1_S128x128)

/-- Weighted values of a block, per lane. -/
def blkU (v55 : IVec S1x128 1) (s : FVec F S256x256 .f32) (v : FVec F S256x128 .f32) : FVec F S128x128 .f32 := pickW v55 (k0_pay36 s v)
/-- Row maxima of a block, per lane. -/
def blkM (v55 : IVec S1x128 1) (s : FVec F S256x256 .f32) : FVec F S128x128 .f32 := pickC v55 (k0_pay21 s)
/-- Row sums of a block, per lane. -/
def blkL (v55 : IVec S1x128 1) (s : FVec F S256x256 .f32) : FVec F S128x128 .f32 := pickC v55 (k0_pay23 s)

/-- A reshape to the same shape. -/
def idc (x : FVec F S128x128 .f32) : FVec F S128x128 .f32 := shapeCast S128x128 x shapeCasts_S128x128_S128x128

/-- The running maximum joined with a block's. -/
def mrgM (mo M : FVec F S128x128 .f32) : FVec F S128x128 .f32 := maximumf mo M
/-- A running total rescaled and joined with a block's. -/
def mrgA (acc mo U M : FVec F S128x128 .f32) : FVec F S128x128 .f32 :=
  addf (mulf acc (exp (subf mo (mrgM mo M)))) (mulf U (exp (subf M (mrgM mo M))))

/-- Division rounded down, for a positive divisor. -/
def fdivW (x d : BitVec 32) : BitVec 32 :=
  Scalar.select (Scalar.andi (Scalar.cmpi .ne (Scalar.subi (Scalar.extui (Scalar.cmpi .sgt x 0#32)) (Scalar.extui (Scalar.cmpi .slt x 0#32))) 1#32) (Scalar.cmpi .ne (Scalar.remsi x d) 0#32))
    (Scalar.subi (Scalar.divsi x d) 1#32) (Scalar.divsi x d)
/-- The first key of a block that lies in the sequence. -/
def jlW (d base : BitVec 32) : BitVec 32 := fdivW (Scalar.subi (Scalar.addi (Scalar.maxsi (Scalar.subi 0#32 base) 0#32) d) 1#32) d
/-- One past the last key of a block that lies in the sequence. -/
def jhW (d base : BitVec 32) : BitVec 32 := fdivW (Scalar.subi (Scalar.addi (Scalar.maxsi (Scalar.subi 16384#32 base) 0#32) d) 1#32) d

/-- The rows of loop 1's block. -/
def RQ1 (t : Fin k0_t1_loop.trips) (b : Fin 4) : Rect S4096x128 := Rect.unit (s := S4096x128) (k0_off1 t (BitVec.ofNat 32 b.val)) S128x128.size (k0_off1_inb t b)
/-- The key rows of loop 1's block. -/
def RK1 (t : Fin k0_t1_loop.trips) (b : Fin 4) : LoadRect S6144x128 := (Rect.unit (s := S6144x128) (k0_off2 t (BitVec.ofNat 32 b.val)) S256x128.size (k0_off2_inb t b)).toLoadRect
/-- The rows of loop 2's block. -/
def RQ2 (t : Fin k0_t2_loop.trips) (b : Fin 4) : Rect S4096x128 := ⟨(⟨k0_off3 t (BitVec.ofNat 32 b.val), S128x128.size, ![4, 1], k0_off3_inb t b⟩ : LoadRect S4096x128), by intro a; fin_cases a <;> simp⟩
/-- The key rows of loop 2's block. -/
def RK2 (t : Fin k0_t2_loop.trips) (b : Fin 4) : LoadRect S6144x128 := ⟨k0_off4 t (BitVec.ofNat 32 b.val), S256x128.size, ![4, 1], k0_off4_inb t b⟩
/-- The rows of loop 3's block. -/
def RQ3 (t : Fin k0_t3_loop.trips) (b : Fin 4) : Rect S4096x128 := ⟨(⟨k0_off5 t (BitVec.ofNat 32 b.val), S128x128.size, ![16, 1], k0_off5_inb t b⟩ : LoadRect S4096x128), by intro a; fin_cases a <;> simp⟩
/-- The key rows of loop 3's block. -/
def RK3 (t : Fin k0_t3_loop.trips) (b : Fin 4) : LoadRect S6144x128 := ⟨k0_off6 t (BitVec.ofNat 32 b.val), S256x128.size, ![16, 1], k0_off6_inb t b⟩
/-- The global position of key 0 of loop 1's block. -/
def base1 (v10 : BitVec 32) (t : Fin k0_t1_loop.trips) : Fin 4 → BitVec 32
  | 0 => trip1.sl.v140 v10 t | 1 => trip1.sl.v243 v10 t | 2 => trip1.sl.v346 v10 t | 3 => trip1.sl.v449 v10 t
/-- The global position of key 0 of loop 2's block. -/
def base2 (v10 : BitVec 32) (t : Fin k0_t2_loop.trips) : Fin 4 → BitVec 32
  | 0 => trip2.sl.v140 v10 t | 1 => trip2.sl.v243 v10 t | 2 => trip2.sl.v346 v10 t | 3 => trip2.sl.v449 v10 t
/-- The global position of key 0 of loop 3's block. -/
def base3 (v10 : BitVec 32) (t : Fin k0_t3_loop.trips) : Fin 4 → BitVec 32
  | 0 => trip3.sl.v140 v10 t | 1 => trip3.sl.v243 v10 t | 2 => trip3.sl.v346 v10 t | 3 => trip3.sl.v449 v10 t

variable [Named F]

/-- The scores with the keys outside the band or the sequence put to the mask constant. -/
def msk (v66 : IVec S256x256 32) (v68 : BitVec 32) (v83 : IVec S256x256 32) (s : FVec F S256x256 .f32) (jl jh : BitVec 32) : FVec F S256x256 .f32 :=
  k0_pay20 (k0_pay1 v66 v68) v83 s jh (maxsi (k0_pay1 v66 v68) (broadcast S256x256 jl))

section
variable (c : Dev nD) (arg10 : Memref sig .tc .vmem S4096x128 .f32) (arg11 : Memref sig .tc .vmem S6144x128 .f32) (arg12 : Memref sig .tc .vmem S6144x128 .f32)
  (arg13 : Memref sig .tc .vmem S4096x128 .f32) (arg14 : Memref sig .tc .vmem S4096x128 .f32) (arg15 : Memref sig .tc .vmem S4096x128 .f32)
  (v10 : BitVec 32) (v55 : IVec S1x128 1) (v65 : FVec F S256x128 .f32) (v66 : IVec S256x256 32) (v68 : BitVec 32) (v83 : IVec S256x256 32)

/-- Loop 1's masked scores. -/
def sc1 (t : Fin k0_t1_loop.trips) (f10 : Buf (Elt F) (arg10.view.loc (c : Thread nD τ))) (f11 : Buf (Elt F) (arg11.view.loc (c : Thread nD τ))) (b : Fin 4) : FVec F S256x256 .f32 :=
  msk v66 v68 v83 (scr v65 (View.readAt (Elt F) arg10.view (RQ1 t b).toLoadRect f10) (View.readAt (Elt F) arg11.view (RK1 t b) f11)) (jlW 1#32 (base1 v10 t b)) (jhW 1#32 (base1 v10 t b))
/-- Loop 1's weighted values. -/
def U1 (t : Fin k0_t1_loop.trips) (f10 : Buf (Elt F) (arg10.view.loc (c : Thread nD τ))) (f11 : Buf (Elt F) (arg11.view.loc (c : Thread nD τ))) (f12 : Buf (Elt F) (arg12.view.loc (c : Thread nD τ))) (b : Fin 4) : FVec F S128x128 .f32 :=
  blkU v55 (sc1 c arg10 arg11 v10 v65 v66 v68 v83 t f10 f11 b) (View.readAt (Elt F) arg12.view (RK1 t b) f12)
/-- Loop 1's maxima. -/
def M1 (t : Fin k0_t1_loop.trips) (f10 : Buf (Elt F) (arg10.view.loc (c : Thread nD τ))) (f11 : Buf (Elt F) (arg11.view.loc (c : Thread nD τ))) (b : Fin 4) : FVec F S128x128 .f32 :=
  blkM v55 (sc1 c arg10 arg11 v10 v65 v66 v68 v83 t f10 f11 b)
/-- Loop 1's sums. -/
def L1 (t : Fin k0_t1_loop.trips) (f10 : Buf (Elt F) (arg10.view.loc (c : Thread nD τ))) (f11 : Buf (Elt F) (arg11.view.loc (c : Thread nD τ))) (b : Fin 4) : FVec F S128x128 .f32 :=
  blkL v55 (sc1 c arg10 arg11 v10 v65 v66 v68 v83 t f10 f11 b)

/-- Loop 2's masked scores. -/
def sc2 (t : Fin k0_t2_loop.trips) (f10 : Buf (Elt F) (arg10.view.loc (c : Thread nD τ))) (f11 : Buf (Elt F) (arg11.view.loc (c : Thread nD τ))) (b : Fin 4) : FVec F S256x256 .f32 :=
  msk v66 v68 v83 (scr v65 (View.readAt (Elt F) arg10.view (RQ2 t b).toLoadRect f10) (View.readAt (Elt F) arg11.view (RK2 t b) f11)) (jlW 4#32 (base2 v10 t b)) (jhW 4#32 (base2 v10 t b))
/-- Loop 2's weighted values. -/
def U2 (t : Fin k0_t2_loop.trips) (f10 : Buf (Elt F) (arg10.view.loc (c : Thread nD τ))) (f11 : Buf (Elt F) (arg11.view.loc (c : Thread nD τ))) (f12 : Buf (Elt F) (arg12.view.loc (c : Thread nD τ))) (b : Fin 4) : FVec F S128x128 .f32 :=
  blkU v55 (sc2 c arg10 arg11 v10 v65 v66 v68 v83 t f10 f11 b) (View.readAt (Elt F) arg12.view (RK2 t b) f12)
/-- Loop 2's maxima. -/
def M2 (t : Fin k0_t2_loop.trips) (f10 : Buf (Elt F) (arg10.view.loc (c : Thread nD τ))) (f11 : Buf (Elt F) (arg11.view.loc (c : Thread nD τ))) (b : Fin 4) : FVec F S128x128 .f32 :=
  blkM v55 (sc2 c arg10 arg11 v10 v65 v66 v68 v83 t f10 f11 b)
/-- Loop 2's sums. -/
def L2 (t : Fin k0_t2_loop.trips) (f10 : Buf (Elt F) (arg10.view.loc (c : Thread nD τ))) (f11 : Buf (Elt F) (arg11.view.loc (c : Thread nD τ))) (b : Fin 4) : FVec F S128x128 .f32 :=
  blkL v55 (sc2 c arg10 arg11 v10 v65 v66 v68 v83 t f10 f11 b)

/-- Loop 3's masked scores. -/
def sc3 (t : Fin k0_t3_loop.trips) (f10 : Buf (Elt F) (arg10.view.loc (c : Thread nD τ))) (f11 : Buf (Elt F) (arg11.view.loc (c : Thread nD τ))) (b : Fin 4) : FVec F S256x256 .f32 :=
  msk v66 v68 v83 (scr v65 (View.readAt (Elt F) arg10.view (RQ3 t b).toLoadRect f10) (View.readAt (Elt F) arg11.view (RK3 t b) f11)) (jlW 16#32 (base3 v10 t b)) (jhW 16#32 (base3 v10 t b))
/-- Loop 3's weighted values. -/
def U3 (t : Fin k0_t3_loop.trips) (f10 : Buf (Elt F) (arg10.view.loc (c : Thread nD τ))) (f11 : Buf (Elt F) (arg11.view.loc (c : Thread nD τ))) (f12 : Buf (Elt F) (arg12.view.loc (c : Thread nD τ))) (b : Fin 4) : FVec F S128x128 .f32 :=
  blkU v55 (sc3 c arg10 arg11 v10 v65 v66 v68 v83 t f10 f11 b) (View.readAt (Elt F) arg12.view (RK3 t b) f12)
/-- Loop 3's maxima. -/
def M3 (t : Fin k0_t3_loop.trips) (f10 : Buf (Elt F) (arg10.view.loc (c : Thread nD τ))) (f11 : Buf (Elt F) (arg11.view.loc (c : Thread nD τ))) (b : Fin 4) : FVec F S128x128 .f32 :=
  blkM v55 (sc3 c arg10 arg11 v10 v65 v66 v68 v83 t f10 f11 b)
/-- Loop 3's sums. -/
def L3 (t : Fin k0_t3_loop.trips) (f10 : Buf (Elt F) (arg10.view.loc (c : Thread nD τ))) (f11 : Buf (Elt F) (arg11.view.loc (c : Thread nD τ))) (b : Fin 4) : FVec F S128x128 .f32 :=
  blkL v55 (sc3 c arg10 arg11 v10 v65 v66 v68 v83 t f10 f11 b)
end
section
variable (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S4096x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (v10 : BitVec 32) (v55 : IVec S1x128 1) (v65 : FVec F S256x128 .f32) (v66 : IVec S256x256 32) (v68 : BitVec 32) (v83 : IVec S256x256 32)
set_option maxHeartbeats 4000000

/-- What trip `t` of loop 1 writes. -/
theorem trip1_lists (t : Fin k0_t1_loop.trips) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    (trip1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 f13 f14 f15).1 = [⟨RQ1 t 3, idc (U1 c arg10 arg11 arg12 v10 v55 v65 v66 v68 v83 t f10 f11 f12 3)⟩, ⟨RQ1 t 2, idc (U1 c arg10 arg11 arg12 v10 v55 v65 v66 v68 v83 t f10 f11 f12 2)⟩, ⟨RQ1 t 1, idc (U1 c arg10 arg11 arg12 v10 v55 v65 v66 v68 v83 t f10 f11 f12 1)⟩, ⟨RQ1 t 0, idc (U1 c arg10 arg11 arg12 v10 v55 v65 v66 v68 v83 t f10 f11 f12 0)⟩] ∧
    (trip1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 f13 f14 f15).2.1 = [⟨RQ1 t 3, idc (M1 c arg10 arg11 v10 v55 v65 v66 v68 v83 t f10 f11 3)⟩, ⟨RQ1 t 2, idc (M1 c arg10 arg11 v10 v55 v65 v66 v68 v83 t f10 f11 2)⟩, ⟨RQ1 t 1, idc (M1 c arg10 arg11 v10 v55 v65 v66 v68 v83 t f10 f11 1)⟩, ⟨RQ1 t 0, idc (M1 c arg10 arg11 v10 v55 v65 v66 v68 v83 t f10 f11 0)⟩] ∧
    (trip1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 f13 f14 f15).2.2.1 = [⟨RQ1 t 3, idc (L1 c arg10 arg11 v10 v55 v65 v66 v68 v83 t f10 f11 3)⟩, ⟨RQ1 t 2, idc (L1 c arg10 arg11 v10 v55 v65 v66 v68 v83 t f10 f11 2)⟩, ⟨RQ1 t 1, idc (L1 c arg10 arg11 v10 v55 v65 v66 v68 v83 t f10 f11 1)⟩, ⟨RQ1 t 0, idc (L1 c arg10 arg11 v10 v55 v65 v66 v68 v83 t f10 f11 0)⟩] := by
  unfold trip1
  exact ⟨rfl, rfl, rfl⟩

/-- What trip `t` of loop 2 writes. -/
theorem trip2_lists (t : Fin k0_t2_loop.trips) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    (trip2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 f13 f14 f15).1 = [⟨RQ2 t 3, idc (mrgA (View.readAt (Elt F) arg13.view (RQ2 t 3).toLoadRect f13) (View.readAt (Elt F) arg14.view (RQ2 t 3).toLoadRect f14) (U2 c arg10 arg11 arg12 v10 v55 v65 v66 v68 v83 t f10 f11 f12 3) (M2 c arg10 arg11 v10 v55 v65 v66 v68 v83 t f10 f11 3))⟩, ⟨RQ2 t 2, idc (mrgA (View.readAt (Elt F) arg13.view (RQ2 t 2).toLoadRect f13) (View.readAt (Elt F) arg14.view (RQ2 t 2).toLoadRect f14) (U2 c arg10 arg11 arg12 v10 v55 v65 v66 v68 v83 t f10 f11 f12 2) (M2 c arg10 arg11 v10 v55 v65 v66 v68 v83 t f10 f11 2))⟩, ⟨RQ2 t 1, idc (mrgA (View.readAt (Elt F) arg13.view (RQ2 t 1).toLoadRect f13) (View.readAt (Elt F) arg14.view (RQ2 t 1).toLoadRect f14) (U2 c arg10 arg11 arg12 v10 v55 v65 v66 v68 v83 t f10 f11 f12 1) (M2 c arg10 arg11 v10 v55 v65 v66 v68 v83 t f10 f11 1))⟩, ⟨RQ2 t 0, idc (mrgA (View.readAt (Elt F) arg13.view (RQ2 t 0).toLoadRect f13) (View.readAt (Elt F) arg14.view (RQ2 t 0).toLoadRect f14) (U2 c arg10 arg11 arg12 v10 v55 v65 v66 v68 v83 t f10 f11 f12 0) (M2 c arg10 arg11 v10 v55 v65 v66 v68 v83 t f10 f11 0))⟩] ∧
    (trip2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 f13 f14 f15).2.1 = [⟨RQ2 t 3, idc (mrgM (View.readAt (Elt F) arg14.view (RQ2 t 3).toLoadRect f14) (M2 c arg10 arg11 v10 v55 v65 v66 v68 v83 t f10 f11 3))⟩, ⟨RQ2 t 2, idc (mrgM (View.readAt (Elt F) arg14.view (RQ2 t 2).toLoadRect f14) (M2 c arg10 arg11 v10 v55 v65 v66 v68 v83 t f10 f11 2))⟩, ⟨RQ2 t 1, idc (mrgM (View.readAt (Elt F) arg14.view (RQ2 t 1).toLoadRect f14) (M2 c arg10 arg11 v10 v55 v65 v66 v68 v83 t f10 f11 1))⟩, ⟨RQ2 t 0, idc (mrgM (View.readAt (Elt F) arg14.view (RQ2 t 0).toLoadRect f14) (M2 c arg10 arg11 v10 v55 v65 v66 v68 v83 t f10 f11 0))⟩] ∧
    (trip2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 f13 f14 f15).2.2.1 = [⟨RQ2 t 3, idc (mrgA (View.readAt (Elt F) arg15.view (RQ2 t 3).toLoadRect f15) (View.readAt (Elt F) arg14.view (RQ2 t 3).toLoadRect f14) (L2 c arg10 arg11 v10 v55 v65 v66 v68 v83 t f10 f11 3) (M2 c arg10 arg11 v10 v55 v65 v66 v68 v83 t f10 f11 3))⟩, ⟨RQ2 t 2, idc (mrgA (View.readAt (Elt F) arg15.view (RQ2 t 2).toLoadRect f15) (View.readAt (Elt F) arg14.view (RQ2 t 2).toLoadRect f14) (L2 c arg10 arg11 v10 v55 v65 v66 v68 v83 t f10 f11 2) (M2 c arg10 arg11 v10 v55 v65 v66 v68 v83 t f10 f11 2))⟩, ⟨RQ2 t 1, idc (mrgA (View.readAt (Elt F) arg15.view (RQ2 t 1).toLoadRect f15) (View.readAt (Elt F) arg14.view (RQ2 t 1).toLoadRect f14) (L2 c arg10 arg11 v10 v55 v65 v66 v68 v83 t f10 f11 1) (M2 c arg10 arg11 v10 v55 v65 v66 v68 v83 t f10 f11 1))⟩, ⟨RQ2 t 0, idc (mrgA (View.readAt (Elt F) arg15.view (RQ2 t 0).toLoadRect f15) (View.readAt (Elt F) arg14.view (RQ2 t 0).toLoadRect f14) (L2 c arg10 arg11 v10 v55 v65 v66 v68 v83 t f10 f11 0) (M2 c arg10 arg11 v10 v55 v65 v66 v68 v83 t f10 f11 0))⟩] := by
  unfold trip2
  exact ⟨rfl, rfl, rfl⟩

/-- What trip `t` of loop 3 writes; blocks 2 and 3 read what blocks 0 and 1 left. -/
theorem trip3_lists (t : Fin k0_t3_loop.trips) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) :
    ∃ p13_0 p13_1 p13_2 p13_3 p14_0 p14_1 p14_2 p14_3 p15_0 p15_1 p15_2 p15_3 : FVec F S128x128 .f32,
    (trip3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 f13 f14 f15).1 = [⟨RQ3 t 3, p13_3⟩, ⟨RQ3 t 2, p13_2⟩, ⟨RQ3 t 1, p13_1⟩, ⟨RQ3 t 0, p13_0⟩] ∧
    (trip3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 f13 f14 f15).2.1 = [⟨RQ3 t 3, p14_3⟩, ⟨RQ3 t 2, p14_2⟩, ⟨RQ3 t 1, p14_1⟩, ⟨RQ3 t 0, p14_0⟩] ∧
    (trip3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 f13 f14 f15).2.2.1 = [⟨RQ3 t 3, p15_3⟩, ⟨RQ3 t 2, p15_2⟩, ⟨RQ3 t 1, p15_1⟩, ⟨RQ3 t 0, p15_0⟩] ∧
    p13_0 = idc (mrgA (View.readAt (Elt F) arg13.view (RQ3 t 0).toLoadRect f13) (View.readAt (Elt F) arg14.view (RQ3 t 0).toLoadRect f14) (U3 c arg10 arg11 arg12 v10 v55 v65 v66 v68 v83 t f10 f11 f12 0) (M3 c arg10 arg11 v10 v55 v65 v66 v68 v83 t f10 f11 0)) ∧
    p14_0 = idc (mrgM (View.readAt (Elt F) arg14.view (RQ3 t 0).toLoadRect f14) (M3 c arg10 arg11 v10 v55 v65 v66 v68 v83 t f10 f11 0)) ∧
    p15_0 = idc (mrgA (View.readAt (Elt F) arg15.view (RQ3 t 0).toLoadRect f15) (View.readAt (Elt F) arg14.view (RQ3 t 0).toLoadRect f14) (L3 c arg10 arg11 v10 v55 v65 v66 v68 v83 t f10 f11 0) (M3 c arg10 arg11 v10 v55 v65 v66 v68 v83 t f10 f11 0)) ∧
    p13_1 = idc (mrgA (View.readAt (Elt F) arg13.view (RQ3 t 1).toLoadRect f13) (View.readAt (Elt F) arg14.view (RQ3 t 1).toLoadRect f14) (U3 c arg10 arg11 arg12 v10 v55 v65 v66 v68 v83 t f10 f11 f12 1) (M3 c arg10 arg11 v10 v55 v65 v66 v68 v83 t f10 f11 1)) ∧
    p14_1 = idc (mrgM (View.readAt (Elt F) arg14.view (RQ3 t 1).toLoadRect f14) (M3 c arg10 arg11 v10 v55 v65 v66 v68 v83 t f10 f11 1)) ∧
    p15_1 = idc (mrgA (View.readAt (Elt F) arg15.view (RQ3 t 1).toLoadRect f15) (View.readAt (Elt F) arg14.view (RQ3 t 1).toLoadRect f14) (L3 c arg10 arg11 v10 v55 v65 v66 v68 v83 t f10 f11 1) (M3 c arg10 arg11 v10 v55 v65 v66 v68 v83 t f10 f11 1)) ∧
    p13_2 = idc (mrgA (View.readAt (Elt F) arg13.view (RQ3 t 2).toLoadRect (arg13.view.writes (Elt F) f13 ([⟨RQ3 t 1, p13_1⟩, ⟨RQ3 t 0, p13_0⟩]))) (View.readAt (Elt F) arg14.view (RQ3 t 2).toLoadRect (arg14.view.writes (Elt F) f14 ([⟨RQ3 t 1, p14_1⟩, ⟨RQ3 t 0, p14_0⟩]))) (U3 c arg10 arg11 arg12 v10 v55 v65 v66 v68 v83 t f10 f11 f12 2) (M3 c arg10 arg11 v10 v55 v65 v66 v68 v83 t f10 f11 2)) ∧
    p14_2 = idc (mrgM (View.readAt (Elt F) arg14.view (RQ3 t 2).toLoadRect (arg14.view.writes (Elt F) f14 ([⟨RQ3 t 1, p14_1⟩, ⟨RQ3 t 0, p14_0⟩]))) (M3 c arg10 arg11 v10 v55 v65 v66 v68 v83 t f10 f11 2)) ∧
    p15_2 = idc (mrgA (View.readAt (Elt F) arg15.view (RQ3 t 2).toLoadRect (arg15.view.writes (Elt F) f15 ([⟨RQ3 t 1, p15_1⟩, ⟨RQ3 t 0, p15_0⟩]))) (View.readAt (Elt F) arg14.view (RQ3 t 2).toLoadRect (arg14.view.writes (Elt F) f14 ([⟨RQ3 t 1, p14_1⟩, ⟨RQ3 t 0, p14_0⟩]))) (L3 c arg10 arg11 v10 v55 v65 v66 v68 v83 t f10 f11 2) (M3 c arg10 arg11 v10 v55 v65 v66 v68 v83 t f10 f11 2)) ∧
    p13_3 = idc (mrgA (View.readAt (Elt F) arg13.view (RQ3 t 3).toLoadRect (arg13.view.writes (Elt F) f13 ([⟨RQ3 t 2, p13_2⟩, ⟨RQ3 t 1, p13_1⟩, ⟨RQ3 t 0, p13_0⟩]))) (View.readAt (Elt F) arg14.view (RQ3 t 3).toLoadRect (arg14.view.writes (Elt F) f14 ([⟨RQ3 t 2, p14_2⟩, ⟨RQ3 t 1, p14_1⟩, ⟨RQ3 t 0, p14_0⟩]))) (U3 c arg10 arg11 arg12 v10 v55 v65 v66 v68 v83 t f10 f11 f12 3) (M3 c arg10 arg11 v10 v55 v65 v66 v68 v83 t f10 f11 3)) ∧
    p14_3 = idc (mrgM (View.readAt (Elt F) arg14.view (RQ3 t 3).toLoadRect (arg14.view.writes (Elt F) f14 ([⟨RQ3 t 2, p14_2⟩, ⟨RQ3 t 1, p14_1⟩, ⟨RQ3 t 0, p14_0⟩]))) (M3 c arg10 arg11 v10 v55 v65 v66 v68 v83 t f10 f11 3)) ∧
    p15_3 = idc (mrgA (View.readAt (Elt F) arg15.view (RQ3 t 3).toLoadRect (arg15.view.writes (Elt F) f15 ([⟨RQ3 t 2, p15_2⟩, ⟨RQ3 t 1, p15_1⟩, ⟨RQ3 t 0, p15_0⟩]))) (View.readAt (Elt F) arg14.view (RQ3 t 3).toLoadRect (arg14.view.writes (Elt F) f14 ([⟨RQ3 t 2, p14_2⟩, ⟨RQ3 t 1, p14_1⟩, ⟨RQ3 t 0, p14_0⟩]))) (L3 c arg10 arg11 v10 v55 v65 v66 v68 v83 t f10 f11 3) (M3 c arg10 arg11 v10 v55 v65 v66 v68 v83 t f10 f11 3)) := by
  unfold trip3
  exact ⟨_, _, _, _, _, _, _, _, _, _, _, _, rfl, rfl, rfl, rfl, rfl, rfl, rfl, rfl, rfl, rfl, rfl, rfl, rfl, rfl, rfl⟩
end

end Cert.Proof.KI
-- ==== Proof.KI.Rows.lean ====
module

public import proofs.«01_k».proof.Proof.Gen.KernelIdeal.Skeleton
public import proofs.«01_k».proof.Proof.Gen.KernelIdeal.Loops
public import proofs.«01_k».proof.Proof.Gen.KernelIdeal
public import Idealize.ShloMosaic.Lib.Tactic
public import Idealize.ShloMosaic.Lib.ValueIdx
public import Idealize.ShloMosaic.Lib.Pipeline.Value
public import proofs.«01_k».proof.Proof.KI.Model

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx

/-! ## What the loops leave, row by row

Each row of the running buffers belongs to one block of each loop; a loop changes it in that block's trip only.
-/

/-- The row of a block's first query. -/
def blkPos (d n : ℕ) : ℕ := 128 * d * (n % (32 / d)) + n / (32 / d)
/-- The block that holds a row. -/
def blkOf (d p : ℕ) : ℕ := p % d * (32 / d) + p / d / 128
/-- The row's place in its block. -/
def idxOf (d p : ℕ) : ℕ := p / d % 128

theorem idxOf_lt (d p : ℕ) : idxOf d p < 128 := Nat.mod_lt _ (by norm_num)

/-- The row's place in its block, with its lane. -/
def xOf (d : ℕ) (y : S4096x128.Idx) : S128x128.Idx := ix2 (n0 := 128) (n1 := 128) ⟨idxOf d (y 0).val, idxOf_lt _ _⟩ (y 1)

theorem y0_lt (y : S4096x128.Idx) : (y 0).val < 4096 := (y 0).isLt

variable {F : FTy → Type} [FloatOps F]

/-- One entry of `mrgM`. -/
def sM (mo M : F .f32) : F .f32 := FloatOps.maximumf mo M
/-- One entry of `mrgA`. -/
def sA (acc mo U M : F .f32) : F .f32 :=
  FloatOps.addf (FloatOps.mulf acc (FloatOps.exp (FloatOps.subf mo (sM mo M)))) (FloatOps.mulf U (FloatOps.exp (FloatOps.subf M (sM mo M))))

/-- Four writes read at a place of the one that holds it. -/
theorem hit4 {sp : Space} (v : View sig .tc sp S4096x128 .f32) (f) (R : Fin 4 → Rect S4096x128) (P : (b : Fin 4) → (R b).shape.Idx → Elt F .f32) (y : S4096x128.Idx)
    (b : Fin 4) (x : (R b).shape.Idx) (hx : (R b).emb x = y) (hm : ∀ b', b' ≠ b → y ∉ (R b').set) :
    v.read (Elt F) (v.writes (Elt F) f [⟨R 3, P 3⟩, ⟨R 2, P 2⟩, ⟨R 1, P 1⟩, ⟨R 0, P 0⟩]) y = P b x := by
  match b, x, hx, hm with
  | 0, x, hx, hm => rw [View.read_writes_cons_miss v _ ⟨R 3, P 3⟩ _ y (hm 3 (by decide)), View.read_writes_cons_miss v _ ⟨R 2, P 2⟩ _ y (hm 2 (by decide)), View.read_writes_cons_miss v _ ⟨R 1, P 1⟩ _ y (hm 1 (by decide))]
                    exact View.read_writes_cons_hit v _ (R 0) (P 0) _ x y hx
  | 1, x, hx, hm => rw [View.read_writes_cons_miss v _ ⟨R 3, P 3⟩ _ y (hm 3 (by decide)), View.read_writes_cons_miss v _ ⟨R 2, P 2⟩ _ y (hm 2 (by decide))]
                    exact View.read_writes_cons_hit v _ (R 1) (P 1) _ x y hx
  | 2, x, hx, hm => rw [View.read_writes_cons_miss v _ ⟨R 3, P 3⟩ _ y (hm 3 (by decide))]
                    exact View.read_writes_cons_hit v _ (R 2) (P 2) _ x y hx
  | 3, x, hx, hm => exact View.read_writes_cons_hit v _ (R 3) (P 3) _ x y hx

/-- Four writes read at a place of none of them. -/
theorem miss4 {sp : Space} (v : View sig .tc sp S4096x128 .f32) (f) (R : Fin 4 → Rect S4096x128) (P : (b : Fin 4) → (R b).shape.Idx → Elt F .f32) (y : S4096x128.Idx)
    (hm : ∀ b', y ∉ (R b').set) :
    v.read (Elt F) (v.writes (Elt F) f [⟨R 3, P 3⟩, ⟨R 2, P 2⟩, ⟨R 1, P 1⟩, ⟨R 0, P 0⟩]) y = v.read (Elt F) f y := by
  rw [View.read_writes_cons_miss v _ ⟨R 3, P 3⟩ _ y (hm 3), View.read_writes_cons_miss v _ ⟨R 2, P 2⟩ _ y (hm 2), View.read_writes_cons_miss v _ ⟨R 1, P 1⟩ _ y (hm 1), View.read_writes_cons_miss v _ ⟨R 0, P 0⟩ _ y (hm 0)]
  rfl

/-- The same for two writes, -/
theorem missTwo {sp : Space} (v : View sig .tc sp S4096x128 .f32) (f) (R : Fin 4 → Rect S4096x128) (P : (b : Fin 4) → (R b).shape.Idx → Elt F .f32) (y : S4096x128.Idx)
    (hm : ∀ b' : Fin 4, b'.val < 2 → y ∉ (R b').set) :
    v.read (Elt F) (v.writes (Elt F) f [⟨R 1, P 1⟩, ⟨R 0, P 0⟩]) y = v.read (Elt F) f y := by
  rw [View.read_writes_cons_miss v _ ⟨R 1, P 1⟩ _ y (hm 1 (by decide)), View.read_writes_cons_miss v _ ⟨R 0, P 0⟩ _ y (hm 0 (by decide))]
  rfl
/-- and for three. -/
theorem missThree {sp : Space} (v : View sig .tc sp S4096x128 .f32) (f) (R : Fin 4 → Rect S4096x128) (P : (b : Fin 4) → (R b).shape.Idx → Elt F .f32) (y : S4096x128.Idx)
    (hm : ∀ b' : Fin 4, b'.val < 3 → y ∉ (R b').set) :
    v.read (Elt F) (v.writes (Elt F) f [⟨R 2, P 2⟩, ⟨R 1, P 1⟩, ⟨R 0, P 0⟩]) y = v.read (Elt F) f y := by
  rw [View.read_writes_cons_miss v _ ⟨R 2, P 2⟩ _ y (hm 2 (by decide)), View.read_writes_cons_miss v _ ⟨R 1, P 1⟩ _ y (hm 1 (by decide)), View.read_writes_cons_miss v _ ⟨R 0, P 0⟩ _ y (hm 0 (by decide))]
  rfl

/-- The `b`-th of four. -/
def sel4 (p0 p1 p2 p3 : FVec F S128x128 .f32) : Fin 4 → FVec F S128x128 .f32
  | 0 => p0 | 1 => p1 | 2 => p2 | 3 => p3
theorem fin4_of {R : Fin 4 → Prop} (h0 : R 0) (h1 : R 1) (h2 : R 2) (h3 : R 3) : ∀ b, R b
  | 0 => h0 | 1 => h1 | 2 => h2 | 3 => h3

theorem mrgA_apply (acc mo U M : FVec F S128x128 .f32) (x : S128x128.Idx) : mrgA acc mo U M x = sA (acc x) (mo x) (U x) (M x) := rfl
theorem mrgM_apply (mo M : FVec F S128x128 .f32) (x : S128x128.Idx) : mrgM mo M x = sM (mo x) (M x) := rfl
theorem sA_congr {a a' m m' : F .f32} (U M : F .f32) (h : a = a') (h' : m = m') : sA a m U M = sA a' m' U M := by rw [h, h']
theorem sM_congr {m m' : F .f32} (M : F .f32) (h' : m = m') : sM m M = sM m' M := by rw [h']

theorem idc_eq (x : FVec F S128x128 .f32) : idc x = x := by
  unfold idc; exact shapeCast_self _ _

theorem trips1 : k0_t1_loop.trips = 8 := by decide
theorem RQ1_off0 : ∀ (t : Fin k0_t1_loop.trips) (b : Fin 4), (RQ1 t b).off 0 = blkPos 1 (4 * t.val + b.val) := by decide +kernel
theorem RQ1_off1 : ∀ (t : Fin k0_t1_loop.trips) (b : Fin 4), (RQ1 t b).off 1 = 0 := by decide +kernel
theorem RQ1_idx0 (t : Fin k0_t1_loop.trips) (b : Fin 4) (x : S128x128.Idx) : ((RQ1 t b).emb x 0).val = blkPos 1 (4 * t.val + b.val) + 1 * (x 0).val := by
  show (RQ1 t b).off 0 + (RQ1 t b).stride 0 * (x 0).val = _
  rw [RQ1_off0]; rfl
theorem RQ1_idx1 (t : Fin k0_t1_loop.trips) (b : Fin 4) (x : S128x128.Idx) : ((RQ1 t b).emb x 1).val = (x 1).val := by
  show (RQ1 t b).off 1 + 1 * (x 1).val = _
  rw [RQ1_off1, Nat.one_mul, Nat.zero_add]
theorem blk1 (m i : ℕ) (hm : m < 32) (hi : i < 128) : blkOf 1 (blkPos 1 m + 1 * i) = m ∧ idxOf 1 (blkPos 1 m + 1 * i) = i := by
  exact (show ∀ m' : Fin 32, ∀ i' : Fin 128, blkOf 1 (blkPos 1 m'.val + 1 * i'.val) = m'.val ∧ idxOf 1 (blkPos 1 m'.val + 1 * i'.val) = i'.val by decide +kernel) ⟨m, hm⟩ ⟨i, hi⟩
theorem blk1_lt (p : ℕ) (hp : p < 4096) : blkOf 1 p < 32 := (show ∀ p' : Fin 4096, blkOf 1 p'.val < 32 by decide +kernel) ⟨p, hp⟩
theorem blk1_eq (p : ℕ) (hp : p < 4096) : blkPos 1 (blkOf 1 p) + 1 * idxOf 1 p = p := (show ∀ p' : Fin 4096, blkPos 1 (blkOf 1 p'.val) + 1 * idxOf 1 p'.val = p'.val by decide +kernel) ⟨p, hp⟩
/-- The trip of loop 1 that holds a row. -/
def tOf1 (y : S4096x128.Idx) : Fin k0_t1_loop.trips := ⟨blkOf 1 (y 0).val / 4, by rw [trips1]; have := blk1_lt _ (y0_lt y); omega⟩
/-- Its block in the trip. -/
def bOf1 (y : S4096x128.Idx) : Fin 4 := ⟨blkOf 1 (y 0).val % 4, Nat.mod_lt _ (by norm_num)⟩
theorem RQ1_emb (y : S4096x128.Idx) (t : Fin k0_t1_loop.trips) (b : Fin 4) (h : blkOf 1 (y 0).val = 4 * t.val + b.val) : (RQ1 t b).emb (xOf 1 y) = y := by
  funext a
  apply Fin.ext
  match a with
  | ⟨0, _⟩ => exact (RQ1_idx0 t b (xOf 1 y)).trans (by rw [← h]; exact blk1_eq _ (y0_lt y))
  | ⟨1, _⟩ => exact RQ1_idx1 t b (xOf 1 y)
theorem RQ1_mem (y : S4096x128.Idx) (t : Fin k0_t1_loop.trips) (b : Fin 4) : y ∈ (RQ1 t b).set ↔ blkOf 1 (y 0).val = 4 * t.val + b.val := by
  constructor
  · intro h
    obtain ⟨x, hx⟩ : ∃ x, (RQ1 t b).emb x = y := (RQ1 t b).exists_idx_of_mem h
    subst hx
    have h0 := RQ1_idx0 t b x
    have ht : t.val < 8 := Nat.lt_of_lt_of_eq t.isLt trips1
    have hx : (x 0).val < 128 := (x 0).isLt
    rw [h0]; exact (blk1 _ _ (by omega) hx).1
  · intro h; rw [← RQ1_emb y t b h]; exact (RQ1 t b).idx_mem _
theorem readAt1_xOf {sp : Space} (v : View sig .tc sp S4096x128 .f32) (f) (y : S4096x128.Idx) (t : Fin k0_t1_loop.trips) (b : Fin 4) (h : blkOf 1 (y 0).val = 4 * t.val + b.val) :
    View.readAt (Elt F) v (RQ1 t b).toLoadRect f (xOf 1 y) = v.read (Elt F) f y :=
  congrArg (v.read (Elt F) f) (RQ1_emb y t b h)
theorem hit1 {sp : Space} (v : View sig .tc sp S4096x128 .f32) (f) (P0 P1 P2 P3 : FVec F S128x128 .f32) (y : S4096x128.Idx) (t : Fin k0_t1_loop.trips) (b : Fin 4) (h : blkOf 1 (y 0).val = 4 * t.val + b.val) :
    v.read (Elt F) (v.writes (Elt F) f [⟨RQ1 t 3, P3⟩, ⟨RQ1 t 2, P2⟩, ⟨RQ1 t 1, P1⟩, ⟨RQ1 t 0, P0⟩]) y = (![P0, P1, P2, P3] b) (xOf 1 y) := by
  exact hit4 v f (RQ1 t) (![P0, P1, P2, P3] : Fin 4 → FVec F S128x128 .f32) y b (xOf 1 y) (RQ1_emb y t b h)
    (fun b' hb hy => by rw [RQ1_mem] at hy; apply hb; apply Fin.ext; omega)
theorem miss1 {sp : Space} (v : View sig .tc sp S4096x128 .f32) (f) (P0 P1 P2 P3 : FVec F S128x128 .f32) (y : S4096x128.Idx) (t : Fin k0_t1_loop.trips) (h : blkOf 1 (y 0).val / 4 ≠ t.val) :
    v.read (Elt F) (v.writes (Elt F) f [⟨RQ1 t 3, P3⟩, ⟨RQ1 t 2, P2⟩, ⟨RQ1 t 1, P1⟩, ⟨RQ1 t 0, P0⟩]) y = v.read (Elt F) f y := by
  exact miss4 v f (RQ1 t) (![P0, P1, P2, P3] : Fin 4 → FVec F S128x128 .f32) y
    (fun b' hy => by rw [RQ1_mem] at hy; apply h; omega)

theorem trips2 : k0_t2_loop.trips = 8 := by decide
theorem RQ2_off0 : ∀ (t : Fin k0_t2_loop.trips) (b : Fin 4), (RQ2 t b).off 0 = blkPos 4 (4 * t.val + b.val) := by decide +kernel
theorem RQ2_off1 : ∀ (t : Fin k0_t2_loop.trips) (b : Fin 4), (RQ2 t b).off 1 = 0 := by decide +kernel
theorem RQ2_idx0 (t : Fin k0_t2_loop.trips) (b : Fin 4) (x : S128x128.Idx) : ((RQ2 t b).emb x 0).val = blkPos 4 (4 * t.val + b.val) + 4 * (x 0).val := by
  show (RQ2 t b).off 0 + (RQ2 t b).stride 0 * (x 0).val = _
  rw [RQ2_off0]; rfl
theorem RQ2_idx1 (t : Fin k0_t2_loop.trips) (b : Fin 4) (x : S128x128.Idx) : ((RQ2 t b).emb x 1).val = (x 1).val := by
  show (RQ2 t b).off 1 + 1 * (x 1).val = _
  rw [RQ2_off1, Nat.one_mul, Nat.zero_add]
theorem blk2 (m i : ℕ) (hm : m < 32) (hi : i < 128) : blkOf 4 (blkPos 4 m + 4 * i) = m ∧ idxOf 4 (blkPos 4 m + 4 * i) = i := by
  exact (show ∀ m' : Fin 32, ∀ i' : Fin 128, blkOf 4 (blkPos 4 m'.val + 4 * i'.val) = m'.val ∧ idxOf 4 (blkPos 4 m'.val + 4 * i'.val) = i'.val by decide +kernel) ⟨m, hm⟩ ⟨i, hi⟩
theorem blk2_lt (p : ℕ) (hp : p < 4096) : blkOf 4 p < 32 := (show ∀ p' : Fin 4096, blkOf 4 p'.val < 32 by decide +kernel) ⟨p, hp⟩
theorem blk2_eq (p : ℕ) (hp : p < 4096) : blkPos 4 (blkOf 4 p) + 4 * idxOf 4 p = p := (show ∀ p' : Fin 4096, blkPos 4 (blkOf 4 p'.val) + 4 * idxOf 4 p'.val = p'.val by decide +kernel) ⟨p, hp⟩
/-- The trip of loop 2 that holds a row. -/
def tOf2 (y : S4096x128.Idx) : Fin k0_t2_loop.trips := ⟨blkOf 4 (y 0).val / 4, by rw [trips2]; have := blk2_lt _ (y0_lt y); omega⟩
/-- Its block in the trip. -/
def bOf2 (y : S4096x128.Idx) : Fin 4 := ⟨blkOf 4 (y 0).val % 4, Nat.mod_lt _ (by norm_num)⟩
theorem RQ2_emb (y : S4096x128.Idx) (t : Fin k0_t2_loop.trips) (b : Fin 4) (h : blkOf 4 (y 0).val = 4 * t.val + b.val) : (RQ2 t b).emb (xOf 4 y) = y := by
  funext a
  apply Fin.ext
  match a with
  | ⟨0, _⟩ => exact (RQ2_idx0 t b (xOf 4 y)).trans (by rw [← h]; exact blk2_eq _ (y0_lt y))
  | ⟨1, _⟩ => exact RQ2_idx1 t b (xOf 4 y)
theorem RQ2_mem (y : S4096x128.Idx) (t : Fin k0_t2_loop.trips) (b : Fin 4) : y ∈ (RQ2 t b).set ↔ blkOf 4 (y 0).val = 4 * t.val + b.val := by
  constructor
  · intro h
    obtain ⟨x, hx⟩ : ∃ x, (RQ2 t b).emb x = y := (RQ2 t b).exists_idx_of_mem h
    subst hx
    have h0 := RQ2_idx0 t b x
    have ht : t.val < 8 := Nat.lt_of_lt_of_eq t.isLt trips2
    have hx : (x 0).val < 128 := (x 0).isLt
    rw [h0]; exact (blk2 _ _ (by omega) hx).1
  · intro h; rw [← RQ2_emb y t b h]; exact (RQ2 t b).idx_mem _
theorem readAt2_xOf {sp : Space} (v : View sig .tc sp S4096x128 .f32) (f) (y : S4096x128.Idx) (t : Fin k0_t2_loop.trips) (b : Fin 4) (h : blkOf 4 (y 0).val = 4 * t.val + b.val) :
    View.readAt (Elt F) v (RQ2 t b).toLoadRect f (xOf 4 y) = v.read (Elt F) f y :=
  congrArg (v.read (Elt F) f) (RQ2_emb y t b h)
theorem hit2 {sp : Space} (v : View sig .tc sp S4096x128 .f32) (f) (P0 P1 P2 P3 : FVec F S128x128 .f32) (y : S4096x128.Idx) (t : Fin k0_t2_loop.trips) (b : Fin 4) (h : blkOf 4 (y 0).val = 4 * t.val + b.val) :
    v.read (Elt F) (v.writes (Elt F) f [⟨RQ2 t 3, P3⟩, ⟨RQ2 t 2, P2⟩, ⟨RQ2 t 1, P1⟩, ⟨RQ2 t 0, P0⟩]) y = (![P0, P1, P2, P3] b) (xOf 4 y) := by
  exact hit4 v f (RQ2 t) (![P0, P1, P2, P3] : Fin 4 → FVec F S128x128 .f32) y b (xOf 4 y) (RQ2_emb y t b h)
    (fun b' hb hy => by rw [RQ2_mem] at hy; apply hb; apply Fin.ext; omega)
theorem miss2 {sp : Space} (v : View sig .tc sp S4096x128 .f32) (f) (P0 P1 P2 P3 : FVec F S128x128 .f32) (y : S4096x128.Idx) (t : Fin k0_t2_loop.trips) (h : blkOf 4 (y 0).val / 4 ≠ t.val) :
    v.read (Elt F) (v.writes (Elt F) f [⟨RQ2 t 3, P3⟩, ⟨RQ2 t 2, P2⟩, ⟨RQ2 t 1, P1⟩, ⟨RQ2 t 0, P0⟩]) y = v.read (Elt F) f y := by
  exact miss4 v f (RQ2 t) (![P0, P1, P2, P3] : Fin 4 → FVec F S128x128 .f32) y
    (fun b' hy => by rw [RQ2_mem] at hy; apply h; omega)

theorem trips3 : k0_t3_loop.trips = 8 := by decide
theorem RQ3_off0 : ∀ (t : Fin k0_t3_loop.trips) (b : Fin 4), (RQ3 t b).off 0 = blkPos 16 (4 * t.val + b.val) := by decide +kernel
theorem RQ3_off1 : ∀ (t : Fin k0_t3_loop.trips) (b : Fin 4), (RQ3 t b).off 1 = 0 := by decide +kernel
theorem RQ3_idx0 (t : Fin k0_t3_loop.trips) (b : Fin 4) (x : S128x128.Idx) : ((RQ3 t b).emb x 0).val = blkPos 16 (4 * t.val + b.val) + 16 * (x 0).val := by
  show (RQ3 t b).off 0 + (RQ3 t b).stride 0 * (x 0).val = _
  rw [RQ3_off0]; rfl
theorem RQ3_idx1 (t : Fin k0_t3_loop.trips) (b : Fin 4) (x : S128x128.Idx) : ((RQ3 t b).emb x 1).val = (x 1).val := by
  show (RQ3 t b).off 1 + 1 * (x 1).val = _
  rw [RQ3_off1, Nat.one_mul, Nat.zero_add]
theorem blk3 (m i : ℕ) (hm : m < 32) (hi : i < 128) : blkOf 16 (blkPos 16 m + 16 * i) = m ∧ idxOf 16 (blkPos 16 m + 16 * i) = i := by
  exact (show ∀ m' : Fin 32, ∀ i' : Fin 128, blkOf 16 (blkPos 16 m'.val + 16 * i'.val) = m'.val ∧ idxOf 16 (blkPos 16 m'.val + 16 * i'.val) = i'.val by decide +kernel) ⟨m, hm⟩ ⟨i, hi⟩
theorem blk3_lt (p : ℕ) (hp : p < 4096) : blkOf 16 p < 32 := (show ∀ p' : Fin 4096, blkOf 16 p'.val < 32 by decide +kernel) ⟨p, hp⟩
theorem blk3_eq (p : ℕ) (hp : p < 4096) : blkPos 16 (blkOf 16 p) + 16 * idxOf 16 p = p := (show ∀ p' : Fin 4096, blkPos 16 (blkOf 16 p'.val) + 16 * idxOf 16 p'.val = p'.val by decide +kernel) ⟨p, hp⟩
/-- The trip of loop 3 that holds a row. -/
def tOf3 (y : S4096x128.Idx) : Fin k0_t3_loop.trips := ⟨blkOf 16 (y 0).val / 4, by rw [trips3]; have := blk3_lt _ (y0_lt y); omega⟩
/-- Its block in the trip. -/
def bOf3 (y : S4096x128.Idx) : Fin 4 := ⟨blkOf 16 (y 0).val % 4, Nat.mod_lt _ (by norm_num)⟩
theorem RQ3_emb (y : S4096x128.Idx) (t : Fin k0_t3_loop.trips) (b : Fin 4) (h : blkOf 16 (y 0).val = 4 * t.val + b.val) : (RQ3 t b).emb (xOf 16 y) = y := by
  funext a
  apply Fin.ext
  match a with
  | ⟨0, _⟩ => exact (RQ3_idx0 t b (xOf 16 y)).trans (by rw [← h]; exact blk3_eq _ (y0_lt y))
  | ⟨1, _⟩ => exact RQ3_idx1 t b (xOf 16 y)
theorem RQ3_mem (y : S4096x128.Idx) (t : Fin k0_t3_loop.trips) (b : Fin 4) : y ∈ (RQ3 t b).set ↔ blkOf 16 (y 0).val = 4 * t.val + b.val := by
  constructor
  · intro h
    obtain ⟨x, hx⟩ : ∃ x, (RQ3 t b).emb x = y := (RQ3 t b).exists_idx_of_mem h
    subst hx
    have h0 := RQ3_idx0 t b x
    have ht : t.val < 8 := Nat.lt_of_lt_of_eq t.isLt trips3
    have hx : (x 0).val < 128 := (x 0).isLt
    rw [h0]; exact (blk3 _ _ (by omega) hx).1
  · intro h; rw [← RQ3_emb y t b h]; exact (RQ3 t b).idx_mem _
theorem readAt3_xOf {sp : Space} (v : View sig .tc sp S4096x128 .f32) (f) (y : S4096x128.Idx) (t : Fin k0_t3_loop.trips) (b : Fin 4) (h : blkOf 16 (y 0).val = 4 * t.val + b.val) :
    View.readAt (Elt F) v (RQ3 t b).toLoadRect f (xOf 16 y) = v.read (Elt F) f y :=
  congrArg (v.read (Elt F) f) (RQ3_emb y t b h)
theorem hit3 {sp : Space} (v : View sig .tc sp S4096x128 .f32) (f) (P0 P1 P2 P3 : FVec F S128x128 .f32) (y : S4096x128.Idx) (t : Fin k0_t3_loop.trips) (b : Fin 4) (h : blkOf 16 (y 0).val = 4 * t.val + b.val) :
    v.read (Elt F) (v.writes (Elt F) f [⟨RQ3 t 3, P3⟩, ⟨RQ3 t 2, P2⟩, ⟨RQ3 t 1, P1⟩, ⟨RQ3 t 0, P0⟩]) y = (![P0, P1, P2, P3] b) (xOf 16 y) := by
  exact hit4 v f (RQ3 t) (![P0, P1, P2, P3] : Fin 4 → FVec F S128x128 .f32) y b (xOf 16 y) (RQ3_emb y t b h)
    (fun b' hb hy => by rw [RQ3_mem] at hy; apply hb; apply Fin.ext; omega)
theorem miss3 {sp : Space} (v : View sig .tc sp S4096x128 .f32) (f) (P0 P1 P2 P3 : FVec F S128x128 .f32) (y : S4096x128.Idx) (t : Fin k0_t3_loop.trips) (h : blkOf 16 (y 0).val / 4 ≠ t.val) :
    v.read (Elt F) (v.writes (Elt F) f [⟨RQ3 t 3, P3⟩, ⟨RQ3 t 2, P2⟩, ⟨RQ3 t 1, P1⟩, ⟨RQ3 t 0, P0⟩]) y = v.read (Elt F) f y := by
  exact miss4 v f (RQ3 t) (![P0, P1, P2, P3] : Fin 4 → FVec F S128x128 .f32) y
    (fun b' hy => by rw [RQ3_mem] at hy; apply h; omega)

end Cert.Proof.KI
-- ==== Proof.KI.RowSt.lean ====
module

public import proofs.«01_k».proof.Proof.Gen.KernelIdeal.Skeleton
public import proofs.«01_k».proof.Proof.Gen.KernelIdeal.Loops
public import proofs.«01_k».proof.Proof.Gen.KernelIdeal
public import Idealize.ShloMosaic.Lib.Tactic
public import Idealize.ShloMosaic.Lib.ValueIdx
public import Idealize.ShloMosaic.Lib.Pipeline.Value
public import proofs.«01_k».proof.Proof.KI.Rows
public import proofs.«01_k».proof.Proof.KI.Loops

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx

/-! ## The running buffers after a loop's trips, row by row -/

variable {F : FTy → Type} [FloatOps F]

variable [Named F]
variable (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S4096x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4096x128 .f32) (harg15 : arg15.IsWhole) (v10 : BitVec 32) (v55 : IVec S1x128 1) (v65 : FVec F S256x128 .f32) (v66 : IVec S256x256 32) (v68 : BitVec 32) (v83 : IVec S256x256 32)
  (f10 : Buf (Elt F) (arg10.view.loc (c : Thread nD τ))) (f11 : Buf (Elt F) (arg11.view.loc (c : Thread nD τ))) (f12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ)))

set_option maxHeartbeats 400000 in
/-- A row after trip `t` of loop 1. -/
theorem trip1_row (t : Fin k0_t1_loop.trips) (y : S4096x128.Idx) :
    arg13.view.read (Elt F) (arg13.view.writes (Elt F) g13 (trip1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 g13 g14 g15).1) y = (if blkOf 1 (y 0).val / 4 = t.val then U1 c arg10 arg11 arg12 v10 v55 v65 v66 v68 v83 t f10 f11 f12 (bOf1 y) (xOf 1 y) else (arg13.view.read (Elt F) g13 y)) ∧
    arg14.view.read (Elt F) (arg14.view.writes (Elt F) g14 (trip1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 g13 g14 g15).2.1) y = (if blkOf 1 (y 0).val / 4 = t.val then M1 c arg10 arg11 v10 v55 v65 v66 v68 v83 t f10 f11 (bOf1 y) (xOf 1 y) else (arg14.view.read (Elt F) g14 y)) ∧
    arg15.view.read (Elt F) (arg15.view.writes (Elt F) g15 (trip1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 g13 g14 g15).2.2.1) y = (if blkOf 1 (y 0).val / 4 = t.val then L1 c arg10 arg11 v10 v55 v65 v66 v68 v83 t f10 f11 (bOf1 y) (xOf 1 y) else (arg15.view.read (Elt F) g15 y)) := by
  obtain ⟨l13, l14, l15⟩ := trip1_lists c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 g13 g14 g15
  have e13 := congrArg (fun L => arg13.view.read (Elt F) (arg13.view.writes (Elt F) g13 L) y) l13
  clear l13
  have e14 := congrArg (fun L => arg14.view.read (Elt F) (arg14.view.writes (Elt F) g14 L) y) l14
  clear l14
  have e15 := congrArg (fun L => arg15.view.read (Elt F) (arg15.view.writes (Elt F) g15 L) y) l15
  clear l15
  by_cases hb : blkOf 1 (y 0).val / 4 = t.val
  · rw [if_pos hb, if_pos hb, if_pos hb]
    have hbl : blkOf 1 (y 0).val = 4 * t.val + (bOf1 y).val := by show _ = 4 * t.val + _ % 4; omega
    have hm : ∀ b', b' ≠ bOf1 y → y ∉ (RQ1 t b').set := fun b' hb' hy => by rw [RQ1_mem] at hy; apply hb'; apply Fin.ext; omega
    have hx := RQ1_emb y t _ hbl
    refine ⟨e13.trans ?_, e14.trans ?_, e15.trans ?_⟩
    · exact (hit4 arg13.view g13 (RQ1 t) (fun b => (idc (U1 c arg10 arg11 arg12 v10 v55 v65 v66 v68 v83 t f10 f11 f12 b) : FVec F S128x128 .f32)) y (bOf1 y) (xOf 1 y) hx hm).trans ((congrFun (idc_eq (U1 c arg10 arg11 arg12 v10 v55 v65 v66 v68 v83 t f10 f11 f12 (bOf1 y))) (xOf 1 y)))
    · exact (hit4 arg14.view g14 (RQ1 t) (fun b => (idc (M1 c arg10 arg11 v10 v55 v65 v66 v68 v83 t f10 f11 b) : FVec F S128x128 .f32)) y (bOf1 y) (xOf 1 y) hx hm).trans ((congrFun (idc_eq (M1 c arg10 arg11 v10 v55 v65 v66 v68 v83 t f10 f11 (bOf1 y))) (xOf 1 y)))
    · exact (hit4 arg15.view g15 (RQ1 t) (fun b => (idc (L1 c arg10 arg11 v10 v55 v65 v66 v68 v83 t f10 f11 b) : FVec F S128x128 .f32)) y (bOf1 y) (xOf 1 y) hx hm).trans ((congrFun (idc_eq (L1 c arg10 arg11 v10 v55 v65 v66 v68 v83 t f10 f11 (bOf1 y))) (xOf 1 y)))
  · rw [if_neg hb, if_neg hb, if_neg hb]
    exact ⟨e13.trans (miss1 arg13.view g13 _ _ _ _ y t hb), e14.trans (miss1 arg14.view g14 _ _ _ _ y t hb), e15.trans (miss1 arg15.view g15 _ _ _ _ y t hb)⟩

set_option maxHeartbeats 400000 in
/-- A row after `k` trips of loop 1. -/
theorem st1_row (y : S4096x128.Idx) : ∀ k : ℕ, k ≤ 8 →
    arg13.view.read (Elt F) (st1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).1 y = (if blkOf 1 (y 0).val < 4 * k then U1 c arg10 arg11 arg12 v10 v55 v65 v66 v68 v83 (tOf1 y) f10 f11 f12 (bOf1 y) (xOf 1 y) else (arg13.view.read (Elt F) g13 y)) ∧
    arg14.view.read (Elt F) (st1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).2.1 y = (if blkOf 1 (y 0).val < 4 * k then M1 c arg10 arg11 v10 v55 v65 v66 v68 v83 (tOf1 y) f10 f11 (bOf1 y) (xOf 1 y) else (arg14.view.read (Elt F) g14 y)) ∧
    arg15.view.read (Elt F) (st1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).2.2 y = (if blkOf 1 (y 0).val < 4 * k then L1 c arg10 arg11 v10 v55 v65 v66 v68 v83 (tOf1 y) f10 f11 (bOf1 y) (xOf 1 y) else (arg15.view.read (Elt F) g15 y)) := by
  intro k
  induction k with
  | zero => intro _; rw [if_neg (by omega), if_neg (by omega), if_neg (by omega)]; exact ⟨rfl, rfl, rfl⟩
  | succ k ih =>
    intro hk
    have ih := ih (by omega)
    have hkt : k < k0_t1_loop.trips := by rw [trips1]; omega
    rw [st1, dif_pos hkt]
    generalize (st1 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k) = S at ih ⊢
    obtain ⟨s13, s14, s15⟩ := S
    obtain ⟨i13, i14, i15⟩ := ih
    obtain ⟨r13, r14, r15⟩ := trip1_row c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 s13 s14 s15 ⟨k, hkt⟩ y
    refine ⟨r13.trans ?_, r14.trans ?_, r15.trans ?_⟩
    all_goals
      clear r13 r14 r15
      dsimp only at i13 i14 i15
      by_cases hb : blkOf 1 (y 0).val / 4 = k
      · have hlt : blkOf 1 (y 0).val < 4 * (k + 1) := by omega
        have hnl : ¬ blkOf 1 (y 0).val < 4 * k := by omega
        rw [if_neg hnl] at i13 i14 i15
        have ht : tOf1 y = ⟨k, hkt⟩ := Fin.ext hb
        rw [if_pos hlt, if_pos (show blkOf 1 (y 0).val / 4 = (⟨k, hkt⟩ : Fin k0_t1_loop.trips).val from hb), ht]
        try rw [i14]
        try rw [i13]
        try rw [i15]
      · have e : (blkOf 1 (y 0).val < 4 * (k + 1)) = (blkOf 1 (y 0).val < 4 * k) := propext ⟨fun _ => by omega, fun _ => by omega⟩
        rw [if_neg (show ¬ blkOf 1 (y 0).val / 4 = (⟨k, hkt⟩ : Fin k0_t1_loop.trips).val from hb)]
        simp only [e]
        first | exact i13 | exact i14 | exact i15

set_option maxHeartbeats 400000 in
/-- A row after trip `t` of loop 2. -/
theorem trip2_row (t : Fin k0_t2_loop.trips) (y : S4096x128.Idx) :
    arg13.view.read (Elt F) (arg13.view.writes (Elt F) g13 (trip2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 g13 g14 g15).1) y = (if blkOf 4 (y 0).val / 4 = t.val then sA (arg13.view.read (Elt F) g13 y) (arg14.view.read (Elt F) g14 y) (U2 c arg10 arg11 arg12 v10 v55 v65 v66 v68 v83 t f10 f11 f12 (bOf2 y) (xOf 4 y)) (M2 c arg10 arg11 v10 v55 v65 v66 v68 v83 t f10 f11 (bOf2 y) (xOf 4 y)) else (arg13.view.read (Elt F) g13 y)) ∧
    arg14.view.read (Elt F) (arg14.view.writes (Elt F) g14 (trip2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 g13 g14 g15).2.1) y = (if blkOf 4 (y 0).val / 4 = t.val then sM (arg14.view.read (Elt F) g14 y) (M2 c arg10 arg11 v10 v55 v65 v66 v68 v83 t f10 f11 (bOf2 y) (xOf 4 y)) else (arg14.view.read (Elt F) g14 y)) ∧
    arg15.view.read (Elt F) (arg15.view.writes (Elt F) g15 (trip2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 g13 g14 g15).2.2.1) y = (if blkOf 4 (y 0).val / 4 = t.val then sA (arg15.view.read (Elt F) g15 y) (arg14.view.read (Elt F) g14 y) (L2 c arg10 arg11 v10 v55 v65 v66 v68 v83 t f10 f11 (bOf2 y) (xOf 4 y)) (M2 c arg10 arg11 v10 v55 v65 v66 v68 v83 t f10 f11 (bOf2 y) (xOf 4 y)) else (arg15.view.read (Elt F) g15 y)) := by
  obtain ⟨l13, l14, l15⟩ := trip2_lists c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 g13 g14 g15
  have e13 := congrArg (fun L => arg13.view.read (Elt F) (arg13.view.writes (Elt F) g13 L) y) l13
  clear l13
  have e14 := congrArg (fun L => arg14.view.read (Elt F) (arg14.view.writes (Elt F) g14 L) y) l14
  clear l14
  have e15 := congrArg (fun L => arg15.view.read (Elt F) (arg15.view.writes (Elt F) g15 L) y) l15
  clear l15
  by_cases hb : blkOf 4 (y 0).val / 4 = t.val
  · rw [if_pos hb, if_pos hb, if_pos hb]
    have hbl : blkOf 4 (y 0).val = 4 * t.val + (bOf2 y).val := by show _ = 4 * t.val + _ % 4; omega
    have hm : ∀ b', b' ≠ bOf2 y → y ∉ (RQ2 t b').set := fun b' hb' hy => by rw [RQ2_mem] at hy; apply hb'; apply Fin.ext; omega
    have hx := RQ2_emb y t _ hbl
    refine ⟨e13.trans ?_, e14.trans ?_, e15.trans ?_⟩
    · exact (hit4 arg13.view g13 (RQ2 t) (fun b => (idc (mrgA (View.readAt (Elt F) arg13.view (RQ2 t b).toLoadRect g13) (View.readAt (Elt F) arg14.view (RQ2 t b).toLoadRect g14) (U2 c arg10 arg11 arg12 v10 v55 v65 v66 v68 v83 t f10 f11 f12 b) (M2 c arg10 arg11 v10 v55 v65 v66 v68 v83 t f10 f11 b)) : FVec F S128x128 .f32)) y (bOf2 y) (xOf 4 y) hx hm).trans ((congrFun (idc_eq (mrgA (View.readAt (Elt F) arg13.view (RQ2 t (bOf2 y)).toLoadRect g13) (View.readAt (Elt F) arg14.view (RQ2 t (bOf2 y)).toLoadRect g14) (U2 c arg10 arg11 arg12 v10 v55 v65 v66 v68 v83 t f10 f11 f12 (bOf2 y)) (M2 c arg10 arg11 v10 v55 v65 v66 v68 v83 t f10 f11 (bOf2 y)))) (xOf 4 y)).trans ((mrgA_apply _ _ _ _ _).trans (sA_congr _ _ (readAt2_xOf arg13.view g13 y t _ hbl) (readAt2_xOf arg14.view g14 y t _ hbl))))
    · exact (hit4 arg14.view g14 (RQ2 t) (fun b => (idc (mrgM (View.readAt (Elt F) arg14.view (RQ2 t b).toLoadRect g14) (M2 c arg10 arg11 v10 v55 v65 v66 v68 v83 t f10 f11 b)) : FVec F S128x128 .f32)) y (bOf2 y) (xOf 4 y) hx hm).trans ((congrFun (idc_eq (mrgM (View.readAt (Elt F) arg14.view (RQ2 t (bOf2 y)).toLoadRect g14) (M2 c arg10 arg11 v10 v55 v65 v66 v68 v83 t f10 f11 (bOf2 y)))) (xOf 4 y)).trans ((mrgM_apply _ _ _).trans (sM_congr _ (readAt2_xOf arg14.view g14 y t _ hbl))))
    · exact (hit4 arg15.view g15 (RQ2 t) (fun b => (idc (mrgA (View.readAt (Elt F) arg15.view (RQ2 t b).toLoadRect g15) (View.readAt (Elt F) arg14.view (RQ2 t b).toLoadRect g14) (L2 c arg10 arg11 v10 v55 v65 v66 v68 v83 t f10 f11 b) (M2 c arg10 arg11 v10 v55 v65 v66 v68 v83 t f10 f11 b)) : FVec F S128x128 .f32)) y (bOf2 y) (xOf 4 y) hx hm).trans ((congrFun (idc_eq (mrgA (View.readAt (Elt F) arg15.view (RQ2 t (bOf2 y)).toLoadRect g15) (View.readAt (Elt F) arg14.view (RQ2 t (bOf2 y)).toLoadRect g14) (L2 c arg10 arg11 v10 v55 v65 v66 v68 v83 t f10 f11 (bOf2 y)) (M2 c arg10 arg11 v10 v55 v65 v66 v68 v83 t f10 f11 (bOf2 y)))) (xOf 4 y)).trans ((mrgA_apply _ _ _ _ _).trans (sA_congr _ _ (readAt2_xOf arg15.view g15 y t _ hbl) (readAt2_xOf arg14.view g14 y t _ hbl))))
  · rw [if_neg hb, if_neg hb, if_neg hb]
    exact ⟨e13.trans (miss2 arg13.view g13 _ _ _ _ y t hb), e14.trans (miss2 arg14.view g14 _ _ _ _ y t hb), e15.trans (miss2 arg15.view g15 _ _ _ _ y t hb)⟩

set_option maxHeartbeats 400000 in
/-- A row after `k` trips of loop 2. -/
theorem st2_row (y : S4096x128.Idx) : ∀ k : ℕ, k ≤ 8 →
    arg13.view.read (Elt F) (st2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).1 y = (if blkOf 4 (y 0).val < 4 * k then sA (arg13.view.read (Elt F) g13 y) (arg14.view.read (Elt F) g14 y) (U2 c arg10 arg11 arg12 v10 v55 v65 v66 v68 v83 (tOf2 y) f10 f11 f12 (bOf2 y) (xOf 4 y)) (M2 c arg10 arg11 v10 v55 v65 v66 v68 v83 (tOf2 y) f10 f11 (bOf2 y) (xOf 4 y)) else (arg13.view.read (Elt F) g13 y)) ∧
    arg14.view.read (Elt F) (st2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).2.1 y = (if blkOf 4 (y 0).val < 4 * k then sM (arg14.view.read (Elt F) g14 y) (M2 c arg10 arg11 v10 v55 v65 v66 v68 v83 (tOf2 y) f10 f11 (bOf2 y) (xOf 4 y)) else (arg14.view.read (Elt F) g14 y)) ∧
    arg15.view.read (Elt F) (st2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).2.2 y = (if blkOf 4 (y 0).val < 4 * k then sA (arg15.view.read (Elt F) g15 y) (arg14.view.read (Elt F) g14 y) (L2 c arg10 arg11 v10 v55 v65 v66 v68 v83 (tOf2 y) f10 f11 (bOf2 y) (xOf 4 y)) (M2 c arg10 arg11 v10 v55 v65 v66 v68 v83 (tOf2 y) f10 f11 (bOf2 y) (xOf 4 y)) else (arg15.view.read (Elt F) g15 y)) := by
  intro k
  induction k with
  | zero => intro _; rw [if_neg (by omega), if_neg (by omega), if_neg (by omega)]; exact ⟨rfl, rfl, rfl⟩
  | succ k ih =>
    intro hk
    have ih := ih (by omega)
    have hkt : k < k0_t2_loop.trips := by rw [trips2]; omega
    rw [st2, dif_pos hkt]
    generalize (st2 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k) = S at ih ⊢
    obtain ⟨s13, s14, s15⟩ := S
    obtain ⟨i13, i14, i15⟩ := ih
    obtain ⟨r13, r14, r15⟩ := trip2_row c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 s13 s14 s15 ⟨k, hkt⟩ y
    refine ⟨r13.trans ?_, r14.trans ?_, r15.trans ?_⟩
    all_goals
      clear r13 r14 r15
      dsimp only at i13 i14 i15
      by_cases hb : blkOf 4 (y 0).val / 4 = k
      · have hlt : blkOf 4 (y 0).val < 4 * (k + 1) := by omega
        have hnl : ¬ blkOf 4 (y 0).val < 4 * k := by omega
        rw [if_neg hnl] at i13 i14 i15
        have ht : tOf2 y = ⟨k, hkt⟩ := Fin.ext hb
        rw [if_pos hlt, if_pos (show blkOf 4 (y 0).val / 4 = (⟨k, hkt⟩ : Fin k0_t2_loop.trips).val from hb), ht]
        try rw [i14]
        try rw [i13]
        try rw [i15]
      · have e : (blkOf 4 (y 0).val < 4 * (k + 1)) = (blkOf 4 (y 0).val < 4 * k) := propext ⟨fun _ => by omega, fun _ => by omega⟩
        rw [if_neg (show ¬ blkOf 4 (y 0).val / 4 = (⟨k, hkt⟩ : Fin k0_t2_loop.trips).val from hb)]
        simp only [e]
        first | exact i13 | exact i14 | exact i15

set_option maxHeartbeats 400000 in
/-- A row after trip `t` of loop 3. -/
theorem trip3_row (t : Fin k0_t3_loop.trips) (y : S4096x128.Idx) :
    arg13.view.read (Elt F) (arg13.view.writes (Elt F) g13 (trip3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 g13 g14 g15).1) y = (if blkOf 16 (y 0).val / 4 = t.val then sA (arg13.view.read (Elt F) g13 y) (arg14.view.read (Elt F) g14 y) (U3 c arg10 arg11 arg12 v10 v55 v65 v66 v68 v83 t f10 f11 f12 (bOf3 y) (xOf 16 y)) (M3 c arg10 arg11 v10 v55 v65 v66 v68 v83 t f10 f11 (bOf3 y) (xOf 16 y)) else (arg13.view.read (Elt F) g13 y)) ∧
    arg14.view.read (Elt F) (arg14.view.writes (Elt F) g14 (trip3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 g13 g14 g15).2.1) y = (if blkOf 16 (y 0).val / 4 = t.val then sM (arg14.view.read (Elt F) g14 y) (M3 c arg10 arg11 v10 v55 v65 v66 v68 v83 t f10 f11 (bOf3 y) (xOf 16 y)) else (arg14.view.read (Elt F) g14 y)) ∧
    arg15.view.read (Elt F) (arg15.view.writes (Elt F) g15 (trip3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 g13 g14 g15).2.2.1) y = (if blkOf 16 (y 0).val / 4 = t.val then sA (arg15.view.read (Elt F) g15 y) (arg14.view.read (Elt F) g14 y) (L3 c arg10 arg11 v10 v55 v65 v66 v68 v83 t f10 f11 (bOf3 y) (xOf 16 y)) (M3 c arg10 arg11 v10 v55 v65 v66 v68 v83 t f10 f11 (bOf3 y) (xOf 16 y)) else (arg15.view.read (Elt F) g15 y)) := by
  obtain ⟨p13_0, p13_1, p13_2, p13_3, p14_0, p14_1, p14_2, p14_3, p15_0, p15_1, p15_2, p15_3, l13, l14, l15, a0, b0, c0, a1, b1, c1, a2, b2, c2, a3, b3, c3⟩ := trip3_lists c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 t f10 f11 f12 g13 g14 g15
  have e13 := congrArg (fun L => arg13.view.read (Elt F) (arg13.view.writes (Elt F) g13 L) y) l13
  clear l13
  have e14 := congrArg (fun L => arg14.view.read (Elt F) (arg14.view.writes (Elt F) g14 L) y) l14
  clear l14
  have e15 := congrArg (fun L => arg15.view.read (Elt F) (arg15.view.writes (Elt F) g15 L) y) l15
  clear l15
  by_cases hb : blkOf 16 (y 0).val / 4 = t.val
  · rw [if_pos hb, if_pos hb, if_pos hb]
    have hbl : blkOf 16 (y 0).val = 4 * t.val + (bOf3 y).val := by show _ = 4 * t.val + _ % 4; omega
    have hm : ∀ b', b' ≠ bOf3 y → y ∉ (RQ3 t b').set := fun b' hb' hy => by rw [RQ3_mem] at hy; apply hb'; apply Fin.ext; omega
    have hx := RQ3_emb y t _ hbl
    refine ⟨e13.trans ?_, e14.trans ?_, e15.trans ?_⟩
    · have key : ∀ b : Fin 4, blkOf 16 (y 0).val = 4 * t.val + b.val → (∀ b' : Fin 4, b' ≠ b → y ∉ (RQ3 t b').set) →
          sel4 p13_0 p13_1 p13_2 p13_3 b (xOf 16 y) = sA (arg13.view.read (Elt F) g13 y) (arg14.view.read (Elt F) g14 y) (U3 c arg10 arg11 arg12 v10 v55 v65 v66 v68 v83 t f10 f11 f12 b (xOf 16 y)) (M3 c arg10 arg11 v10 v55 v65 v66 v68 v83 t f10 f11 b (xOf 16 y)) := by
        refine fin4_of ?_ ?_ ?_ ?_ <;> intro hbl hm
        · refine (congrFun (a0.trans (idc_eq _)) (xOf 16 y)).trans ?_
          exact (mrgA_apply _ _ _ _ _).trans (sA_congr _ _ (readAt3_xOf arg13.view g13 y t 0 hbl) (readAt3_xOf arg14.view g14 y t 0 hbl))
        · refine (congrFun (a1.trans (idc_eq _)) (xOf 16 y)).trans ?_
          exact (mrgA_apply _ _ _ _ _).trans (sA_congr _ _ (readAt3_xOf arg13.view g13 y t 1 hbl) (readAt3_xOf arg14.view g14 y t 1 hbl))
        · refine (congrFun (a2.trans (idc_eq _)) (xOf 16 y)).trans ?_
          exact (mrgA_apply _ _ _ _ _).trans (sA_congr _ _ ((readAt3_xOf arg13.view _ y t 2 hbl).trans (missTwo arg13.view g13 (RQ3 t) (sel4 p13_0 p13_1 p13_2 p13_3) y (fun b' hb' => hm b' (fun e => by rw [e] at hb'; exact absurd hb' (by decide))))) ((readAt3_xOf arg14.view _ y t 2 hbl).trans (missTwo arg14.view g14 (RQ3 t) (sel4 p14_0 p14_1 p14_2 p14_3) y (fun b' hb' => hm b' (fun e => by rw [e] at hb'; exact absurd hb' (by decide))))))
        · refine (congrFun (a3.trans (idc_eq _)) (xOf 16 y)).trans ?_
          exact (mrgA_apply _ _ _ _ _).trans (sA_congr _ _ ((readAt3_xOf arg13.view _ y t 3 hbl).trans (missThree arg13.view g13 (RQ3 t) (sel4 p13_0 p13_1 p13_2 p13_3) y (fun b' hb' => hm b' (fun e => by rw [e] at hb'; exact absurd hb' (by decide))))) ((readAt3_xOf arg14.view _ y t 3 hbl).trans (missThree arg14.view g14 (RQ3 t) (sel4 p14_0 p14_1 p14_2 p14_3) y (fun b' hb' => hm b' (fun e => by rw [e] at hb'; exact absurd hb' (by decide))))))
      exact (hit4 arg13.view g13 (RQ3 t) (sel4 p13_0 p13_1 p13_2 p13_3) y (bOf3 y) (xOf 16 y) hx hm).trans (key (bOf3 y) hbl hm)
    · have key : ∀ b : Fin 4, blkOf 16 (y 0).val = 4 * t.val + b.val → (∀ b' : Fin 4, b' ≠ b → y ∉ (RQ3 t b').set) →
          sel4 p14_0 p14_1 p14_2 p14_3 b (xOf 16 y) = sM (arg14.view.read (Elt F) g14 y) (M3 c arg10 arg11 v10 v55 v65 v66 v68 v83 t f10 f11 b (xOf 16 y)) := by
        refine fin4_of ?_ ?_ ?_ ?_ <;> intro hbl hm
        · refine (congrFun (b0.trans (idc_eq _)) (xOf 16 y)).trans ?_
          exact (mrgM_apply _ _ _).trans (sM_congr _ (readAt3_xOf arg14.view g14 y t 0 hbl))
        · refine (congrFun (b1.trans (idc_eq _)) (xOf 16 y)).trans ?_
          exact (mrgM_apply _ _ _).trans (sM_congr _ (readAt3_xOf arg14.view g14 y t 1 hbl))
        · refine (congrFun (b2.trans (idc_eq _)) (xOf 16 y)).trans ?_
          exact (mrgM_apply _ _ _).trans (sM_congr _ ((readAt3_xOf arg14.view _ y t 2 hbl).trans (missTwo arg14.view g14 (RQ3 t) (sel4 p14_0 p14_1 p14_2 p14_3) y (fun b' hb' => hm b' (fun e => by rw [e] at hb'; exact absurd hb' (by decide))))))
        · refine (congrFun (b3.trans (idc_eq _)) (xOf 16 y)).trans ?_
          exact (mrgM_apply _ _ _).trans (sM_congr _ ((readAt3_xOf arg14.view _ y t 3 hbl).trans (missThree arg14.view g14 (RQ3 t) (sel4 p14_0 p14_1 p14_2 p14_3) y (fun b' hb' => hm b' (fun e => by rw [e] at hb'; exact absurd hb' (by decide))))))
      exact (hit4 arg14.view g14 (RQ3 t) (sel4 p14_0 p14_1 p14_2 p14_3) y (bOf3 y) (xOf 16 y) hx hm).trans (key (bOf3 y) hbl hm)
    · have key : ∀ b : Fin 4, blkOf 16 (y 0).val = 4 * t.val + b.val → (∀ b' : Fin 4, b' ≠ b → y ∉ (RQ3 t b').set) →
          sel4 p15_0 p15_1 p15_2 p15_3 b (xOf 16 y) = sA (arg15.view.read (Elt F) g15 y) (arg14.view.read (Elt F) g14 y) (L3 c arg10 arg11 v10 v55 v65 v66 v68 v83 t f10 f11 b (xOf 16 y)) (M3 c arg10 arg11 v10 v55 v65 v66 v68 v83 t f10 f11 b (xOf 16 y)) := by
        refine fin4_of ?_ ?_ ?_ ?_ <;> intro hbl hm
        · refine (congrFun (c0.trans (idc_eq _)) (xOf 16 y)).trans ?_
          exact (mrgA_apply _ _ _ _ _).trans (sA_congr _ _ (readAt3_xOf arg15.view g15 y t 0 hbl) (readAt3_xOf arg14.view g14 y t 0 hbl))
        · refine (congrFun (c1.trans (idc_eq _)) (xOf 16 y)).trans ?_
          exact (mrgA_apply _ _ _ _ _).trans (sA_congr _ _ (readAt3_xOf arg15.view g15 y t 1 hbl) (readAt3_xOf arg14.view g14 y t 1 hbl))
        · refine (congrFun (c2.trans (idc_eq _)) (xOf 16 y)).trans ?_
          exact (mrgA_apply _ _ _ _ _).trans (sA_congr _ _ ((readAt3_xOf arg15.view _ y t 2 hbl).trans (missTwo arg15.view g15 (RQ3 t) (sel4 p15_0 p15_1 p15_2 p15_3) y (fun b' hb' => hm b' (fun e => by rw [e] at hb'; exact absurd hb' (by decide))))) ((readAt3_xOf arg14.view _ y t 2 hbl).trans (missTwo arg14.view g14 (RQ3 t) (sel4 p14_0 p14_1 p14_2 p14_3) y (fun b' hb' => hm b' (fun e => by rw [e] at hb'; exact absurd hb' (by decide))))))
        · refine (congrFun (c3.trans (idc_eq _)) (xOf 16 y)).trans ?_
          exact (mrgA_apply _ _ _ _ _).trans (sA_congr _ _ ((readAt3_xOf arg15.view _ y t 3 hbl).trans (missThree arg15.view g15 (RQ3 t) (sel4 p15_0 p15_1 p15_2 p15_3) y (fun b' hb' => hm b' (fun e => by rw [e] at hb'; exact absurd hb' (by decide))))) ((readAt3_xOf arg14.view _ y t 3 hbl).trans (missThree arg14.view g14 (RQ3 t) (sel4 p14_0 p14_1 p14_2 p14_3) y (fun b' hb' => hm b' (fun e => by rw [e] at hb'; exact absurd hb' (by decide))))))
      exact (hit4 arg15.view g15 (RQ3 t) (sel4 p15_0 p15_1 p15_2 p15_3) y (bOf3 y) (xOf 16 y) hx hm).trans (key (bOf3 y) hbl hm)
  · rw [if_neg hb, if_neg hb, if_neg hb]
    exact ⟨e13.trans (miss3 arg13.view g13 _ _ _ _ y t hb), e14.trans (miss3 arg14.view g14 _ _ _ _ y t hb), e15.trans (miss3 arg15.view g15 _ _ _ _ y t hb)⟩

set_option maxHeartbeats 400000 in
/-- A row after `k` trips of loop 3. -/
theorem st3_row (y : S4096x128.Idx) : ∀ k : ℕ, k ≤ 8 →
    arg13.view.read (Elt F) (st3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).1 y = (if blkOf 16 (y 0).val < 4 * k then sA (arg13.view.read (Elt F) g13 y) (arg14.view.read (Elt F) g14 y) (U3 c arg10 arg11 arg12 v10 v55 v65 v66 v68 v83 (tOf3 y) f10 f11 f12 (bOf3 y) (xOf 16 y)) (M3 c arg10 arg11 v10 v55 v65 v66 v68 v83 (tOf3 y) f10 f11 (bOf3 y) (xOf 16 y)) else (arg13.view.read (Elt F) g13 y)) ∧
    arg14.view.read (Elt F) (st3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).2.1 y = (if blkOf 16 (y 0).val < 4 * k then sM (arg14.view.read (Elt F) g14 y) (M3 c arg10 arg11 v10 v55 v65 v66 v68 v83 (tOf3 y) f10 f11 (bOf3 y) (xOf 16 y)) else (arg14.view.read (Elt F) g14 y)) ∧
    arg15.view.read (Elt F) (st3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k).2.2 y = (if blkOf 16 (y 0).val < 4 * k then sA (arg15.view.read (Elt F) g15 y) (arg14.view.read (Elt F) g14 y) (L3 c arg10 arg11 v10 v55 v65 v66 v68 v83 (tOf3 y) f10 f11 (bOf3 y) (xOf 16 y)) (M3 c arg10 arg11 v10 v55 v65 v66 v68 v83 (tOf3 y) f10 f11 (bOf3 y) (xOf 16 y)) else (arg15.view.read (Elt F) g15 y)) := by
  intro k
  induction k with
  | zero => intro _; rw [if_neg (by omega), if_neg (by omega), if_neg (by omega)]; exact ⟨rfl, rfl, rfl⟩
  | succ k ih =>
    intro hk
    have ih := ih (by omega)
    have hkt : k < k0_t3_loop.trips := by rw [trips3]; omega
    rw [st3, dif_pos hkt]
    generalize (st3 c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 g13 g14 g15 k) = S at ih ⊢
    obtain ⟨s13, s14, s15⟩ := S
    obtain ⟨i13, i14, i15⟩ := ih
    obtain ⟨r13, r14, r15⟩ := trip3_row c i arg2 harg2 arg3 harg3 arg4 harg4 arg5 harg5 arg6 harg6 arg7 harg7 arg8 harg8 arg9 harg9 arg10 harg10 arg11 harg11 arg12 harg12 arg13 harg13 arg14 harg14 arg15 harg15 v10 v55 v65 v66 v68 v83 f10 f11 f12 s13 s14 s15 ⟨k, hkt⟩ y
    refine ⟨r13.trans ?_, r14.trans ?_, r15.trans ?_⟩
    all_goals
      clear r13 r14 r15
      dsimp only at i13 i14 i15
      by_cases hb : blkOf 16 (y 0).val / 4 = k
      · have hlt : blkOf 16 (y 0).val < 4 * (k + 1) := by omega
        have hnl : ¬ blkOf 16 (y 0).val < 4 * k := by omega
        rw [if_neg hnl] at i13 i14 i15
        have ht : tOf3 y = ⟨k, hkt⟩ := Fin.ext hb
        rw [if_pos hlt, if_pos (show blkOf 16 (y 0).val / 4 = (⟨k, hkt⟩ : Fin k0_t3_loop.trips).val from hb), ht]
        try rw [i14]
        try rw [i13]
        try rw [i15]
      · have e : (blkOf 16 (y 0).val < 4 * (k + 1)) = (blkOf 16 (y 0).val < 4 * k) := propext ⟨fun _ => by omega, fun _ => by omega⟩
        rw [if_neg (show ¬ blkOf 16 (y 0).val / 4 = (⟨k, hkt⟩ : Fin k0_t3_loop.trips).val from hb)]
        simp only [e]
        first | exact i13 | exact i14 | exact i15

end Cert.Proof.KI
-- ==== Proof.KI.Value.lean ====
module

public import proofs.«01_k».proof.Proof.Gen.KernelIdeal.Skeleton
public import proofs.«01_k».proof.Proof.Gen.KernelIdeal.Loops
public import proofs.«01_k».proof.Proof.Gen.KernelIdeal
public import proofs.«01_k».proof.Proof.KI.Loops
public import proofs.«01_k».proof.Proof.Gen.KernelIdeal.Frame
public import Idealize.ShloMosaic.Lib.Tactic
public import Idealize.ShloMosaic.Lib.VecWindow
public import Idealize.ShloMosaic.Lib.ValueIdx
public import proofs.«01_k».proof.Proof.KI.Body
public import proofs.«01_k».proof.Proof.KI.RowSt
public import proofs.«01_k».proof.Proof.Gen.KernelIdeal.Launch
public import Idealize.ShloMosaic.Lib.Pipeline.Frame

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open Idealize.ShloMosaic.ValueIdx

/-! ## What the body leaves, at one row and lane -/

section Value

variable (c : Dev nD) (i : grid0.Coords)
  (arg2 : Memref sig .tc .vmem S4096x128 .bf16) (harg2 : arg2.IsWhole)
  (arg3 : Memref sig .tc .vmem S4096x128 .bf16) (harg3 : arg3.IsWhole)
  (arg4 : Memref sig .tc .vmem S1024x128 .bf16) (harg4 : arg4.IsWhole)
  (arg5 : Memref sig .tc .vmem S1024x128 .bf16) (harg5 : arg5.IsWhole)
  (arg6 : Memref sig .tc .vmem S4096x128 .bf16) (harg6 : arg6.IsWhole)
  (arg7 : Memref sig .tc .vmem S1024x128 .bf16) (harg7 : arg7.IsWhole)
  (arg8 : Memref sig .tc .vmem S1024x128 .bf16) (harg8 : arg8.IsWhole)
  (arg9 : Memref sig .tc .vmem S4096x128 .bf16) (harg9 : arg9.IsWhole)
  (arg10 : Memref sig .tc .vmem S4096x128 .f32) (harg10 : arg10.IsWhole)
  (arg11 : Memref sig .tc .vmem S6144x128 .f32) (harg11 : arg11.IsWhole)
  (arg12 : Memref sig .tc .vmem S6144x128 .f32) (harg12 : arg12.IsWhole)
  (arg13 : Memref sig .tc .vmem S4096x128 .f32) (harg13 : arg13.IsWhole)
  (arg14 : Memref sig .tc .vmem S4096x128 .f32) (harg14 : arg14.IsWhole)
  (arg15 : Memref sig .tc .vmem S4096x128 .f32) (harg15 : arg15.IsWhole)
    (x2 : Vec F S4096x128 .bf16) (x3 : Vec F S4096x128 .bf16) (x4 : Vec F S1024x128 .bf16) (x5 : Vec F S1024x128 .bf16) (x6 : Vec F S4096x128 .bf16) (x7 : Vec F S1024x128 .bf16) (x8 : Vec F S1024x128 .bf16)

/-- The query scratch, written. -/
def F10 : Buf (Elt F) (arg10.view.loc (c : Thread nD τ)) := arg10.view.writes (Elt F) arg10.view.junk (kernelRun.sl.H10_1 c arg2 harg2 x2)
/-- The key scratch, written. -/
def F11 : Buf (Elt F) (arg11.view.loc (c : Thread nD τ)) := arg11.view.writes (Elt F) arg11.view.junk (kernelRun.sl.H11_3 c arg3 harg3 arg4 harg4 arg5 harg5 x3 x4 x5)
/-- The value scratch, written. -/
def F12 : Buf (Elt F) (arg12.view.loc (c : Thread nD τ)) := arg12.view.writes (Elt F) arg12.view.junk (kernelRun.sl.H12_3 c arg6 harg6 arg7 harg7 arg8 harg8 x6 x7 x8)

/-- The weighted values of a row and lane after the three branches' merges. -/
def accAt (y : S4096x128.Idx) : F .f32 :=
  sA (sA (U1 c arg10 arg11 arg12 (kernelRun.sl.v10 i) (cmpi CmpIPredicate.slt kernelRun.sl.v53 kernelRun.sl.v54) kernelRun.sl.v65 kernelRun.sl.v66 (128#32) kernelRun.sl.v83 (tOf1 y) (F10 c arg2 harg2 arg10 x2) (F11 c arg3 harg3 arg4 harg4 arg5 harg5 arg11 x3 x4 x5) (F12 c arg6 harg6 arg7 harg7 arg8 harg8 arg12 x6 x7 x8) (bOf1 y) (xOf 1 y)) (M1 c arg10 arg11 (kernelRun.sl.v10 i) (cmpi CmpIPredicate.slt kernelRun.sl.v53 kernelRun.sl.v54) kernelRun.sl.v65 kernelRun.sl.v66 (128#32) kernelRun.sl.v83 (tOf1 y) (F10 c arg2 harg2 arg10 x2) (F11 c arg3 harg3 arg4 harg4 arg5 harg5 arg11 x3 x4 x5) (bOf1 y) (xOf 1 y)) (U2 c arg10 arg11 arg12 (kernelRun.sl.v10 i) (cmpi CmpIPredicate.slt kernelRun.sl.v53 kernelRun.sl.v54) kernelRun.sl.v65 kernelRun.sl.v66 (128#32) kernelRun.sl.v83 (tOf2 y) (F10 c arg2 harg2 arg10 x2) (F11 c arg3 harg3 arg4 harg4 arg5 harg5 arg11 x3 x4 x5) (F12 c arg6 harg6 arg7 harg7 arg8 harg8 arg12 x6 x7 x8) (bOf2 y) (xOf 4 y)) (M2 c arg10 arg11 (kernelRun.sl.v10 i) (cmpi CmpIPredicate.slt kernelRun.sl.v53 kernelRun.sl.v54) kernelRun.sl.v65 kernelRun.sl.v66 (128#32) kernelRun.sl.v83 (tOf2 y) (F10 c arg2 harg2 arg10 x2) (F11 c arg3 harg3 arg4 harg4 arg5 harg5 arg11 x3 x4 x5) (bOf2 y) (xOf 4 y))) (sM (M1 c arg10 arg11 (kernelRun.sl.v10 i) (cmpi CmpIPredicate.slt kernelRun.sl.v53 kernelRun.sl.v54) kernelRun.sl.v65 kernelRun.sl.v66 (128#32) kernelRun.sl.v83 (tOf1 y) (F10 c arg2 harg2 arg10 x2) (F11 c arg3 harg3 arg4 harg4 arg5 harg5 arg11 x3 x4 x5) (bOf1 y) (xOf 1 y)) (M2 c arg10 arg11 (kernelRun.sl.v10 i) (cmpi CmpIPredicate.slt kernelRun.sl.v53 kernelRun.sl.v54) kernelRun.sl.v65 kernelRun.sl.v66 (128#32) kernelRun.sl.v83 (tOf2 y) (F10 c arg2 harg2 arg10 x2) (F11 c arg3 harg3 arg4 harg4 arg5 harg5 arg11 x3 x4 x5) (bOf2 y) (xOf 4 y))) (U3 c arg10 arg11 arg12 (kernelRun.sl.v10 i) (cmpi CmpIPredicate.slt kernelRun.sl.v53 kernelRun.sl.v54) kernelRun.sl.v65 kernelRun.sl.v66 (128#32) kernelRun.sl.v83 (tOf3 y) (F10 c arg2 harg2 arg10 x2) (F11 c arg3 harg3 arg4 harg4 arg5 harg5 arg11 x3 x4 x5) (F12 c arg6 harg6 arg7 harg7 arg8 harg8 arg12 x6 x7 x8) (bOf3 y) (xOf 16 y)) (M3 c arg10 arg11 (kernelRun.sl.v10 i) (cmpi CmpIPredicate.slt kernelRun.sl.v53 kernelRun.sl.v54) kernelRun.sl.v65 kernelRun.sl.v66 (128#32) kernelRun.sl.v83 (tOf3 y) (F10 c arg2 harg2 arg10 x2) (F11 c arg3 harg3 arg4 harg4 arg5 harg5 arg11 x3 x4 x5) (bOf3 y) (xOf 16 y))
/-- The mass of a row and lane after the three branches' merges. -/
def massAt (y : S4096x128.Idx) : F .f32 :=
  sA (sA (L1 c arg10 arg11 (kernelRun.sl.v10 i) (cmpi CmpIPredicate.slt kernelRun.sl.v53 kernelRun.sl.v54) kernelRun.sl.v65 kernelRun.sl.v66 (128#32) kernelRun.sl.v83 (tOf1 y) (F10 c arg2 harg2 arg10 x2) (F11 c arg3 harg3 arg4 harg4 arg5 harg5 arg11 x3 x4 x5) (bOf1 y) (xOf 1 y)) (M1 c arg10 arg11 (kernelRun.sl.v10 i) (cmpi CmpIPredicate.slt kernelRun.sl.v53 kernelRun.sl.v54) kernelRun.sl.v65 kernelRun.sl.v66 (128#32) kernelRun.sl.v83 (tOf1 y) (F10 c arg2 harg2 arg10 x2) (F11 c arg3 harg3 arg4 harg4 arg5 harg5 arg11 x3 x4 x5) (bOf1 y) (xOf 1 y)) (L2 c arg10 arg11 (kernelRun.sl.v10 i) (cmpi CmpIPredicate.slt kernelRun.sl.v53 kernelRun.sl.v54) kernelRun.sl.v65 kernelRun.sl.v66 (128#32) kernelRun.sl.v83 (tOf2 y) (F10 c arg2 harg2 arg10 x2) (F11 c arg3 harg3 arg4 harg4 arg5 harg5 arg11 x3 x4 x5) (bOf2 y) (xOf 4 y)) (M2 c arg10 arg11 (kernelRun.sl.v10 i) (cmpi CmpIPredicate.slt kernelRun.sl.v53 kernelRun.sl.v54) kernelRun.sl.v65 kernelRun.sl.v66 (128#32) kernelRun.sl.v83 (tOf2 y) (F10 c arg2 harg2 arg10 x2) (F11 c arg3 harg3 arg4 harg4 arg5 harg5 arg11 x3 x4 x5) (bOf2 y) (xOf 4 y))) (sM (M1 c arg10 arg11 (kernelRun.sl.v10 i) (cmpi CmpIPredicate.slt kernelRun.sl.v53 kernelRun.sl.v54) kernelRun.sl.v65 kernelRun.sl.v66 (128#32) kernelRun.sl.v83 (tOf1 y) (F10 c arg2 harg2 arg10 x2) (F11 c arg3 harg3 arg4 harg4 arg5 harg5 arg11 x3 x4 x5) (bOf1 y) (xOf 1 y)) (M2 c arg10 arg11 (kernelRun.sl.v10 i) (cmpi CmpIPredicate.slt kernelRun.sl.v53 kernelRun.sl.v54) kernelRun.sl.v65 kernelRun.sl.v66 (128#32) kernelRun.sl.v83 (tOf2 y) (F10 c arg2 harg2 arg10 x2) (F11 c arg3 harg3 arg4 harg4 arg5 harg5 arg11 x3 x4 x5) (bOf2 y) (xOf 4 y))) (L3 c arg10 arg11 (kernelRun.sl.v10 i) (cmpi CmpIPredicate.slt kernelRun.sl.v53 kernelRun.sl.v54) kernelRun.sl.v65 kernelRun.sl.v66 (128#32) kernelRun.sl.v83 (tOf3 y) (F10 c arg2 harg2 arg10 x2) (F11 c arg3 harg3 arg4 harg4 arg5 harg5 arg11 x3 x4 x5) (bOf3 y) (xOf 16 y)) (M3 c arg10 arg11 (kernelRun.sl.v10 i) (cmpi CmpIPredicate.slt kernelRun.sl.v53 kernelRun.sl.v54) kernelRun.sl.v65 kernelRun.sl.v66 (128#32) kernelRun.sl.v83 (tOf3 y) (F10 c arg2 harg2 arg10 x2) (F11 c arg3 harg3 arg4 harg4 arg5 harg5 arg11 x3 x4 x5) (bOf3 y) (xOf 16 y))

variable (g13 : Buf (Elt F) (arg13.view.loc (c : Thread nD τ))) (g14 : Buf (Elt F) (arg14.view.loc (c : Thread nD τ))) (g15 : Buf (Elt F) (arg15.view.loc (c : Thread nD τ)))

/-- The running buffers after the first loop. -/
def run1 := st1 c i arg2 harg2 arg3 harg3 arg4 harg4 arg5 harg5 arg6 harg6 arg7 harg7 arg8 harg8 arg9 harg9 arg10 harg10 arg11 harg11 arg12 harg12 arg13 harg13 arg14 harg14 arg15 harg15 (kernelRun.sl.v10 i) (cmpi CmpIPredicate.slt kernelRun.sl.v53 kernelRun.sl.v54) kernelRun.sl.v65 kernelRun.sl.v66 (128#32) kernelRun.sl.v83 (F10 c arg2 harg2 arg10 x2) (F11 c arg3 harg3 arg4 harg4 arg5 harg5 arg11 x3 x4 x5) (F12 c arg6 harg6 arg7 harg7 arg8 harg8 arg12 x6 x7 x8) g13 g14 g15 8
/-- The running buffers after the second loop. -/
def run2 := st2 c i arg2 harg2 arg3 harg3 arg4 harg4 arg5 harg5 arg6 harg6 arg7 harg7 arg8 harg8 arg9 harg9 arg10 harg10 arg11 harg11 arg12 harg12 arg13 harg13 arg14 harg14 arg15 harg15 (kernelRun.sl.v10 i) (cmpi CmpIPredicate.slt kernelRun.sl.v53 kernelRun.sl.v54) kernelRun.sl.v65 kernelRun.sl.v66 (128#32) kernelRun.sl.v83 (F10 c arg2 harg2 arg10 x2) (F11 c arg3 harg3 arg4 harg4 arg5 harg5 arg11 x3 x4 x5) (F12 c arg6 harg6 arg7 harg7 arg8 harg8 arg12 x6 x7 x8) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 8
/-- The running buffers after the third loop. -/
def run3 := st3 c i arg2 harg2 arg3 harg3 arg4 harg4 arg5 harg5 arg6 harg6 arg7 harg7 arg8 harg8 arg9 harg9 arg10 harg10 arg11 harg11 arg12 harg12 arg13 harg13 arg14 harg14 arg15 harg15 (kernelRun.sl.v10 i) (cmpi CmpIPredicate.slt kernelRun.sl.v53 kernelRun.sl.v54) kernelRun.sl.v65 kernelRun.sl.v66 (128#32) kernelRun.sl.v83 (F10 c arg2 harg2 arg10 x2) (F11 c arg3 harg3 arg4 harg4 arg5 harg5 arg11 x3 x4 x5) (F12 c arg6 harg6 arg7 harg7 arg8 harg8 arg12 x6 x7 x8) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 8

theorem run1_at (y : S4096x128.Idx) :
    arg13.view.read (Elt F) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 y = (U1 c arg10 arg11 arg12 (kernelRun.sl.v10 i) (cmpi CmpIPredicate.slt kernelRun.sl.v53 kernelRun.sl.v54) kernelRun.sl.v65 kernelRun.sl.v66 (128#32) kernelRun.sl.v83 (tOf1 y) (F10 c arg2 harg2 arg10 x2) (F11 c arg3 harg3 arg4 harg4 arg5 harg5 arg11 x3 x4 x5) (F12 c arg6 harg6 arg7 harg7 arg8 harg8 arg12 x6 x7 x8) (bOf1 y) (xOf 1 y)) ∧ arg14.view.read (Elt F) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 y = (M1 c arg10 arg11 (kernelRun.sl.v10 i) (cmpi CmpIPredicate.slt kernelRun.sl.v53 kernelRun.sl.v54) kernelRun.sl.v65 kernelRun.sl.v66 (128#32) kernelRun.sl.v83 (tOf1 y) (F10 c arg2 harg2 arg10 x2) (F11 c arg3 harg3 arg4 harg4 arg5 harg5 arg11 x3 x4 x5) (bOf1 y) (xOf 1 y)) ∧ arg15.view.read (Elt F) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 y = (L1 c arg10 arg11 (kernelRun.sl.v10 i) (cmpi CmpIPredicate.slt kernelRun.sl.v53 kernelRun.sl.v54) kernelRun.sl.v65 kernelRun.sl.v66 (128#32) kernelRun.sl.v83 (tOf1 y) (F10 c arg2 harg2 arg10 x2) (F11 c arg3 harg3 arg4 harg4 arg5 harg5 arg11 x3 x4 x5) (bOf1 y) (xOf 1 y)) := by
  have h1 : blkOf 1 (y 0).val < 4 * 8 := blk1_lt (y 0).val (y0_lt y)
  obtain ⟨a13, a14, a15⟩ := st1_row c i arg2 harg2 arg3 harg3 arg4 harg4 arg5 harg5 arg6 harg6 arg7 harg7 arg8 harg8 arg9 harg9 arg10 harg10 arg11 harg11 arg12 harg12 arg13 harg13 arg14 harg14 arg15 harg15 (kernelRun.sl.v10 i) (cmpi CmpIPredicate.slt kernelRun.sl.v53 kernelRun.sl.v54) kernelRun.sl.v65 kernelRun.sl.v66 (128#32) kernelRun.sl.v83 (F10 c arg2 harg2 arg10 x2) (F11 c arg3 harg3 arg4 harg4 arg5 harg5 arg11 x3 x4 x5) (F12 c arg6 harg6 arg7 harg7 arg8 harg8 arg12 x6 x7 x8) g13 g14 g15 y 8 le_rfl
  unfold run1
  exact ⟨a13.trans (if_pos h1), a14.trans (if_pos h1), a15.trans (if_pos h1)⟩

theorem run2_at (y : S4096x128.Idx) :
    arg13.view.read (Elt F) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 y = sA (arg13.view.read (Elt F) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 y) (arg14.view.read (Elt F) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 y) (U2 c arg10 arg11 arg12 (kernelRun.sl.v10 i) (cmpi CmpIPredicate.slt kernelRun.sl.v53 kernelRun.sl.v54) kernelRun.sl.v65 kernelRun.sl.v66 (128#32) kernelRun.sl.v83 (tOf2 y) (F10 c arg2 harg2 arg10 x2) (F11 c arg3 harg3 arg4 harg4 arg5 harg5 arg11 x3 x4 x5) (F12 c arg6 harg6 arg7 harg7 arg8 harg8 arg12 x6 x7 x8) (bOf2 y) (xOf 4 y)) (M2 c arg10 arg11 (kernelRun.sl.v10 i) (cmpi CmpIPredicate.slt kernelRun.sl.v53 kernelRun.sl.v54) kernelRun.sl.v65 kernelRun.sl.v66 (128#32) kernelRun.sl.v83 (tOf2 y) (F10 c arg2 harg2 arg10 x2) (F11 c arg3 harg3 arg4 harg4 arg5 harg5 arg11 x3 x4 x5) (bOf2 y) (xOf 4 y)) ∧ arg14.view.read (Elt F) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 y = sM (arg14.view.read (Elt F) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 y) (M2 c arg10 arg11 (kernelRun.sl.v10 i) (cmpi CmpIPredicate.slt kernelRun.sl.v53 kernelRun.sl.v54) kernelRun.sl.v65 kernelRun.sl.v66 (128#32) kernelRun.sl.v83 (tOf2 y) (F10 c arg2 harg2 arg10 x2) (F11 c arg3 harg3 arg4 harg4 arg5 harg5 arg11 x3 x4 x5) (bOf2 y) (xOf 4 y)) ∧
    arg15.view.read (Elt F) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 y = sA (arg15.view.read (Elt F) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 y) (arg14.view.read (Elt F) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 y) (L2 c arg10 arg11 (kernelRun.sl.v10 i) (cmpi CmpIPredicate.slt kernelRun.sl.v53 kernelRun.sl.v54) kernelRun.sl.v65 kernelRun.sl.v66 (128#32) kernelRun.sl.v83 (tOf2 y) (F10 c arg2 harg2 arg10 x2) (F11 c arg3 harg3 arg4 harg4 arg5 harg5 arg11 x3 x4 x5) (bOf2 y) (xOf 4 y)) (M2 c arg10 arg11 (kernelRun.sl.v10 i) (cmpi CmpIPredicate.slt kernelRun.sl.v53 kernelRun.sl.v54) kernelRun.sl.v65 kernelRun.sl.v66 (128#32) kernelRun.sl.v83 (tOf2 y) (F10 c arg2 harg2 arg10 x2) (F11 c arg3 harg3 arg4 harg4 arg5 harg5 arg11 x3 x4 x5) (bOf2 y) (xOf 4 y)) := by
  have h2 : blkOf 4 (y 0).val < 4 * 8 := blk2_lt (y 0).val (y0_lt y)
  obtain ⟨a13, a14, a15⟩ := st2_row c i arg2 harg2 arg3 harg3 arg4 harg4 arg5 harg5 arg6 harg6 arg7 harg7 arg8 harg8 arg9 harg9 arg10 harg10 arg11 harg11 arg12 harg12 arg13 harg13 arg14 harg14 arg15 harg15 (kernelRun.sl.v10 i) (cmpi CmpIPredicate.slt kernelRun.sl.v53 kernelRun.sl.v54) kernelRun.sl.v65 kernelRun.sl.v66 (128#32) kernelRun.sl.v83 (F10 c arg2 harg2 arg10 x2) (F11 c arg3 harg3 arg4 harg4 arg5 harg5 arg11 x3 x4 x5) (F12 c arg6 harg6 arg7 harg7 arg8 harg8 arg12 x6 x7 x8) (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 (run1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 y 8 le_rfl
  unfold run2
  exact ⟨a13.trans (if_pos h2), a14.trans (if_pos h2), a15.trans (if_pos h2)⟩

theorem run3_at' (y : S4096x128.Idx) :
    arg13.view.read (Elt F) (run3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 y = sA (arg13.view.read (Elt F) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 y) (arg14.view.read (Elt F) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 y) (U3 c arg10 arg11 arg12 (kernelRun.sl.v10 i) (cmpi CmpIPredicate.slt kernelRun.sl.v53 kernelRun.sl.v54) kernelRun.sl.v65 kernelRun.sl.v66 (128#32) kernelRun.sl.v83 (tOf3 y) (F10 c arg2 harg2 arg10 x2) (F11 c arg3 harg3 arg4 harg4 arg5 harg5 arg11 x3 x4 x5) (F12 c arg6 harg6 arg7 harg7 arg8 harg8 arg12 x6 x7 x8) (bOf3 y) (xOf 16 y)) (M3 c arg10 arg11 (kernelRun.sl.v10 i) (cmpi CmpIPredicate.slt kernelRun.sl.v53 kernelRun.sl.v54) kernelRun.sl.v65 kernelRun.sl.v66 (128#32) kernelRun.sl.v83 (tOf3 y) (F10 c arg2 harg2 arg10 x2) (F11 c arg3 harg3 arg4 harg4 arg5 harg5 arg11 x3 x4 x5) (bOf3 y) (xOf 16 y)) ∧
    arg15.view.read (Elt F) (run3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 y = sA (arg15.view.read (Elt F) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 y) (arg14.view.read (Elt F) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 y) (L3 c arg10 arg11 (kernelRun.sl.v10 i) (cmpi CmpIPredicate.slt kernelRun.sl.v53 kernelRun.sl.v54) kernelRun.sl.v65 kernelRun.sl.v66 (128#32) kernelRun.sl.v83 (tOf3 y) (F10 c arg2 harg2 arg10 x2) (F11 c arg3 harg3 arg4 harg4 arg5 harg5 arg11 x3 x4 x5) (bOf3 y) (xOf 16 y)) (M3 c arg10 arg11 (kernelRun.sl.v10 i) (cmpi CmpIPredicate.slt kernelRun.sl.v53 kernelRun.sl.v54) kernelRun.sl.v65 kernelRun.sl.v66 (128#32) kernelRun.sl.v83 (tOf3 y) (F10 c arg2 harg2 arg10 x2) (F11 c arg3 harg3 arg4 harg4 arg5 harg5 arg11 x3 x4 x5) (bOf3 y) (xOf 16 y)) := by
  have h3 : blkOf 16 (y 0).val < 4 * 8 := blk3_lt (y 0).val (y0_lt y)
  obtain ⟨a13, a14, a15⟩ := st3_row c i arg2 harg2 arg3 harg3 arg4 harg4 arg5 harg5 arg6 harg6 arg7 harg7 arg8 harg8 arg9 harg9 arg10 harg10 arg11 harg11 arg12 harg12 arg13 harg13 arg14 harg14 arg15 harg15 (kernelRun.sl.v10 i) (cmpi CmpIPredicate.slt kernelRun.sl.v53 kernelRun.sl.v54) kernelRun.sl.v65 kernelRun.sl.v66 (128#32) kernelRun.sl.v83 (F10 c arg2 harg2 arg10 x2) (F11 c arg3 harg3 arg4 harg4 arg5 harg5 arg11 x3 x4 x5) (F12 c arg6 harg6 arg7 harg7 arg8 harg8 arg12 x6 x7 x8) (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.1 (run2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 y 8 le_rfl
  unfold run3
  exact ⟨a13.trans (if_pos h3), a15.trans (if_pos h3)⟩

theorem v87_run : kernelRun.sl.v87 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 = View.readAt (Elt F) arg13.view (Rect.unit ![0, 0] S4096x128.size inb_S4096x128_S4096x128_0_0).toLoadRect (run3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 := rfl
theorem v88_run : kernelRun.sl.v88 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 = View.readAt (Elt F) arg15.view (Rect.unit ![0, 0] S4096x128.size inb_S4096x128_S4096x128_0_0).toLoadRect (run3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 := rfl

attribute [local irreducible] run1 run2 run3

theorem run3_at (y : S4096x128.Idx) :
    arg13.view.read (Elt F) (run3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).1 y = accAt c i arg2 harg2 arg3 harg3 arg4 harg4 arg5 harg5 arg6 harg6 arg7 harg7 arg8 harg8 arg10 arg11 arg12 x2 x3 x4 x5 x6 x7 x8 y ∧ arg15.view.read (Elt F) (run3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).2.2 y = massAt c i arg2 harg2 arg3 harg3 arg4 harg4 arg5 harg5 arg10 arg11 x2 x3 x4 x5 y := by
  obtain ⟨a13, a14, a15⟩ := run1_at c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 y
  obtain ⟨b13, b14, b15⟩ := run2_at c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 y
  obtain ⟨c13, c15⟩ := run3_at' c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 y
  rw [a13, a14] at b13
  rw [a14] at b14
  rw [a15, a14] at b15
  rw [b13, b14] at c13
  rw [b15, b14] at c15
  exact ⟨c13, c15⟩

/-- The block's result: the weighted values over the mass, entry by entry, rounded to the output's type. -/
def outVal : Vec F S4096x128 .bf16 := k0_pay8 (fun y => accAt c i arg2 harg2 arg3 harg3 arg4 harg4 arg5 harg5 arg6 harg6 arg7 harg7 arg8 harg8 arg10 arg11 arg12 x2 x3 x4 x5 x6 x7 x8 y) (fun y => massAt c i arg2 harg2 arg3 harg3 arg4 harg4 arg5 harg5 arg10 arg11 x2 x3 x4 x5 y)

theorem v87_eq : kernelRun.sl.v87 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 = fun y => accAt c i arg2 harg2 arg3 harg3 arg4 harg4 arg5 harg5 arg6 harg6 arg7 harg7 arg8 harg8 arg10 arg11 arg12 x2 x3 x4 x5 x6 x7 x8 y :=
  (v87_run c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).trans ((View.readAt_full arg13.view _ _).trans (funext fun y => (run3_at c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 y).1))
theorem v88_eq : kernelRun.sl.v88 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 = fun y => massAt c i arg2 harg2 arg3 harg3 arg4 harg4 arg5 harg5 arg10 arg11 x2 x3 x4 x5 y :=
  (v88_run c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15).trans ((View.readAt_full arg15.view _ _).trans (funext fun y => (run3_at c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 g13 g14 g15 y).2))

/-- What the run leaves in the output's buffer does not depend on what the scratch held. -/
theorem kernelRun_val (g10 g11 g12) : (kernelRun c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8).1 g10 g11 g12 g13 g14 g15 = outVal c i arg2 harg2 arg3 harg3 arg4 harg4 arg5 harg5 arg6 harg6 arg7 harg7 arg8 harg8 arg10 arg11 arg12 x2 x3 x4 x5 x6 x7 x8 := by
  unfold kernelRun
  dsimp only
  unfold kernelRun.sl.H9_1
  rw [v87_eq, v88_eq]
  funext y
  refine (View.read_writes_cons_hit arg9.view _ (Rect.unit ![0, 0] S4096x128.size inb_S4096x128_S4096x128_0_0) _ _ y y (funext fun a => Fin.ext (by fin_cases a <;> exact (Nat.zero_add _).trans (Nat.one_mul _)))).trans ?_
  rfl

end Value

end Cert.Proof.KI

end
-- ==== Proof.KI.Run.lean ====
module

public import proofs.«01_k».proof.Proof.Gen.KernelIdeal.Skeleton
public import proofs.«01_k».proof.Proof.Gen.KernelIdeal.Loops
public import proofs.«01_k».proof.Proof.Gen.KernelIdeal
public import proofs.«01_k».proof.Proof.KI.Loops
public import proofs.«01_k».proof.Proof.Gen.KernelIdeal.Frame
public import Idealize.ShloMosaic.Lib.Tactic
public import Idealize.ShloMosaic.Lib.VecWindow
public import Idealize.ShloMosaic.Lib.ValueIdx
public import proofs.«01_k».proof.Proof.KI.Value
public import proofs.«01_k».proof.Proof.KI.RowSt
public import proofs.«01_k».proof.Proof.Gen.KernelIdeal.Launch
public import Idealize.ShloMosaic.Lib.Pipeline.Frame

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0_0 (t : Fin cfg0.N) : Memref sig .tc .vmem S4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x128 .bf16 := win0_7.stage (cfg0.slots t 7)
abbrev hs0_7 (t : Fin cfg0.N) : (ms0_7 t).IsWhole := hstage0_7 ((cfg0.slots t 7).cast nbuf0_7)

/-- The value the body leaves in the result's staging buffer at a point. -/
def outsAt (c : Dev nD) (t : Fin cfg0.N) : Vec F S4096x128 .bf16 :=
  outVal c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (Memref.whole cc0_scratch0) (Memref.whole cc0_scratch1) (Memref.whole cc0_scratch2) (iblk m c 0 t) (iblk m c 1 t) (iblk m c 2 t) (iblk m c 3 t) (iblk m c 4 t) (iblk m c 5 t) (iblk m c 6 t)

/-! ## The pipeline's proof data -/

/-- The arrays as the region finds them; after the body each input's buffer at its block and the result's at
    `outsAt`; the scratch at some contents; nothing owed; each input's share of its array, which other inputs may share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t
  Φ _ := Pipeline.ΦA spec0 c
  q w := if (spec0 w).isOut then fullShare else Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

/-- A whole scratch buffer held through its view is the buffer held. -/
theorem whole_pts (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) := by
  rw [show (Memref.whole b).view.set = Finset.univ from View.set_whole b]

set_option maxHeartbeats 300000 in
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [show outsAt m c t = (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t)).1 f0 f1 f2 f3 f4 f5 from (kernelRun_val ..).symm]
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t)).2 f0 f1 f2 f3 f4 f5 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · rw [whole_pts]; iexact S0
  isplitl [S1]; · rw [whole_pts]; iexact S1
  isplitl [S2]; · rw [whole_pts]; iexact S2
  isplitl [S3]; · rw [whole_pts]; iexact S3
  isplitl [S4]; · rw [whole_pts]; iexact S4
  isplitl [S5]; · rw [whole_pts]; iexact S5
  iintro ⟨H0, H1, H2, H3, H4, H5, H6, H7, ⟨%e0, S0⟩, ⟨%e1, S1⟩, ⟨%e2, S2⟩, ⟨%e3, S3⟩, ⟨%e4, S4⟩, ⟨%e5, S5⟩⟩
  isplitl [Hg S0 S1 S2 S3 S4 S5]
  · isplitr [Hg]
    · isplitl [S0]; · iexists e0; rw [← whole_pts]; iexact S0
      isplitl [S1]; · iexists e1; rw [← whole_pts]; iexact S1
      isplitl [S2]; · iexists e2; rw [← whole_pts]; iexact S2
      isplitl [S3]; · iexists e3; rw [← whole_pts]; iexact S3
      isplitl [S4]; · iexists e4; rw [← whole_pts]; iexact S4
      iexists e5; rw [← whole_pts]; iexact S5
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The run and the frame -/

set_option backward.isDefEq.respectTransparency.types false in
/-- Every weakly fair execution terminates, every array of the pipeline at what the library computes from the proof
    data, every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ w h => if_neg (by rw [h]; exact Bool.false_ne_true))
    (howed := fun _ _ => rfl) (V := V m) (hmain := hmain m 𝒱₀) (hA := fun _ _ => rfl) (hΦ := fun _ _ => rfl)

/-- The arguments end as they began, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.Proof.KI

end
-- ==== Proof.At.Spec.lean ====
module

public import Idealize.ShloMosaic.PureOps.Ideal
public import Idealize.ShloMosaic.PureOps.Ideal.Laws

@[expose] public section

noncomputable section

namespace Cert.Proof.At

open Idealize.ShloMosaic

/-! ## Softmax over a branch, and the merge of three

Over the extended reals, without any finiteness: the greatest score of a branch, the exponentials below it, their
sum and the sum weighted by values; and that merging three branches one after another gives what weighting their
normalised outputs by their masses gives.
-/

section Soft
variable {ι κ : Type} [Fintype ι] [Fintype κ]

/-- The greatest score. -/
def top (s : ι → EReal) : EReal := Finset.univ.sup s
/-- A score's weight: the exponential of its distance below the greatest. -/
def wt (s : ι → EReal) (i : ι) : EReal := Ideal.exp (s i - top s)
/-- The branch's mass. -/
def mass (s : ι → EReal) : EReal := ∑ i, wt s i
/-- The branch's weighted values. -/
def wsum (s v : ι → EReal) : EReal := ∑ i, wt s i * v i

theorem exp_bot_sub (a : EReal) : Ideal.exp (⊥ - a) = 0 := by
  rw [EReal.bot_sub]; rfl

/-- A weight is a real between zero and one. -/
theorem exp_sub_real {a b : EReal} (h : a ≤ b) : ∃ r : ℝ, 0 ≤ r ∧ Ideal.exp (a - b) = (r : EReal) := by
  induction b using EReal.rec with
  | bot => obtain rfl := le_bot_iff.mp h; exact ⟨0, le_rfl, exp_bot_sub _⟩
  | top => refine ⟨0, le_rfl, ?_⟩; rw [EReal.sub_top]; rfl
  | coe b =>
    induction a using EReal.rec with
    | bot => exact ⟨0, le_rfl, exp_bot_sub _⟩
    | top => exact absurd h (by simp)
    | coe a => exact ⟨Real.exp (a - b), (Real.exp_pos _).le, by rw [← EReal.coe_sub]; rfl⟩

/-- Two steps down the exponential are one. -/
theorem exp_step {a b c : EReal} (hab : a ≤ b) (hbc : b ≤ c) :
    Ideal.exp (a - b) * Ideal.exp (b - c) = Ideal.exp (a - c) := by
  induction c using EReal.rec with
  | bot => obtain rfl := le_bot_iff.mp hbc; obtain rfl := le_bot_iff.mp hab; rw [exp_bot_sub]; simp
  | top => rw [EReal.sub_top, EReal.sub_top]; change _ * (0 : EReal) = 0; simp
  | coe c =>
    induction b using EReal.rec with
    | bot => obtain rfl := le_bot_iff.mp hab; rw [exp_bot_sub, exp_bot_sub]; simp
    | top => exact absurd hbc (by simp)
    | coe b =>
      induction a using EReal.rec with
      | bot => rw [exp_bot_sub, exp_bot_sub]; simp
      | top => exact absurd hab (by simp)
      | coe a =>
        rw [← EReal.coe_sub, ← EReal.coe_sub, ← EReal.coe_sub]
        change ((Real.exp _ : ℝ) : EReal) * ((Real.exp _ : ℝ) : EReal) = ((Real.exp _ : ℝ) : EReal)
        rw [← EReal.coe_mul, ← Real.exp_add]; congr 2; ring

theorem coe_sum' (S : Finset ι) (r : ι → ℝ) : ((∑ i ∈ S, r i : ℝ) : EReal) = ∑ i ∈ S, (r i : EReal) := by
  classical
  induction S using Finset.induction_on with
  | empty => simp
  | insert a S ha ih => rw [Finset.sum_insert ha, Finset.sum_insert ha, EReal.coe_add, ih]

theorem le_top_score (s : ι → EReal) (i : ι) : s i ≤ top s := Finset.le_sup (Finset.mem_univ i)

/-- The mass is a real that is not negative, and where it is zero every weight is. -/
theorem mass_real (s : ι → EReal) : ∃ l : ℝ, 0 ≤ l ∧ mass s = (l : EReal) ∧ (l = 0 → ∀ i, wt s i = 0) := by
  choose r hr0 hr using fun i => exp_sub_real (le_top_score s i)
  refine ⟨∑ i, r i, Finset.sum_nonneg fun i _ => hr0 i, ?_, fun h i => ?_⟩
  · rw [coe_sum']; exact Finset.sum_congr rfl fun i _ => hr i
  · have := (Finset.sum_eq_zero_iff_of_nonneg fun i _ => hr0 i).mp h i (Finset.mem_univ i)
    rw [wt, hr, this]; rfl

/-- Keys whose score is −∞ may be left out. -/
theorem top_embed (e : ι → κ) (f : κ → EReal) (g : ι → EReal) (hg : ∀ i, f (e i) = g i)
    (h0 : ∀ k, k ∉ Set.range e → f k = ⊥) : top f = top g := by
  apply le_antisymm
  · refine Finset.sup_le fun k _ => ?_
    by_cases hk : k ∈ Set.range e
    · obtain ⟨i, rfl⟩ := hk; rw [hg]; exact le_top_score g i
    · rw [h0 k hk]; exact bot_le
  · refine Finset.sup_le fun i _ => ?_
    rw [← hg]; exact le_top_score f _

theorem mass_embed (e : ι → κ) (he : Function.Injective e) (f : κ → EReal) (g : ι → EReal) (hg : ∀ i, f (e i) = g i)
    (h0 : ∀ k, k ∉ Set.range e → f k = ⊥) : mass f = mass g := by
  refine (Fintype.sum_of_injective e he _ _ (fun k hk => ?_) fun i => ?_).symm
  · rw [wt, h0 k hk, exp_bot_sub]
  · rw [wt, wt, hg, top_embed e f g hg h0]

theorem wsum_embed (e : ι → κ) (he : Function.Injective e) (f v : κ → EReal) (g w : ι → EReal) (hg : ∀ i, f (e i) = g i)
    (h0 : ∀ k, k ∉ Set.range e → f k = ⊥) (hv : ∀ i, g i ≠ ⊥ → v (e i) = w i) : wsum f v = wsum g w := by
  refine (Fintype.sum_of_injective e he _ _ (fun k hk => ?_) fun i => ?_).symm
  · rw [wt, h0 k hk, exp_bot_sub, zero_mul]
  · rw [wt, wt, hg, top_embed e f g hg h0]
    by_cases h : g i = ⊥
    · rw [h, exp_bot_sub, zero_mul, zero_mul]
    · rw [hv i h]

/-- The values matter only where a key is not masked. -/
theorem wsum_congr (g v w : ι → EReal) (hv : ∀ i, g i ≠ ⊥ → v i = w i) : wsum g v = wsum g w :=
  wsum_embed id Function.injective_id g v g w (fun _ => rfl) (fun k hk => absurd ⟨k, rfl⟩ hk) hv

end Soft

/-- A real factor that is not negative goes into a sum. -/
theorem mul_sum_real {ι : Type} (S : Finset ι) (r : ℝ) (hr : 0 ≤ r) (f : ι → EReal) :
    ∑ i ∈ S, (r : EReal) * f i = (r : EReal) * ∑ i ∈ S, f i := by
  classical
  induction S using Finset.induction_on with
  | empty => simp
  | insert a S ha ih =>
    rw [Finset.sum_insert ha, Finset.sum_insert ha, ih, EReal.left_distrib_of_nonneg_of_ne_top (by exact_mod_cast hr) (EReal.coe_ne_top r)]

/-- A branch's output times its mass is its weighted values. -/
theorem mass_mul_div (l : ℝ) (e u : EReal) (h : l = 0 → u = 0) : ((l : EReal) * e) * Ideal.div u (l : EReal) = u * e := by
  by_cases hl : l = 0
  · rw [hl, h hl]; simp
  · rw [Ideal.div_coe hl, mul_comm (l : EReal) e, mul_assoc, mul_left_comm (l : EReal) u, ← EReal.coe_mul, mul_one_div, div_self hl,
      EReal.coe_one, mul_one, mul_comm]

/-- The running merge of three branches' totals, each kept relative to the greatest score so far. -/
def run3 (m u : Fin 3 → EReal) : EReal :=
  (u 0 * Ideal.exp (m 0 - max (m 0) (m 1)) + u 1 * Ideal.exp (m 1 - max (m 0) (m 1))) *
      Ideal.exp (max (m 0) (m 1) - max (max (m 0) (m 1)) (m 2)) + u 2 * Ideal.exp (m 2 - max (max (m 0) (m 1)) (m 2))

theorem top3 (m : Fin 3 → EReal) : top m = max (max (m 0) (m 1)) (m 2) := by
  apply le_antisymm
  · refine Finset.sup_le fun i _ => ?_
    fin_cases i
    · exact (le_max_left _ _).trans (le_max_left _ _)
    · exact (le_max_right _ _).trans (le_max_left _ _)
    · exact le_max_right _ _
  · exact max_le (max_le (le_top_score m 0) (le_top_score m 1)) (le_top_score m 2)

/-- The running merge is the sum of the totals relative to the greatest score of all. -/
theorem run3_eq (m u : Fin 3 → EReal) : run3 m u = ∑ b, u b * Ideal.exp (m b - top m) := by
  obtain ⟨r, hr0, hr⟩ := exp_sub_real (le_max_left (max (m 0) (m 1)) (m 2))
  rw [Fin.sum_univ_three, top3, run3, hr, EReal.right_distrib_of_nonneg_of_ne_top (by exact_mod_cast hr0) (EReal.coe_ne_top r), ← hr,
    mul_assoc, mul_assoc, exp_step (le_max_left _ _) (le_max_left _ _), exp_step (le_max_right _ _) (le_max_left _ _)]

/-- The reference's merge of normalised outputs equals the kernel's running merge. -/
theorem merge_eq {ι : Type} [Fintype ι] (s v : Fin 3 → ι → EReal) :
    Ideal.div (∑ b, (mass (s b) * Ideal.exp (top (s b) - top fun b => top (s b))) * Ideal.div (wsum (s b) (v b)) (mass (s b)))
        (∑ b, mass (s b) * Ideal.exp (top (s b) - top fun b => top (s b))) =
      Ideal.div (run3 (fun b => top (s b)) fun b => wsum (s b) (v b)) (run3 (fun b => top (s b)) fun b => mass (s b)) := by
  rw [run3_eq, run3_eq]
  congr 1
  refine Finset.sum_congr rfl fun b _ => ?_
  obtain ⟨l, _, hl, h0⟩ := mass_real (s b)
  rw [hl]
  exact mass_mul_div l _ _ fun h => Finset.sum_eq_zero fun i _ => by rw [h0 h i, zero_mul]

/-! ## The attention -/

/-- The three spacings. -/
def dil : Fin 3 → ℕ := ![1, 4, 16]

/-- The score of key `j` of 129 around position `x`, or −∞ outside the sequence. -/
def score (c : EReal) (Q K : ℕ → ℕ → ℕ → EReal) (d x h : ℕ) (j : Fin 129) : EReal :=
  if 64 * d ≤ x + j.val * d ∧ x + j.val * d < 16384 + 64 * d then ∑ e : Fin 64, (Q x h e.val * c) * K (x + j.val * d - 64 * d) h e.val else ⊥

/-- The values at the same keys. -/
def val (W : ℕ → ℕ → ℕ → EReal) (d x h e : ℕ) (j : Fin 129) : EReal := W (x + j.val * d - 64 * d) h e

/-- The attention's output at position `x`, head `h`, lane `e`. -/
def attn (c : EReal) (Q K W : ℕ → ℕ → ℕ → EReal) (x h e : ℕ) : EReal :=
  Ideal.div (run3 (fun b => top (score c Q K (dil b) x h)) fun b => wsum (score c Q K (dil b) x h) (val W (dil b) x h e))
    (run3 (fun b => top (score c Q K (dil b) x h)) fun b => mass (score c Q K (dil b) x h))

end Cert.Proof.At
-- ==== Proof.At.Block.lean ====
module

public import proofs.«01_k».proof.Proof.KI.Model
public import proofs.«01_k».proof.Proof.KI.Body
public import proofs.«01_k».proof.Proof.At.Spec
public import Idealize.ShloMosaic.Lib.Pointwise
public import Idealize.ShloMosaic.Lib.WordCmp

@[expose] public section

set_option maxRecDepth 16384

noncomputable section

namespace Cert.Proof.At

open Cert.KernelIdeal Cert.KernelIdeal.Gen Cert.Proof.KI
open Idealize.ShloMosaic Idealize.ShloMosaic.TcCoe Idealize.ShloMosaic.Tactic Idealize.ShloMosaic.WordCmp Idealize.ShloMosaic.WordCmp

/-- The row of the stacked block that belongs to lane `l`'s head. -/
def row (i l : Fin 128) : Fin 256 := ⟨i.val + 128 * (l.val / 64), by omega⟩
/-- Lane `e` of lane `l`'s head. -/
def lane (l : Fin 128) (e : Fin 64) : Fin 128 := ⟨64 * (l.val / 64) + e.val, by omega⟩

theorem ofBits_bot : Ideal.ofBits .f32 0xFF800000#32 = ⊥ := by
  simp [Ideal.ofBits, Ideal.ieee]

theorem v55_apply (l : Fin 128) : (cmpi .slt kernelRun.sl.v53 kernelRun.sl.v54 : IVec S1x128 1) (ix2 0 l) = BitVec.ofBool (decide (l.val < 64)) := by
  pointwise [kernelRun.sl.v53, kernelRun.sl.v54]
  revert l; decide +kernel

theorem v64_apply (r : Fin 256) (e : Fin 128) : kernelRun.sl.v64 (ix2 r e) = if (r.val < 128 ↔ e.val < 64) then 1#32 else 0#32 := by
  have h1 : ∀ r : Fin 256, IntOp.cmpi .slt (BitVec.ofNat 32 r.val) 128#32 = BitVec.ofBool (decide (r.val < 128)) := by decide +kernel
  have h2 : ∀ e : Fin 128, IntOp.cmpi .slt (BitVec.ofNat 32 e.val) 64#32 = BitVec.ofBool (decide (e.val < 64)) := by decide +kernel
  pointwise [kernelRun.sl.v64, kernelRun.sl.v62, kernelRun.sl.v56, kernelRun.sl.v57, kernelRun.sl.v58, kernelRun.sl.v60, kernelRun.sl.cst]
  rw [h1, h2]
  by_cases hr : r.val < 128 <;> by_cases he : e.val < 64 <;> simp [hr, he] <;> rfl

/-- The block's own-head factor. -/
theorem own_apply (r : Fin 256) (e : Fin 128) : kernelRun.sl.v65 (F := Ideal) (ix2 r e) = if (r.val < 128 ↔ e.val < 64) then 1 else 0 := by
  pointwise [kernelRun.sl.v65]
  rw [v64_apply]
  split
  · change (((1#32 : BitVec 32).toInt : ℝ) : EReal) = 1; norm_num
  · change (((0#32 : BitVec 32).toInt : ℝ) : EReal) = 0; norm_num

theorem qi_apply (r j : Fin 256) : k0_pay1 kernelRun.sl.v66 128#32 (ix2 r j) = BitVec.ofNat 32 (r.val % 128) := by
  pointwise [k0_pay1, kernelRun.sl.v66]
  clear j; revert r; decide +kernel

theorem kj_apply (r j : Fin 256) : kernelRun.sl.v83 (ix2 r j) = BitVec.ofNat 32 j.val := by
  pointwise [kernelRun.sl.v83]

theorem maxsi_ofNat {a b : ℕ} (ha : a < 2 ^ 31) (hb : b < 2 ^ 31) : IntOp.maxsi (BitVec.ofNat 32 a) (BitVec.ofNat 32 b) = BitVec.ofNat 32 (max a b) := by
  simp only [IntOp.maxsi, BitVec.slt, toInt_ofNat_of_lt (w := 32) ha, toInt_ofNat_of_lt (w := 32) hb, decide_eq_true_eq]
  split <;> congr 1 <;> omega

theorem minsi_ofNat {a b : ℕ} (ha : a < 2 ^ 31) (hb : b < 2 ^ 31) : IntOp.minsi (BitVec.ofNat 32 a) (BitVec.ofNat 32 b) = BitVec.ofNat 32 (min a b) := by
  simp only [IntOp.minsi, BitVec.slt, toInt_ofNat_of_lt (w := 32) ha, toInt_ofNat_of_lt (w := 32) hb, decide_eq_true_eq]
  split <;> congr 1 <;> omega

/-- The masked scores: a key counts where it lies in the band and in the sequence. -/
theorem msk_apply (s : FVec Ideal S256x256 .f32) (a b : ℕ) (ha : a < 2 ^ 20) (hb : b < 2 ^ 20) (hb1 : 1 ≤ b) (r j : Fin 256) :
    msk kernelRun.sl.v66 128#32 kernelRun.sl.v83 s (BitVec.ofNat 32 a) (BitVec.ofNat 32 b) (ix2 r j) =
      if r.val % 128 ≤ j.val ∧ j.val ≤ r.val % 128 + 128 ∧ a ≤ j.val ∧ j.val < b then s (ix2 r j) else ⊥ := by
  have hr := r.isLt
  have hj := j.isLt
  pointwise [msk, k0_pay20]
  rw [qi_apply, kj_apply, IdealRules.named_const.ideal_named_scalar _ _ _ _ rfl]
  have e1 : IntOp.addi (BitVec.ofNat 32 (r.val % 128)) 128#32 = BitVec.ofNat 32 (r.val % 128 + 128) := by
    rw [BitVec.ofNat_add]; rfl
  have e2 : Scalar.subi (BitVec.ofNat 32 b) 1#32 = BitVec.ofNat 32 (b - 1) := by
    obtain ⟨b', rfl⟩ : ∃ b', b = b' + 1 := ⟨b - 1, by omega⟩
    rw [BitVec.ofNat_add, Nat.add_sub_cancel]
    exact BitVec.add_sub_cancel _ _
  rw [e1, e2, maxsi_ofNat (by omega) (by omega), minsi_ofNat (by omega) (by omega), cmpi_sge_eq, cmpi_sle_eq,
    toInt_ofNat_of_lt (w := 32) (a := j.val) (by omega), toInt_ofNat_of_lt (w := 32) (a := max _ _) (by omega), toInt_ofNat_of_lt (w := 32) (a := min _ _) (by omega)]
  by_cases h1 : max (r.val % 128) a ≤ j.val <;> by_cases h2 : j.val ≤ min (r.val % 128 + 128) (b - 1)
  · rw [if_pos (by omega)]; simp only [Nat.cast_le, h1, h2, decide_true]; rfl
  all_goals rw [if_neg (by omega)]; simp only [Nat.cast_le, h1, h2, decide_true, decide_false]; rfl

theorem pick_row {α : Type} (l : Fin 128) (x y : α) : Scalar.select (BitVec.ofBool (decide (l.val < 64))) x y = if l.val < 64 then x else y := by
  by_cases h : l.val < 64 <;> simp [h] <;> rfl

theorem pickW_apply (o : FVec Ideal S256x128 .f32) (i l : Fin 128) :
    pickW (cmpi .slt kernelRun.sl.v53 kernelRun.sl.v54) o (ix2 i l) = o (ix2 (row i l) l) := by
  pointwise [pickW]
  rw [← cmpi_apply, v55_apply, pick_row]
  split
  · congr 2; apply Fin.ext; simp only [row]; omega
  · congr 2; apply Fin.ext; simp only [row]; omega

theorem pickC_apply (o : FVec Ideal S256x1 .f32) (i l : Fin 128) :
    pickC (cmpi .slt kernelRun.sl.v53 kernelRun.sl.v54) o (ix2 i l) = o (ix2 (row i l) 0) := by
  pointwise [pickC]
  rw [← cmpi_apply, v55_apply, pick_row]
  split
  · congr 2; apply Fin.ext; simp only [row]; omega
  · congr 2; apply Fin.ext; simp only [row]; omega

theorem pay21_apply (s : FVec Ideal S256x256 .f32) (r : Fin 256) : k0_pay21 s (ix2 r 0) = top fun j => s (ix2 r j) := by
  pointwise [k0_pay21]
  rw [ofBits_bot]; rfl

theorem pay23_apply (s : FVec Ideal S256x256 .f32) (r : Fin 256) : k0_pay23 s (ix2 r 0) = mass fun j => s (ix2 r j) := by
  pointwise [k0_pay23, k0_pay22]
  rw [pay21_apply]; rfl

theorem pay36_apply (s : FVec Ideal S256x256 .f32) (v : FVec Ideal S256x128 .f32) (r : Fin 256) (e : Fin 128) :
    k0_pay36 s v (ix2 r e) = wsum (fun j => s (ix2 r j)) fun j => v (ix2 j e) := by
  pointwise [k0_pay36, k0_pay22]
  rw [pay21_apply]; rfl

/-- A row's score is the product over its own head's lanes. -/
theorem scr_apply (q : FVec Ideal S128x128 .f32) (k : FVec Ideal S256x128 .f32) (i l : Fin 128) (j : Fin 256) :
    scr kernelRun.sl.v65 q k (ix2 (row i l) j) = ∑ e : Fin 64, q (ix2 i (lane l e)) * k (ix2 j (lane l e)) := by
  have h : scr kernelRun.sl.v65 q k (ix2 (row i l) j) = ∑ x : Fin 128, (q (ix2 i x) * kernelRun.sl.v65 (ix2 (row i l) x)) * k (ix2 j x) := by
    pointwise [scr]
    refine Finset.sum_congr rfl fun x _ => ?_
    have hw := (show (row i l).val = i.val + 128 * (l.val / 64) from rfl)
    congr 2
    split
    · congr 2; apply Fin.ext; change (row i l).val = i.val; omega
    · congr 2; apply Fin.ext; change (row i l).val - 128 = i.val; omega
  rw [h]
  refine (Fintype.sum_of_injective (lane l) (fun a b hab => ?_) _ _ (fun x hx => ?_) fun e => ?_).symm
  · have := congrArg Fin.val hab; apply Fin.ext; simp only [lane] at this; omega
  · rw [own_apply, if_neg, mul_zero, zero_mul]
    intro hh
    apply hx
    refine ⟨⟨x.val % 64, by omega⟩, Fin.ext ?_⟩
    simp only [row, lane] at *; omega
  · rw [own_apply, if_pos, mul_one]
    simp only [row, lane]; omega

/-! ### A block over the 129 keys of each query -/

/-- Key `jj` of the 129 keys of row `i`. -/
def key (i : Fin 128) (jj : Fin 129) : Fin 256 := ⟨i.val + jj.val, by omega⟩

theorem key_inj (i : Fin 128) : Function.Injective (key i) := fun a b h => by
  have := congrArg Fin.val h; apply Fin.ext; simp only [key] at this; omega

/-- The block's masked scores. -/
abbrev bsc (q : FVec Ideal S128x128 .f32) (k : FVec Ideal S256x128 .f32) (a b : ℕ) : FVec Ideal S256x256 .f32 :=
  msk kernelRun.sl.v66 128#32 kernelRun.sl.v83 (scr kernelRun.sl.v65 q k) (BitVec.ofNat 32 a) (BitVec.ofNat 32 b)

section
variable (q : FVec Ideal S128x128 .f32) (k v : FVec Ideal S256x128 .f32) (a b : ℕ) (ha : a < 2 ^ 20) (hb : b < 2 ^ 20) (hb1 : 1 ≤ b) (i l : Fin 128)
  (g w : Fin 129 → EReal)
include ha hb hb1

theorem bsc_in (hg : ∀ jj, g jj = if a ≤ i.val + jj.val ∧ i.val + jj.val < b then ∑ e : Fin 64, q (ix2 i (lane l e)) * k (ix2 (key i jj) (lane l e)) else ⊥)
    (jj : Fin 129) : bsc q k a b (ix2 (row i l) (key i jj)) = g jj := by
  refine (msk_apply _ a b ha hb hb1 _ _).trans ?_
  rw [hg, scr_apply]
  refine if_congr ?_ rfl rfl
  simp only [row, key]; omega

theorem bsc_out (j : Fin 256) (hj : j ∉ Set.range (key i)) : bsc q k a b (ix2 (row i l) j) = ⊥ := by
  refine (msk_apply _ a b ha hb hb1 _ _).trans (if_neg ?_)
  intro h
  apply hj
  simp only [row] at h
  exact ⟨⟨j.val - i.val, by omega⟩, Fin.ext (by simp only [key]; omega)⟩

variable (hg : ∀ jj, g jj = if a ≤ i.val + jj.val ∧ i.val + jj.val < b then ∑ e : Fin 64, q (ix2 i (lane l e)) * k (ix2 (key i jj) (lane l e)) else ⊥)
include hg

theorem blkM_apply : blkM (cmpi .slt kernelRun.sl.v53 kernelRun.sl.v54) (bsc q k a b) (ix2 i l) = top g := by
  rw [blkM, pickC_apply, pay21_apply]
  exact top_embed (key i) _ g (bsc_in q k a b ha hb hb1 i l g hg) (bsc_out q k a b ha hb hb1 i l)

theorem blkL_apply : blkL (cmpi .slt kernelRun.sl.v53 kernelRun.sl.v54) (bsc q k a b) (ix2 i l) = mass g := by
  rw [blkL, pickC_apply, pay23_apply]
  exact mass_embed (key i) (key_inj i) _ g (bsc_in q k a b ha hb hb1 i l g hg) (bsc_out q k a b ha hb hb1 i l)

theorem blkU_apply (hv : ∀ jj, g jj ≠ ⊥ → v (ix2 (key i jj) l) = w jj) :
    blkU (cmpi .slt kernelRun.sl.v53 kernelRun.sl.v54) (bsc q k a b) v (ix2 i l) = wsum g w := by
  rw [blkU, pickW_apply, pay36_apply]
  exact wsum_embed (key i) (key_inj i) _ _ g w (bsc_in q k a b ha hb hb1 i l g hg) (bsc_out q k a b ha hb hb1 i l) hv

end

end Cert.Proof.At
-- ==== Proof.At.Words.lean ====
module

public import proofs.«01_k».proof.Proof.KI.Rows
public import proofs.«01_k».proof.Proof.KI.Body

@[expose] public section

set_option maxRecDepth 16384

noncomputable section

namespace Cert.Proof.At

open Cert.KernelIdeal Cert.KernelIdeal.Gen Cert.Proof.KI
open Idealize.ShloMosaic Idealize.ShloMosaic.TcCoe Idealize.ShloMosaic.Tactic

/-! ## The words of the mask and the rows of a block, as numbers -/

/-- The first key in the sequence of a block whose first query is at position `P`. -/
def jlo (d P : ℕ) : ℕ := (64 * d - P + d - 1) / d
/-- One past the last. -/
def jhi (d P : ℕ) : ℕ := (16384 + 64 * d - P + d - 1) / d

theorem jl1 : ∀ (g : Fin 4) (t : Fin k0_t1_loop.trips) (b : Fin 4),
    jlW 1#32 (base1 (BitVec.ofNat 32 (4096 * g.val)) t b) = BitVec.ofNat 32 (jlo 1 (4096 * g.val + blkPos 1 (4 * t.val + b.val))) := by decide +kernel
theorem jl2 : ∀ (g : Fin 4) (t : Fin k0_t2_loop.trips) (b : Fin 4),
    jlW 4#32 (base2 (BitVec.ofNat 32 (4096 * g.val)) t b) = BitVec.ofNat 32 (jlo 4 (4096 * g.val + blkPos 4 (4 * t.val + b.val))) := by decide +kernel
theorem jl3 : ∀ (g : Fin 4) (t : Fin k0_t3_loop.trips) (b : Fin 4),
    jlW 16#32 (base3 (BitVec.ofNat 32 (4096 * g.val)) t b) = BitVec.ofNat 32 (jlo 16 (4096 * g.val + blkPos 16 (4 * t.val + b.val))) := by decide +kernel
theorem jh1 : ∀ (g : Fin 4) (t : Fin k0_t1_loop.trips) (b : Fin 4),
    jhW 1#32 (base1 (BitVec.ofNat 32 (4096 * g.val)) t b) = BitVec.ofNat 32 (jhi 1 (4096 * g.val + blkPos 1 (4 * t.val + b.val))) := by decide +kernel
theorem jh2 : ∀ (g : Fin 4) (t : Fin k0_t2_loop.trips) (b : Fin 4),
    jhW 4#32 (base2 (BitVec.ofNat 32 (4096 * g.val)) t b) = BitVec.ofNat 32 (jhi 4 (4096 * g.val + blkPos 4 (4 * t.val + b.val))) := by decide +kernel
theorem jh3 : ∀ (g : Fin 4) (t : Fin k0_t3_loop.trips) (b : Fin 4),
    jhW 16#32 (base3 (BitVec.ofNat 32 (4096 * g.val)) t b) = BitVec.ofNat 32 (jhi 16 (4096 * g.val + blkPos 16 (4 * t.val + b.val))) := by decide +kernel

theorem v10_eq (i : grid0.Coords) : kernelRun.sl.v10 i = BitVec.ofNat 32 (4096 * (i 0).val) := by
  unfold kernelRun.sl.v10 kernelRun.sl.v9 kernelRun.sl.v8 kernelRun.sl.v7 kernelRun.sl.v6 kernelRun.sl.v4 kernelRun.sl.v3 kernelRun.sl.v2
  have h : ∀ g : Fin 4, Scalar.muli (Scalar.select (Scalar.andi (Scalar.xori (Scalar.cmpi .slt (Scalar.remsi (BitVec.ofNat 32 g.val) 4#32) 0#32) 0#1)
      (Scalar.cmpi .ne (Scalar.remsi (BitVec.ofNat 32 g.val) 4#32) 0#32)) (Scalar.addi (Scalar.remsi (BitVec.ofNat 32 g.val) 4#32) 4#32)
      (Scalar.remsi (BitVec.ofNat 32 g.val) 4#32)) 4096#32 = BitVec.ofNat 32 (4096 * g.val) := by decide +kernel
  exact h (i 0)

theorem rk1 (t : Fin k0_t1_loop.trips) (b : Fin 4) : k0_off2 t (BitVec.ofNat 32 b.val) = ![1024 - 64 * 1 + blkPos 1 (4 * t.val + b.val), 0] := by
  revert t b; decide +kernel
theorem rk2 (t : Fin k0_t2_loop.trips) (b : Fin 4) : k0_off4 t (BitVec.ofNat 32 b.val) = ![1024 - 64 * 4 + blkPos 4 (4 * t.val + b.val), 0] := by
  revert t b; decide +kernel
theorem rk3 (t : Fin k0_t3_loop.trips) (b : Fin 4) : k0_off6 t (BitVec.ofNat 32 b.val) = ![1024 - 64 * 16 + blkPos 16 (4 * t.val + b.val), 0] := by
  revert t b; decide +kernel
theorem rq1 (t : Fin k0_t1_loop.trips) (b : Fin 4) : k0_off1 t (BitVec.ofNat 32 b.val) = ![blkPos 1 (4 * t.val + b.val), 0] := by
  revert t b; decide +kernel
theorem rq2 (t : Fin k0_t2_loop.trips) (b : Fin 4) : k0_off3 t (BitVec.ofNat 32 b.val) = ![blkPos 4 (4 * t.val + b.val), 0] := by
  revert t b; decide +kernel
theorem rq3 (t : Fin k0_t3_loop.trips) (b : Fin 4) : k0_off5 t (BitVec.ofNat 32 b.val) = ![blkPos 16 (4 * t.val + b.val), 0] := by
  revert t b; decide +kernel

end Cert.Proof.At
-- ==== Proof.At.Branch.lean ====
module

public import proofs.«01_k».proof.Proof.At.Block
public import proofs.«01_k».proof.Proof.At.Words

@[expose] public section

set_option maxRecDepth 16384

noncomputable section

namespace Cert.Proof.At

open Cert.KernelIdeal Cert.KernelIdeal.Gen Cert.Proof.KI
open Idealize.ShloMosaic Idealize.ShloMosaic.TcCoe Idealize.ShloMosaic.Tactic

/-! ## A branch's block, over the whole sequence -/

section
variable (c8 : EReal) (Q K W : ℕ → ℕ → ℕ → EReal) (d P h0 : ℕ) (hd : d = 1 ∨ d = 4 ∨ d = 16) (hP : P < 16384)
  (q : FVec Ideal S128x128 .f32) (k v : FVec Ideal S256x128 .f32) (i l : Fin 128)
  (hq : ∀ e : Fin 64, q (ix2 i (lane l e)) = Q (P + i.val * d) (h0 + l.val / 64) e.val * c8)
  (hk : ∀ (j : Fin 256) (e : Fin 64), 64 * d ≤ P + j.val * d → P + j.val * d < 16384 + 64 * d →
    k (ix2 j (lane l e)) = K (P + j.val * d - 64 * d) (h0 + l.val / 64) e.val)
  (hv : ∀ (j : Fin 256), 64 * d ≤ P + j.val * d → P + j.val * d < 16384 + 64 * d →
    v (ix2 j l) = W (P + j.val * d - 64 * d) (h0 + l.val / 64) (l.val % 64))

include hd hP in
theorem in_iff (i jj : ℕ) : (64 * d ≤ P + i * d + jj * d ∧ P + i * d + jj * d < 16384 + 64 * d) ↔ jlo d P ≤ i + jj ∧ i + jj < jhi d P := by
  unfold jlo jhi
  rcases hd with rfl | rfl | rfl <;> omega

include hd hP hq hk in
theorem score_eq (jj : Fin 129) : score c8 Q K d (P + i.val * d) (h0 + l.val / 64) jj =
    if jlo d P ≤ i.val + jj.val ∧ i.val + jj.val < jhi d P then ∑ e : Fin 64, q (ix2 i (lane l e)) * k (ix2 (key i jj) (lane l e)) else ⊥ := by
  unfold score
  have hi := in_iff d P hd hP i.val jj.val
  by_cases h : jlo d P ≤ i.val + jj.val ∧ i.val + jj.val < jhi d P
  · have h' := hi.mpr h
    rw [if_pos h', if_pos h]
    refine Finset.sum_congr rfl fun e _ => ?_
    have e1 : P + (key i jj).val * d = P + i.val * d + jj.val * d := by simp only [key]; ring
    rw [hq, hk (key i jj) e (by omega) (by omega), e1]
  · rw [if_neg h, if_neg (fun h' => h (hi.mp h'))]

include hd hP in
theorem jlo_lt : jlo d P < 2 ^ 20 := by unfold jlo; rcases hd with rfl | rfl | rfl <;> omega
include hd hP in
theorem jhi_lt : jhi d P < 2 ^ 20 := by unfold jhi; rcases hd with rfl | rfl | rfl <;> omega
include hd hP in
theorem jhi_pos : 1 ≤ jhi d P := by unfold jhi; rcases hd with rfl | rfl | rfl <;> omega

include hd hP hq hk in
theorem blkM_val : blkM (cmpi .slt kernelRun.sl.v53 kernelRun.sl.v54) (bsc q k (jlo d P) (jhi d P)) (ix2 i l) = top (score c8 Q K d (P + i.val * d) (h0 + l.val / 64)) :=
  blkM_apply q k _ _ (jlo_lt d P hd hP) (jhi_lt d P hd hP) (jhi_pos d P hd hP) i l _ (score_eq c8 Q K d P h0 hd hP q k i l hq hk)
include hd hP hq hk in
theorem blkL_val : blkL (cmpi .slt kernelRun.sl.v53 kernelRun.sl.v54) (bsc q k (jlo d P) (jhi d P)) (ix2 i l) = mass (score c8 Q K d (P + i.val * d) (h0 + l.val / 64)) :=
  blkL_apply q k _ _ (jlo_lt d P hd hP) (jhi_lt d P hd hP) (jhi_pos d P hd hP) i l _ (score_eq c8 Q K d P h0 hd hP q k i l hq hk)
include hd hP hq hk hv in
theorem blkU_val : blkU (cmpi .slt kernelRun.sl.v53 kernelRun.sl.v54) (bsc q k (jlo d P) (jhi d P)) v (ix2 i l) =
    wsum (score c8 Q K d (P + i.val * d) (h0 + l.val / 64)) (val W d (P + i.val * d) (h0 + l.val / 64) (l.val % 64)) :=
  blkU_apply q k v _ _ (jlo_lt d P hd hP) (jhi_lt d P hd hP) (jhi_pos d P hd hP) i l _ _ (score_eq c8 Q K d P h0 hd hP q k i l hq hk) fun jj hjj => by
    have h' : 64 * d ≤ P + i.val * d + jj.val * d ∧ P + i.val * d + jj.val * d < 16384 + 64 * d := by
      by_contra hh; exact hjj (if_neg hh)
    have e1 : P + (key i jj).val * d = P + i.val * d + jj.val * d := by simp only [key]; ring
    rw [hv (key i jj) (by omega) (by omega), e1]; rfl

end

/-! ### The three loops -/

theorem app3 (f : ℕ → ℕ → ℕ → EReal) {a a' b b' e e' : ℕ} (h1 : a = a') (h2 : b = b') (h3 : e = e') : f a b e = f a' b' e' := by rw [h1, h2, h3]

section
variable (c : Dev nD) (arg10 : Memref sig .tc .vmem S4096x128 .f32) (arg11 : Memref sig .tc .vmem S6144x128 .f32) (arg12 : Memref sig .tc .vmem S6144x128 .f32)
  (f10 : Buf (Elt Ideal) (arg10.view.loc (c : Thread nD τ))) (f11 : Buf (Elt Ideal) (arg11.view.loc (c : Thread nD τ))) (f12 : Buf (Elt Ideal) (arg12.view.loc (c : Thread nD τ)))
  (c8 : EReal) (Q K W : ℕ → ℕ → ℕ → EReal) (g : Fin 4) (h0 : ℕ)
  (hQ : ∀ (p : Fin 4096) (l : Fin 128), arg10.view.read (Elt Ideal) f10 (ix2 p l) = Q (4096 * g.val + p.val) (h0 + l.val / 64) (l.val % 64) * c8)
  (hK : ∀ (p : Fin 6144) (l : Fin 128), 1024 ≤ 4096 * g.val + p.val → 4096 * g.val + p.val < 17408 →
    arg11.view.read (Elt Ideal) f11 (ix2 p l) = K (4096 * g.val + p.val - 1024) (h0 + l.val / 64) (l.val % 64))
  (hW : ∀ (p : Fin 6144) (l : Fin 128), 1024 ≤ 4096 * g.val + p.val → 4096 * g.val + p.val < 17408 →
    arg12.view.read (Elt Ideal) f12 (ix2 p l) = W (4096 * g.val + p.val - 1024) (h0 + l.val / 64) (l.val % 64))

include hK in
/-- The keys' scratch buffer at the row of a branch's key, where that key is one of the sequence's. -/
theorem over_row (d m j : ℕ) (hd : 64 * d ≤ 1024) (hb : 1024 - 64 * d + m + d * j < 6144) (l : Fin 128)
    (h1 : 64 * d ≤ 4096 * g.val + m + j * d) (h2 : 4096 * g.val + m + j * d < 16384 + 64 * d) :
    arg11.view.read (Elt Ideal) f11 (ix2 ⟨1024 - 64 * d + m + d * j, hb⟩ l) = K (4096 * g.val + m + j * d - 64 * d) (h0 + l.val / 64) (l.val % 64) := by
  have e : d * j = j * d := Nat.mul_comm d j
  refine (hK _ l ?_ ?_).trans (app3 K ?_ rfl rfl) <;> simp only [] <;> omega

theorem pos1_lt : ∀ (t : Fin k0_t1_loop.trips) (b : Fin 4), blkPos 1 (4 * t.val + b.val) + 1 * 127 < 4096 := by decide +kernel
theorem key1_lt : ∀ (t : Fin k0_t1_loop.trips) (b : Fin 4), 1024 - 64 * 1 + blkPos 1 (4 * t.val + b.val) + 1 * 255 < 6144 := by decide +kernel

theorem RQ1_read (t : Fin k0_t1_loop.trips) (b : Fin 4) (i l : Fin 128) : View.readAt (Elt Ideal) arg10.view (RQ1 t b).toLoadRect f10 (ix2 i l) =
    arg10.view.read (Elt Ideal) f10 (ix2 ⟨blkPos 1 (4 * t.val + b.val) + 1 * i.val, by have := pos1_lt t b; omega⟩ l) := by
  refine congrArg (arg10.view.read (Elt Ideal) f10) ?_
  funext a
  apply Fin.ext
  match a with
  | ⟨0, _⟩ => exact RQ1_idx0 t b (ix2 i l)
  | ⟨1, _⟩ => exact RQ1_idx1 t b (ix2 i l)

theorem RK1_read (arg : Memref sig .tc .vmem S6144x128 .f32) (f : Buf (Elt Ideal) (arg.view.loc (c : Thread nD τ))) (t : Fin k0_t1_loop.trips) (b : Fin 4) (j : Fin 256) (l : Fin 128) :
    View.readAt (Elt Ideal) arg.view (RK1 t b) f (ix2 j l) =
    arg.view.read (Elt Ideal) f (ix2 ⟨1024 - 64 * 1 + blkPos 1 (4 * t.val + b.val) + 1 * j.val, by have := key1_lt t b; omega⟩ l) := by
  refine congrArg (arg.view.read (Elt Ideal) f) ?_
  funext a
  apply Fin.ext
  match a with
  | ⟨0, _⟩ =>
    change k0_off2 t (BitVec.ofNat 32 b.val) 0 + 1 * j.val = _
    rw [rk1]; rfl
  | ⟨1, _⟩ =>
    change k0_off2 t (BitVec.ofNat 32 b.val) 1 + 1 * l.val = l.val
    rw [rk1]; exact (Nat.zero_add _).trans (Nat.one_mul _)

section
variable (t : Fin k0_t1_loop.trips) (b : Fin 4) (i l : Fin 128)

include hQ in
theorem q1_at (e : Fin 64) : View.readAt (Elt Ideal) arg10.view (RQ1 t b).toLoadRect f10 (ix2 i (lane l e)) =
    Q (4096 * g.val + blkPos 1 (4 * t.val + b.val) + i.val * 1) (h0 + l.val / 64) e.val * c8 := by
  refine (RQ1_read c arg10 f10 t b i (lane l e)).trans ((hQ _ _).trans (congrArg (· * c8) (app3 Q ?_ ?_ ?_))) <;> simp only [lane] <;> omega

include hK in
theorem k1_at (j : Fin 256) (e : Fin 64) (h1 : 64 * 1 ≤ 4096 * g.val + blkPos 1 (4 * t.val + b.val) + j.val * 1)
    (h2 : 4096 * g.val + blkPos 1 (4 * t.val + b.val) + j.val * 1 < 16384 + 64 * 1) :
    View.readAt (Elt Ideal) arg11.view (RK1 t b) f11 (ix2 j (lane l e)) =
    K (4096 * g.val + blkPos 1 (4 * t.val + b.val) + j.val * 1 - 64 * 1) (h0 + l.val / 64) e.val := by
  refine (RK1_read c arg11 f11 t b j (lane l e)).trans ((over_row c arg11 f11 K g h0 hK 1 _ j.val (by norm_num) _ (lane l e) h1 h2).trans (app3 K rfl ?_ ?_)) <;> simp only [lane] <;> omega

include hW in
theorem v1_at (j : Fin 256) (h1 : 64 * 1 ≤ 4096 * g.val + blkPos 1 (4 * t.val + b.val) + j.val * 1)
    (h2 : 4096 * g.val + blkPos 1 (4 * t.val + b.val) + j.val * 1 < 16384 + 64 * 1) :
    View.readAt (Elt Ideal) arg12.view (RK1 t b) f12 (ix2 j l) =
    W (4096 * g.val + blkPos 1 (4 * t.val + b.val) + j.val * 1 - 64 * 1) (h0 + l.val / 64) (l.val % 64) := by
  exact (RK1_read c arg12 f12 t b j l).trans (over_row c arg12 f12 W g h0 hW 1 _ j.val (by norm_num) _ l h1 h2)

theorem glob1_lt : 4096 * g.val + blkPos 1 (4 * t.val + b.val) < 16384 := by have := pos1_lt t b; omega

theorem sc1_bsc : sc1 c arg10 arg11 (BitVec.ofNat 32 (4096 * g.val)) kernelRun.sl.v65 kernelRun.sl.v66 128#32 kernelRun.sl.v83 t f10 f11 b =
    bsc (View.readAt (Elt Ideal) arg10.view (RQ1 t b).toLoadRect f10) (View.readAt (Elt Ideal) arg11.view (RK1 t b) f11)
      (jlo 1 (4096 * g.val + blkPos 1 (4 * t.val + b.val))) (jhi 1 (4096 * g.val + blkPos 1 (4 * t.val + b.val))) := by
  unfold sc1 bsc; rw [jl1, jh1]

include hQ hK in
theorem M1_val : M1 c arg10 arg11 (BitVec.ofNat 32 (4096 * g.val)) (cmpi .slt kernelRun.sl.v53 kernelRun.sl.v54) kernelRun.sl.v65 kernelRun.sl.v66 128#32 kernelRun.sl.v83 t f10 f11 b (ix2 i l) =
    top (score c8 Q K 1 (4096 * g.val + blkPos 1 (4 * t.val + b.val) + i.val * 1) (h0 + l.val / 64)) := by
  unfold M1; rw [sc1_bsc]
  exact blkM_val c8 Q K 1 _ h0 (by norm_num) (glob1_lt g t b) _ _ i l (q1_at c arg10 f10 c8 Q g h0 hQ t b i l) (k1_at c arg11 f11 K g h0 hK t b l)
include hQ hK in
theorem L1_val : L1 c arg10 arg11 (BitVec.ofNat 32 (4096 * g.val)) (cmpi .slt kernelRun.sl.v53 kernelRun.sl.v54) kernelRun.sl.v65 kernelRun.sl.v66 128#32 kernelRun.sl.v83 t f10 f11 b (ix2 i l) =
    mass (score c8 Q K 1 (4096 * g.val + blkPos 1 (4 * t.val + b.val) + i.val * 1) (h0 + l.val / 64)) := by
  unfold L1; rw [sc1_bsc]
  exact blkL_val c8 Q K 1 _ h0 (by norm_num) (glob1_lt g t b) _ _ i l (q1_at c arg10 f10 c8 Q g h0 hQ t b i l) (k1_at c arg11 f11 K g h0 hK t b l)
include hQ hK hW in
theorem U1_val : U1 c arg10 arg11 arg12 (BitVec.ofNat 32 (4096 * g.val)) (cmpi .slt kernelRun.sl.v53 kernelRun.sl.v54) kernelRun.sl.v65 kernelRun.sl.v66 128#32 kernelRun.sl.v83 t f10 f11 f12 b (ix2 i l) =
    wsum (score c8 Q K 1 (4096 * g.val + blkPos 1 (4 * t.val + b.val) + i.val * 1) (h0 + l.val / 64))
      (val W 1 (4096 * g.val + blkPos 1 (4 * t.val + b.val) + i.val * 1) (h0 + l.val / 64) (l.val % 64)) := by
  unfold U1; rw [sc1_bsc]
  exact blkU_val c8 Q K W 1 _ h0 (by norm_num) (glob1_lt g t b) _ _ _ i l (q1_at c arg10 f10 c8 Q g h0 hQ t b i l) (k1_at c arg11 f11 K g h0 hK t b l) (v1_at c arg12 f12 W g h0 hW t b l)

end

/-- The block that holds a row starts at the row, less its place. -/
theorem place1 (y : S4096x128.Idx) : 4096 * g.val + blkPos 1 (4 * (tOf1 y).val + (bOf1 y).val) + idxOf 1 (y 0).val * 1 = 4096 * g.val + (y 0).val := by
  have h1 : 4 * (tOf1 y).val + (bOf1 y).val = blkOf 1 (y 0).val := by simp only [tOf1, bOf1]; omega
  have h2 := blk1_eq _ (y0_lt y)
  rw [h1]; omega

variable (y : S4096x128.Idx)
include hQ hK in
theorem M1_row (v10 : BitVec 32) (hv : v10 = BitVec.ofNat 32 (4096 * g.val)) : M1 c arg10 arg11 v10 (cmpi .slt kernelRun.sl.v53 kernelRun.sl.v54) kernelRun.sl.v65 kernelRun.sl.v66 128#32 kernelRun.sl.v83 (tOf1 y) f10 f11 (bOf1 y) (xOf 1 y) =
    top (score c8 Q K 1 (4096 * g.val + (y 0).val) (h0 + (y 1).val / 64)) := by
  subst hv
  exact (M1_val c arg10 arg11 f10 f11 c8 Q K g h0 hQ hK (tOf1 y) (bOf1 y) ⟨idxOf 1 (y 0).val, idxOf_lt _ _⟩ (y 1)).trans (by rw [place1])
include hQ hK in
theorem L1_row (v10 : BitVec 32) (hv : v10 = BitVec.ofNat 32 (4096 * g.val)) : L1 c arg10 arg11 v10 (cmpi .slt kernelRun.sl.v53 kernelRun.sl.v54) kernelRun.sl.v65 kernelRun.sl.v66 128#32 kernelRun.sl.v83 (tOf1 y) f10 f11 (bOf1 y) (xOf 1 y) =
    mass (score c8 Q K 1 (4096 * g.val + (y 0).val) (h0 + (y 1).val / 64)) := by
  subst hv
  exact (L1_val c arg10 arg11 f10 f11 c8 Q K g h0 hQ hK (tOf1 y) (bOf1 y) ⟨idxOf 1 (y 0).val, idxOf_lt _ _⟩ (y 1)).trans (by rw [place1])
include hQ hK hW in
theorem U1_row (v10 : BitVec 32) (hv : v10 = BitVec.ofNat 32 (4096 * g.val)) : U1 c arg10 arg11 arg12 v10 (cmpi .slt kernelRun.sl.v53 kernelRun.sl.v54) kernelRun.sl.v65 kernelRun.sl.v66 128#32 kernelRun.sl.v83 (tOf1 y) f10 f11 f12 (bOf1 y) (xOf 1 y) =
    wsum (score c8 Q K 1 (4096 * g.val + (y 0).val) (h0 + (y 1).val / 64)) (val W 1 (4096 * g.val + (y 0).val) (h0 + (y 1).val / 64) ((y 1).val % 64)) := by
  subst hv
  exact (U1_val c arg10 arg11 arg12 f10 f11 f12 c8 Q K W g h0 hQ hK hW (tOf1 y) (bOf1 y) ⟨idxOf 1 (y 0).val, idxOf_lt _ _⟩ (y 1)).trans (by rw [place1])

theorem pos2_lt : ∀ (t : Fin k0_t2_loop.trips) (b : Fin 4), blkPos 4 (4 * t.val + b.val) + 4 * 127 < 4096 := by decide +kernel
theorem key2_lt : ∀ (t : Fin k0_t2_loop.trips) (b : Fin 4), 1024 - 64 * 4 + blkPos 4 (4 * t.val + b.val) + 4 * 255 < 6144 := by decide +kernel

theorem RQ2_read (t : Fin k0_t2_loop.trips) (b : Fin 4) (i l : Fin 128) : View.readAt (Elt Ideal) arg10.view (RQ2 t b).toLoadRect f10 (ix2 i l) =
    arg10.view.read (Elt Ideal) f10 (ix2 ⟨blkPos 4 (4 * t.val + b.val) + 4 * i.val, by have := pos2_lt t b; omega⟩ l) := by
  refine congrArg (arg10.view.read (Elt Ideal) f10) ?_
  funext a
  apply Fin.ext
  match a with
  | ⟨0, _⟩ => exact RQ2_idx0 t b (ix2 i l)
  | ⟨1, _⟩ => exact RQ2_idx1 t b (ix2 i l)

theorem RK2_read (arg : Memref sig .tc .vmem S6144x128 .f32) (f : Buf (Elt Ideal) (arg.view.loc (c : Thread nD τ))) (t : Fin k0_t2_loop.trips) (b : Fin 4) (j : Fin 256) (l : Fin 128) :
    View.readAt (Elt Ideal) arg.view (RK2 t b) f (ix2 j l) =
    arg.view.read (Elt Ideal) f (ix2 ⟨1024 - 64 * 4 + blkPos 4 (4 * t.val + b.val) + 4 * j.val, by have := key2_lt t b; omega⟩ l) := by
  refine congrArg (arg.view.read (Elt Ideal) f) ?_
  funext a
  apply Fin.ext
  match a with
  | ⟨0, _⟩ =>
    change k0_off4 t (BitVec.ofNat 32 b.val) 0 + 4 * j.val = _
    rw [rk2]; rfl
  | ⟨1, _⟩ =>
    change k0_off4 t (BitVec.ofNat 32 b.val) 1 + 1 * l.val = l.val
    rw [rk2]; exact (Nat.zero_add _).trans (Nat.one_mul _)

section
variable (t : Fin k0_t2_loop.trips) (b : Fin 4) (i l : Fin 128)

include hQ in
theorem q2_at (e : Fin 64) : View.readAt (Elt Ideal) arg10.view (RQ2 t b).toLoadRect f10 (ix2 i (lane l e)) =
    Q (4096 * g.val + blkPos 4 (4 * t.val + b.val) + i.val * 4) (h0 + l.val / 64) e.val * c8 := by
  refine (RQ2_read c arg10 f10 t b i (lane l e)).trans ((hQ _ _).trans (congrArg (· * c8) (app3 Q ?_ ?_ ?_))) <;> simp only [lane] <;> omega

include hK in
theorem k2_at (j : Fin 256) (e : Fin 64) (h1 : 64 * 4 ≤ 4096 * g.val + blkPos 4 (4 * t.val + b.val) + j.val * 4)
    (h2 : 4096 * g.val + blkPos 4 (4 * t.val + b.val) + j.val * 4 < 16384 + 64 * 4) :
    View.readAt (Elt Ideal) arg11.view (RK2 t b) f11 (ix2 j (lane l e)) =
    K (4096 * g.val + blkPos 4 (4 * t.val + b.val) + j.val * 4 - 64 * 4) (h0 + l.val / 64) e.val := by
  refine (RK2_read c arg11 f11 t b j (lane l e)).trans ((over_row c arg11 f11 K g h0 hK 4 _ j.val (by norm_num) _ (lane l e) h1 h2).trans (app3 K rfl ?_ ?_)) <;> simp only [lane] <;> omega

include hW in
theorem v2_at (j : Fin 256) (h1 : 64 * 4 ≤ 4096 * g.val + blkPos 4 (4 * t.val + b.val) + j.val * 4)
    (h2 : 4096 * g.val + blkPos 4 (4 * t.val + b.val) + j.val * 4 < 16384 + 64 * 4) :
    View.readAt (Elt Ideal) arg12.view (RK2 t b) f12 (ix2 j l) =
    W (4096 * g.val + blkPos 4 (4 * t.val + b.val) + j.val * 4 - 64 * 4) (h0 + l.val / 64) (l.val % 64) := by
  exact (RK2_read c arg12 f12 t b j l).trans (over_row c arg12 f12 W g h0 hW 4 _ j.val (by norm_num) _ l h1 h2)

theorem glob2_lt : 4096 * g.val + blkPos 4 (4 * t.val + b.val) < 16384 := by have := pos2_lt t b; omega

theorem sc2_bsc : sc2 c arg10 arg11 (BitVec.ofNat 32 (4096 * g.val)) kernelRun.sl.v65 kernelRun.sl.v66 128#32 kernelRun.sl.v83 t f10 f11 b =
    bsc (View.readAt (Elt Ideal) arg10.view (RQ2 t b).toLoadRect f10) (View.readAt (Elt Ideal) arg11.view (RK2 t b) f11)
      (jlo 4 (4096 * g.val + blkPos 4 (4 * t.val + b.val))) (jhi 4 (4096 * g.val + blkPos 4 (4 * t.val + b.val))) := by
  unfold sc2 bsc; rw [jl2, jh2]

include hQ hK in
theorem M2_val : M2 c arg10 arg11 (BitVec.ofNat 32 (4096 * g.val)) (cmpi .slt kernelRun.sl.v53 kernelRun.sl.v54) kernelRun.sl.v65 kernelRun.sl.v66 128#32 kernelRun.sl.v83 t f10 f11 b (ix2 i l) =
    top (score c8 Q K 4 (4096 * g.val + blkPos 4 (4 * t.val + b.val) + i.val * 4) (h0 + l.val / 64)) := by
  unfold M2; rw [sc2_bsc]
  exact blkM_val c8 Q K 4 _ h0 (by norm_num) (glob2_lt g t b) _ _ i l (q2_at c arg10 f10 c8 Q g h0 hQ t b i l) (k2_at c arg11 f11 K g h0 hK t b l)
include hQ hK in
theorem L2_val : L2 c arg10 arg11 (BitVec.ofNat 32 (4096 * g.val)) (cmpi .slt kernelRun.sl.v53 kernelRun.sl.v54) kernelRun.sl.v65 kernelRun.sl.v66 128#32 kernelRun.sl.v83 t f10 f11 b (ix2 i l) =
    mass (score c8 Q K 4 (4096 * g.val + blkPos 4 (4 * t.val + b.val) + i.val * 4) (h0 + l.val / 64)) := by
  unfold L2; rw [sc2_bsc]
  exact blkL_val c8 Q K 4 _ h0 (by norm_num) (glob2_lt g t b) _ _ i l (q2_at c arg10 f10 c8 Q g h0 hQ t b i l) (k2_at c arg11 f11 K g h0 hK t b l)
include hQ hK hW in
theorem U2_val : U2 c arg10 arg11 arg12 (BitVec.ofNat 32 (4096 * g.val)) (cmpi .slt kernelRun.sl.v53 kernelRun.sl.v54) kernelRun.sl.v65 kernelRun.sl.v66 128#32 kernelRun.sl.v83 t f10 f11 f12 b (ix2 i l) =
    wsum (score c8 Q K 4 (4096 * g.val + blkPos 4 (4 * t.val + b.val) + i.val * 4) (h0 + l.val / 64))
      (val W 4 (4096 * g.val + blkPos 4 (4 * t.val + b.val) + i.val * 4) (h0 + l.val / 64) (l.val % 64)) := by
  unfold U2; rw [sc2_bsc]
  exact blkU_val c8 Q K W 4 _ h0 (by norm_num) (glob2_lt g t b) _ _ _ i l (q2_at c arg10 f10 c8 Q g h0 hQ t b i l) (k2_at c arg11 f11 K g h0 hK t b l) (v2_at c arg12 f12 W g h0 hW t b l)

end

/-- The block that holds a row starts at the row, less its place. -/
theorem place2 (y : S4096x128.Idx) : 4096 * g.val + blkPos 4 (4 * (tOf2 y).val + (bOf2 y).val) + idxOf 4 (y 0).val * 4 = 4096 * g.val + (y 0).val := by
  have h1 : 4 * (tOf2 y).val + (bOf2 y).val = blkOf 4 (y 0).val := by simp only [tOf2, bOf2]; omega
  have h2 := blk2_eq _ (y0_lt y)
  rw [h1]; omega

variable (y : S4096x128.Idx)
include hQ hK in
theorem M2_row (v10 : BitVec 32) (hv : v10 = BitVec.ofNat 32 (4096 * g.val)) : M2 c arg10 arg11 v10 (cmpi .slt kernelRun.sl.v53 kernelRun.sl.v54) kernelRun.sl.v65 kernelRun.sl.v66 128#32 kernelRun.sl.v83 (tOf2 y) f10 f11 (bOf2 y) (xOf 4 y) =
    top (score c8 Q K 4 (4096 * g.val + (y 0).val) (h0 + (y 1).val / 64)) := by
  subst hv
  exact (M2_val c arg10 arg11 f10 f11 c8 Q K g h0 hQ hK (tOf2 y) (bOf2 y) ⟨idxOf 4 (y 0).val, idxOf_lt _ _⟩ (y 1)).trans (by rw [place2])
include hQ hK in
theorem L2_row (v10 : BitVec 32) (hv : v10 = BitVec.ofNat 32 (4096 * g.val)) : L2 c arg10 arg11 v10 (cmpi .slt kernelRun.sl.v53 kernelRun.sl.v54) kernelRun.sl.v65 kernelRun.sl.v66 128#32 kernelRun.sl.v83 (tOf2 y) f10 f11 (bOf2 y) (xOf 4 y) =
    mass (score c8 Q K 4 (4096 * g.val + (y 0).val) (h0 + (y 1).val / 64)) := by
  subst hv
  exact (L2_val c arg10 arg11 f10 f11 c8 Q K g h0 hQ hK (tOf2 y) (bOf2 y) ⟨idxOf 4 (y 0).val, idxOf_lt _ _⟩ (y 1)).trans (by rw [place2])
include hQ hK hW in
theorem U2_row (v10 : BitVec 32) (hv : v10 = BitVec.ofNat 32 (4096 * g.val)) : U2 c arg10 arg11 arg12 v10 (cmpi .slt kernelRun.sl.v53 kernelRun.sl.v54) kernelRun.sl.v65 kernelRun.sl.v66 128#32 kernelRun.sl.v83 (tOf2 y) f10 f11 f12 (bOf2 y) (xOf 4 y) =
    wsum (score c8 Q K 4 (4096 * g.val + (y 0).val) (h0 + (y 1).val / 64)) (val W 4 (4096 * g.val + (y 0).val) (h0 + (y 1).val / 64) ((y 1).val % 64)) := by
  subst hv
  exact (U2_val c arg10 arg11 arg12 f10 f11 f12 c8 Q K W g h0 hQ hK hW (tOf2 y) (bOf2 y) ⟨idxOf 4 (y 0).val, idxOf_lt _ _⟩ (y 1)).trans (by rw [place2])

theorem pos3_lt : ∀ (t : Fin k0_t3_loop.trips) (b : Fin 4), blkPos 16 (4 * t.val + b.val) + 16 * 127 < 4096 := by decide +kernel
theorem key3_lt : ∀ (t : Fin k0_t3_loop.trips) (b : Fin 4), 1024 - 64 * 16 + blkPos 16 (4 * t.val + b.val) + 16 * 255 < 6144 := by decide +kernel

theorem RQ3_read (t : Fin k0_t3_loop.trips) (b : Fin 4) (i l : Fin 128) : View.readAt (Elt Ideal) arg10.view (RQ3 t b).toLoadRect f10 (ix2 i l) =
    arg10.view.read (Elt Ideal) f10 (ix2 ⟨blkPos 16 (4 * t.val + b.val) + 16 * i.val, by have := pos3_lt t b; omega⟩ l) := by
  refine congrArg (arg10.view.read (Elt Ideal) f10) ?_
  funext a
  apply Fin.ext
  match a with
  | ⟨0, _⟩ => exact RQ3_idx0 t b (ix2 i l)
  | ⟨1, _⟩ => exact RQ3_idx1 t b (ix2 i l)

theorem RK3_read (arg : Memref sig .tc .vmem S6144x128 .f32) (f : Buf (Elt Ideal) (arg.view.loc (c : Thread nD τ))) (t : Fin k0_t3_loop.trips) (b : Fin 4) (j : Fin 256) (l : Fin 128) :
    View.readAt (Elt Ideal) arg.view (RK3 t b) f (ix2 j l) =
    arg.view.read (Elt Ideal) f (ix2 ⟨1024 - 64 * 16 + blkPos 16 (4 * t.val + b.val) + 16 * j.val, by have := key3_lt t b; omega⟩ l) := by
  refine congrArg (arg.view.read (Elt Ideal) f) ?_
  funext a
  apply Fin.ext
  match a with
  | ⟨0, _⟩ =>
    change k0_off6 t (BitVec.ofNat 32 b.val) 0 + 16 * j.val = _
    rw [rk3]; rfl
  | ⟨1, _⟩ =>
    change k0_off6 t (BitVec.ofNat 32 b.val) 1 + 1 * l.val = l.val
    rw [rk3]; exact (Nat.zero_add _).trans (Nat.one_mul _)

section
variable (t : Fin k0_t3_loop.trips) (b : Fin 4) (i l : Fin 128)

include hQ in
theorem q3_at (e : Fin 64) : View.readAt (Elt Ideal) arg10.view (RQ3 t b).toLoadRect f10 (ix2 i (lane l e)) =
    Q (4096 * g.val + blkPos 16 (4 * t.val + b.val) + i.val * 16) (h0 + l.val / 64) e.val * c8 := by
  refine (RQ3_read c arg10 f10 t b i (lane l e)).trans ((hQ _ _).trans (congrArg (· * c8) (app3 Q ?_ ?_ ?_))) <;> simp only [lane] <;> omega

include hK in
theorem k3_at (j : Fin 256) (e : Fin 64) (h1 : 64 * 16 ≤ 4096 * g.val + blkPos 16 (4 * t.val + b.val) + j.val * 16)
    (h2 : 4096 * g.val + blkPos 16 (4 * t.val + b.val) + j.val * 16 < 16384 + 64 * 16) :
    View.readAt (Elt Ideal) arg11.view (RK3 t b) f11 (ix2 j (lane l e)) =
    K (4096 * g.val + blkPos 16 (4 * t.val + b.val) + j.val * 16 - 64 * 16) (h0 + l.val / 64) e.val := by
  refine (RK3_read c arg11 f11 t b j (lane l e)).trans ((over_row c arg11 f11 K g h0 hK 16 _ j.val (by norm_num) _ (lane l e) h1 h2).trans (app3 K rfl ?_ ?_)) <;> simp only [lane] <;> omega

include hW in
theorem v3_at (j : Fin 256) (h1 : 64 * 16 ≤ 4096 * g.val + blkPos 16 (4 * t.val + b.val) + j.val * 16)
    (h2 : 4096 * g.val + blkPos 16 (4 * t.val + b.val) + j.val * 16 < 16384 + 64 * 16) :
    View.readAt (Elt Ideal) arg12.view (RK3 t b) f12 (ix2 j l) =
    W (4096 * g.val + blkPos 16 (4 * t.val + b.val) + j.val * 16 - 64 * 16) (h0 + l.val / 64) (l.val % 64) := by
  exact (RK3_read c arg12 f12 t b j l).trans (over_row c arg12 f12 W g h0 hW 16 _ j.val (by norm_num) _ l h1 h2)

theorem glob3_lt : 4096 * g.val + blkPos 16 (4 * t.val + b.val) < 16384 := by have := pos3_lt t b; omega

theorem sc3_bsc : sc3 c arg10 arg11 (BitVec.ofNat 32 (4096 * g.val)) kernelRun.sl.v65 kernelRun.sl.v66 128#32 kernelRun.sl.v83 t f10 f11 b =
    bsc (View.readAt (Elt Ideal) arg10.view (RQ3 t b).toLoadRect f10) (View.readAt (Elt Ideal) arg11.view (RK3 t b) f11)
      (jlo 16 (4096 * g.val + blkPos 16 (4 * t.val + b.val))) (jhi 16 (4096 * g.val + blkPos 16 (4 * t.val + b.val))) := by
  unfold sc3 bsc; rw [jl3, jh3]

include hQ hK in
theorem M3_val : M3 c arg10 arg11 (BitVec.ofNat 32 (4096 * g.val)) (cmpi .slt kernelRun.sl.v53 kernelRun.sl.v54) kernelRun.sl.v65 kernelRun.sl.v66 128#32 kernelRun.sl.v83 t f10 f11 b (ix2 i l) =
    top (score c8 Q K 16 (4096 * g.val + blkPos 16 (4 * t.val + b.val) + i.val * 16) (h0 + l.val / 64)) := by
  unfold M3; rw [sc3_bsc]
  exact blkM_val c8 Q K 16 _ h0 (by norm_num) (glob3_lt g t b) _ _ i l (q3_at c arg10 f10 c8 Q g h0 hQ t b i l) (k3_at c arg11 f11 K g h0 hK t b l)
include hQ hK in
theorem L3_val : L3 c arg10 arg11 (BitVec.ofNat 32 (4096 * g.val)) (cmpi .slt kernelRun.sl.v53 kernelRun.sl.v54) kernelRun.sl.v65 kernelRun.sl.v66 128#32 kernelRun.sl.v83 t f10 f11 b (ix2 i l) =
    mass (score c8 Q K 16 (4096 * g.val + blkPos 16 (4 * t.val + b.val) + i.val * 16) (h0 + l.val / 64)) := by
  unfold L3; rw [sc3_bsc]
  exact blkL_val c8 Q K 16 _ h0 (by norm_num) (glob3_lt g t b) _ _ i l (q3_at c arg10 f10 c8 Q g h0 hQ t b i l) (k3_at c arg11 f11 K g h0 hK t b l)
include hQ hK hW in
theorem U3_val : U3 c arg10 arg11 arg12 (BitVec.ofNat 32 (4096 * g.val)) (cmpi .slt kernelRun.sl.v53 kernelRun.sl.v54) kernelRun.sl.v65 kernelRun.sl.v66 128#32 kernelRun.sl.v83 t f10 f11 f12 b (ix2 i l) =
    wsum (score c8 Q K 16 (4096 * g.val + blkPos 16 (4 * t.val + b.val) + i.val * 16) (h0 + l.val / 64))
      (val W 16 (4096 * g.val + blkPos 16 (4 * t.val + b.val) + i.val * 16) (h0 + l.val / 64) (l.val % 64)) := by
  unfold U3; rw [sc3_bsc]
  exact blkU_val c8 Q K W 16 _ h0 (by norm_num) (glob3_lt g t b) _ _ _ i l (q3_at c arg10 f10 c8 Q g h0 hQ t b i l) (k3_at c arg11 f11 K g h0 hK t b l) (v3_at c arg12 f12 W g h0 hW t b l)

end

/-- The block that holds a row starts at the row, less its place. -/
theorem place3 (y : S4096x128.Idx) : 4096 * g.val + blkPos 16 (4 * (tOf3 y).val + (bOf3 y).val) + idxOf 16 (y 0).val * 16 = 4096 * g.val + (y 0).val := by
  have h1 : 4 * (tOf3 y).val + (bOf3 y).val = blkOf 16 (y 0).val := by simp only [tOf3, bOf3]; omega
  have h2 := blk3_eq _ (y0_lt y)
  rw [h1]; omega

variable (y : S4096x128.Idx)
include hQ hK in
theorem M3_row (v10 : BitVec 32) (hv : v10 = BitVec.ofNat 32 (4096 * g.val)) : M3 c arg10 arg11 v10 (cmpi .slt kernelRun.sl.v53 kernelRun.sl.v54) kernelRun.sl.v65 kernelRun.sl.v66 128#32 kernelRun.sl.v83 (tOf3 y) f10 f11 (bOf3 y) (xOf 16 y) =
    top (score c8 Q K 16 (4096 * g.val + (y 0).val) (h0 + (y 1).val / 64)) := by
  subst hv
  exact (M3_val c arg10 arg11 f10 f11 c8 Q K g h0 hQ hK (tOf3 y) (bOf3 y) ⟨idxOf 16 (y 0).val, idxOf_lt _ _⟩ (y 1)).trans (by rw [place3])
include hQ hK in
theorem L3_row (v10 : BitVec 32) (hv : v10 = BitVec.ofNat 32 (4096 * g.val)) : L3 c arg10 arg11 v10 (cmpi .slt kernelRun.sl.v53 kernelRun.sl.v54) kernelRun.sl.v65 kernelRun.sl.v66 128#32 kernelRun.sl.v83 (tOf3 y) f10 f11 (bOf3 y) (xOf 16 y) =
    mass (score c8 Q K 16 (4096 * g.val + (y 0).val) (h0 + (y 1).val / 64)) := by
  subst hv
  exact (L3_val c arg10 arg11 f10 f11 c8 Q K g h0 hQ hK (tOf3 y) (bOf3 y) ⟨idxOf 16 (y 0).val, idxOf_lt _ _⟩ (y 1)).trans (by rw [place3])
include hQ hK hW in
theorem U3_row (v10 : BitVec 32) (hv : v10 = BitVec.ofNat 32 (4096 * g.val)) : U3 c arg10 arg11 arg12 v10 (cmpi .slt kernelRun.sl.v53 kernelRun.sl.v54) kernelRun.sl.v65 kernelRun.sl.v66 128#32 kernelRun.sl.v83 (tOf3 y) f10 f11 f12 (bOf3 y) (xOf 16 y) =
    wsum (score c8 Q K 16 (4096 * g.val + (y 0).val) (h0 + (y 1).val / 64)) (val W 16 (4096 * g.val + (y 0).val) (h0 + (y 1).val / 64) ((y 1).val % 64)) := by
  subst hv
  exact (U3_val c arg10 arg11 arg12 f10 f11 f12 c8 Q K W g h0 hQ hK hW (tOf3 y) (bOf3 y) ⟨idxOf 16 (y 0).val, idxOf_lt _ _⟩ (y 1)).trans (by rw [place3])

end

end Cert.Proof.At
-- ==== Proof.At.Scratch.lean ====
module

public import proofs.«01_k».proof.Proof.KI.Value
public import Idealize.ShloMosaic.Lib.Pointwise
public import Idealize.ShloMosaic.Lib.WritesUnit
public import Idealize.ShloMosaic.Lib.VecWindow
public import Idealize.ShloMosaic.Lib.Pipeline.Value

@[expose] public section

set_option maxRecDepth 16384

noncomputable section

namespace Cert.Proof.At

open Cert.KernelIdeal Cert.KernelIdeal.Gen Cert.Proof.KI
open Idealize.ShloMosaic Idealize.ShloMosaic.TcCoe Idealize.ShloMosaic.Tactic

/-! ## What the scratch buffers hold -/

/-- A left halo, a block and a right halo, as one run of rows. -/
def join3 (xl : Vec Ideal S1024x128 .bf16) (xm : Vec Ideal S4096x128 .bf16) (xr : Vec Ideal S1024x128 .bf16) (p : Fin 6144) (l : Fin 128) : EReal :=
  if h : p.val < 1024 then xl (ix2 ⟨p.val, h⟩ l) else if h' : p.val < 5120 then xm (ix2 ⟨p.val - 1024, by omega⟩ l) else xr (ix2 ⟨p.val - 5120, by omega⟩ l)

/-- Three row pieces written one after another, read at a row. -/
theorem read3 (c : Dev nD) (v : Memref sig .tc .vmem S6144x128 .f32) (f : v.view.ty.Contents (Elt Ideal)) (xl : Vec Ideal S1024x128 .f32) (xm : Vec Ideal S4096x128 .f32) (xr : Vec Ideal S1024x128 .f32)
    (i1 i2 i3) (p : Fin 6144) (l : Fin 128) :
    v.view.read (Elt Ideal) (v.view.writes (Elt Ideal) f [⟨Rect.unit (s := S6144x128) ![5120, 0] S1024x128.size i3, xr⟩, ⟨Rect.unit (s := S6144x128) ![1024, 0] S4096x128.size i2, xm⟩, ⟨Rect.unit (s := S6144x128) ![0, 0] S1024x128.size i1, xl⟩]) (ix2 p l) =
      join3 xl xm xr p l := by
  unfold join3
  have hp := p.isLt
  split
  · rename_i h
    refine (View.read_writes_cons_rows_of_not_mem v.view f (o := 5120) (W := 1024) i3 xr _ (ix2 p l) rfl rfl (Or.inl (show p.val < 5120 by omega))).trans ?_
    refine (View.read_writes_cons_rows_of_not_mem v.view f (o := 1024) (W := 4096) i2 xm _ (ix2 p l) rfl rfl (Or.inl (show p.val < 1024 by omega))).trans ?_
    exact View.read_writes_cons_rows_of_mem v.view f (o := 0) i1 xl _ (ix2 p l) (ix2 ⟨p.val, h⟩ l : S1024x128.Idx) rfl (Nat.zero_add _).symm rfl
  · split
    · rename_i h h'
      refine (View.read_writes_cons_rows_of_not_mem v.view f (o := 5120) (W := 1024) i3 xr _ (ix2 p l) rfl rfl (Or.inl (show p.val < 5120 by omega))).trans ?_
      exact View.read_writes_cons_rows_of_mem v.view f (o := 1024) i2 xm _ (ix2 p l) (ix2 ⟨p.val - 1024, by omega⟩ l : S4096x128.Idx) rfl (show p.val = 1024 + (p.val - 1024) by omega) rfl
    · rename_i h h'
      exact View.read_writes_cons_rows_of_mem v.view f (o := 5120) i3 xr _ (ix2 p l) (ix2 ⟨p.val - 5120, by omega⟩ l : S1024x128.Idx) rfl (show p.val = 5120 + (p.val - 5120) by omega) rfl

/-- One whole piece written, read at a row. -/
theorem read1 (c : Dev nD) (v : Memref sig .tc .vmem S4096x128 .f32) (f : v.view.ty.Contents (Elt Ideal)) (x : Vec Ideal S4096x128 .f32) (i1) (p : Fin 4096) (l : Fin 128) :
    v.view.read (Elt Ideal) (v.view.writes (Elt Ideal) f [⟨Rect.unit (s := S4096x128) ![0, 0] S4096x128.size i1, x⟩]) (ix2 p l) = x (ix2 p l) :=
  View.read_writes_cons_rows_of_mem v.view f (o := 0) i1 x _ (ix2 p l) (ix2 p l : S4096x128.Idx) rfl (Nat.zero_add _).symm rfl

section
variable (c : Dev nD)
  (arg2 : Memref sig .tc .vmem S4096x128 .bf16) (harg2 : arg2.IsWhole)
  (arg3 : Memref sig .tc .vmem S4096x128 .bf16) (harg3 : arg3.IsWhole)
  (arg4 : Memref sig .tc .vmem S1024x128 .bf16) (harg4 : arg4.IsWhole)
  (arg5 : Memref sig .tc .vmem S1024x128 .bf16) (harg5 : arg5.IsWhole)
  (arg6 : Memref sig .tc .vmem S4096x128 .bf16) (harg6 : arg6.IsWhole)
  (arg7 : Memref sig .tc .vmem S1024x128 .bf16) (harg7 : arg7.IsWhole)
  (arg8 : Memref sig .tc .vmem S1024x128 .bf16) (harg8 : arg8.IsWhole)
  (arg10 : Memref sig .tc .vmem S4096x128 .f32) (arg11 : Memref sig .tc .vmem S6144x128 .f32) (arg12 : Memref sig .tc .vmem S6144x128 .f32)
  (x2 : Vec Ideal S4096x128 .bf16) (x3 : Vec Ideal S4096x128 .bf16) (x4 : Vec Ideal S1024x128 .bf16) (x5 : Vec Ideal S1024x128 .bf16) (x6 : Vec Ideal S4096x128 .bf16) (x7 : Vec Ideal S1024x128 .bf16) (x8 : Vec Ideal S1024x128 .bf16)

/-- A staged block widened is the block: widening is exact. -/
theorem wide4096 (a : Memref sig .tc .vmem S4096x128 .bf16) (h : a.IsWhole) (x : Vec Ideal S4096x128 .bf16) (i h1 h2 h3) :
    shapeCast S4096x128 (extf .f32 (shapeCast S4096x128 (View.readAt (Elt Ideal) a.view (Rect.unit (s := S4096x128) ![0, 0] S4096x128.size i).toLoadRect (h.unread x)) h1 : FVec Ideal S4096x128 .bf16) h2) h3 = (x : S4096x128.Idx → EReal) := by
  rw [shapeCast_self]
  funext y
  exact (congrFun (shapeCast_self _ h1) y).trans ((congrFun (View.readAt_full a.view (h.unread x) i) y).trans (congrFun (h.read_unread x) y))
theorem wide1024 (a : Memref sig .tc .vmem S1024x128 .bf16) (h : a.IsWhole) (x : Vec Ideal S1024x128 .bf16) (i h1 h2 h3) :
    shapeCast S1024x128 (extf .f32 (shapeCast S1024x128 (View.readAt (Elt Ideal) a.view (Rect.unit (s := S1024x128) ![0, 0] S1024x128.size i).toLoadRect (h.unread x)) h1 : FVec Ideal S1024x128 .bf16) h2) h3 = (x : S1024x128.Idx → EReal) := by
  rw [shapeCast_self]
  funext y
  exact (congrFun (shapeCast_self _ h1) y).trans ((congrFun (View.readAt_full a.view (h.unread x) i) y).trans (congrFun (h.read_unread x) y))

theorem F10_read (p : Fin 4096) (l : Fin 128) : arg10.view.read (Elt Ideal) (F10 (F := Ideal) c arg2 harg2 arg10 x2) (ix2 p l) = x2 (ix2 p l) := by
  refine (read1 c arg10 arg10.view.junk (kernelRun.sl.v16 c arg2 harg2 x2) _ p l).trans ?_
  rw [show kernelRun.sl.v16 c arg2 harg2 x2 = (x2 : S4096x128.Idx → EReal) from wide4096 arg2 harg2 x2 _ _ _ _]

theorem F11_read (p : Fin 6144) (l : Fin 128) : arg11.view.read (Elt Ideal) (F11 (F := Ideal) c arg3 harg3 arg4 harg4 arg5 harg5 arg11 x3 x4 x5) (ix2 p l) = join3 x4 x3 x5 p l := by
  refine (read3 c arg11 arg11.view.junk (kernelRun.sl.v22 c arg4 harg4 x4) (kernelRun.sl.v28 c arg3 harg3 x3) (kernelRun.sl.v34 c arg5 harg5 x5) _ _ _ p l).trans ?_
  rw [show kernelRun.sl.v22 c arg4 harg4 x4 = (x4 : S1024x128.Idx → EReal) from wide1024 arg4 harg4 x4 _ _ _ _,
    show kernelRun.sl.v28 c arg3 harg3 x3 = (x3 : S4096x128.Idx → EReal) from wide4096 arg3 harg3 x3 _ _ _ _,
    show kernelRun.sl.v34 c arg5 harg5 x5 = (x5 : S1024x128.Idx → EReal) from wide1024 arg5 harg5 x5 _ _ _ _]

theorem F12_read (p : Fin 6144) (l : Fin 128) : arg12.view.read (Elt Ideal) (F12 (F := Ideal) c arg6 harg6 arg7 harg7 arg8 harg8 arg12 x6 x7 x8) (ix2 p l) = join3 x7 x6 x8 p l := by
  refine (read3 c arg12 arg12.view.junk (kernelRun.sl.v40 c arg7 harg7 x7) (kernelRun.sl.v46 c arg6 harg6 x6) (kernelRun.sl.v52 c arg8 harg8 x8) _ _ _ p l).trans ?_
  rw [show kernelRun.sl.v40 c arg7 harg7 x7 = (x7 : S1024x128.Idx → EReal) from wide1024 arg7 harg7 x7 _ _ _ _,
    show kernelRun.sl.v46 c arg6 harg6 x6 = (x6 : S4096x128.Idx → EReal) from wide4096 arg6 harg6 x6 _ _ _ _,
    show kernelRun.sl.v52 c arg8 harg8 x8 = (x8 : S1024x128.Idx → EReal) from wide1024 arg8 harg8 x8 _ _ _ _]

end

end Cert.Proof.At
-- ==== Proof.At.KVal.lean ====
module

public import proofs.«01_k».proof.Proof.At.Branch
public import proofs.«01_k».proof.Proof.At.Scratch

@[expose] public section

set_option maxRecDepth 16384

noncomputable section

namespace Cert.Proof.At

open Cert.KernelIdeal Cert.KernelIdeal.Gen
open Cert.Proof.KI hiding run3
open Idealize.ShloMosaic Idealize.ShloMosaic.TcCoe Idealize.ShloMosaic.Tactic

/-! ## A grid point's result -/

/-- Three merged branches, entry by entry. -/
theorem merged (M U : Fin 3 → EReal) (m1 m2 m3 u1 u2 u3 : EReal) (a1 : m1 = M 0) (a2 : m2 = M 1) (a3 : m3 = M 2) (b1 : u1 = U 0) (b2 : u2 = U 1) (b3 : u3 = U 2) :
    sA (F := Ideal) (sA (F := Ideal) u1 m1 u2 m2) (sM (F := Ideal) m1 m2) u3 m3 = run3 M U := by
  subst a1 a2 a3 b1 b2 b3; rfl

/-- A left halo, a block and a right halo, by position. -/
theorem join3_at (g h0 : ℕ) (K : ℕ → ℕ → ℕ → EReal) (xl : Vec Ideal S1024x128 .bf16) (xm : Vec Ideal S4096x128 .bf16) (xr : Vec Ideal S1024x128 .bf16) (hg : g < 4)
    (hm : ∀ (p : Fin 4096) (l : Fin 128), xm (ix2 p l) = K (4096 * g + p.val) (h0 + l.val / 64) (l.val % 64))
    (hl : 1 ≤ g → ∀ (p : Fin 1024) (l : Fin 128), xl (ix2 p l) = K (4096 * g + p.val - 1024) (h0 + l.val / 64) (l.val % 64))
    (hr : g < 3 → ∀ (p : Fin 1024) (l : Fin 128), xr (ix2 p l) = K (4096 * g + 4096 + p.val) (h0 + l.val / 64) (l.val % 64))
    (p : Fin 6144) (l : Fin 128) (h1 : 1024 ≤ 4096 * g + p.val) (h2 : 4096 * g + p.val < 17408) :
    join3 xl xm xr p l = K (4096 * g + p.val - 1024) (h0 + l.val / 64) (l.val % 64) := by
  have hp := p.isLt
  unfold join3
  split
  · exact hl (by omega) _ l
  · split
    · exact (hm _ l).trans (app3 K (by simp only []; omega) rfl rfl)
    · exact (hr (by omega) _ l).trans (app3 K (by simp only []; omega) rfl rfl)

section
variable (c : Dev nD) (i : grid0.Coords)
  (arg2 : Memref sig .tc .vmem S4096x128 .bf16) (harg2 : arg2.IsWhole)
  (arg3 : Memref sig .tc .vmem S4096x128 .bf16) (harg3 : arg3.IsWhole)
  (arg4 : Memref sig .tc .vmem S1024x128 .bf16) (harg4 : arg4.IsWhole)
  (arg5 : Memref sig .tc .vmem S1024x128 .bf16) (harg5 : arg5.IsWhole)
  (arg6 : Memref sig .tc .vmem S4096x128 .bf16) (harg6 : arg6.IsWhole)
  (arg7 : Memref sig .tc .vmem S1024x128 .bf16) (harg7 : arg7.IsWhole)
  (arg8 : Memref sig .tc .vmem S1024x128 .bf16) (harg8 : arg8.IsWhole)
  (arg10 : Memref sig .tc .vmem S4096x128 .f32) (arg11 : Memref sig .tc .vmem S6144x128 .f32) (arg12 : Memref sig .tc .vmem S6144x128 .f32)
  (x2 : Vec Ideal S4096x128 .bf16) (x3 : Vec Ideal S4096x128 .bf16) (x4 : Vec Ideal S1024x128 .bf16) (x5 : Vec Ideal S1024x128 .bf16) (x6 : Vec Ideal S4096x128 .bf16) (x7 : Vec Ideal S1024x128 .bf16) (x8 : Vec Ideal S1024x128 .bf16)
  (c8 : EReal) (Q K W : ℕ → ℕ → ℕ → EReal) (g : Fin 4) (hgi : g.val = (i 0).val) (h0 : ℕ)
  (hx2 : ∀ (p : Fin 4096) (l : Fin 128), x2 (ix2 p l) = Q (4096 * g.val + p.val) (h0 + l.val / 64) (l.val % 64) * c8)
  (hx3 : ∀ (p : Fin 4096) (l : Fin 128), x3 (ix2 p l) = K (4096 * g.val + p.val) (h0 + l.val / 64) (l.val % 64))
  (hx4 : 1 ≤ g.val → ∀ (p : Fin 1024) (l : Fin 128), x4 (ix2 p l) = K (4096 * g.val + p.val - 1024) (h0 + l.val / 64) (l.val % 64))
  (hx5 : g.val < 3 → ∀ (p : Fin 1024) (l : Fin 128), x5 (ix2 p l) = K (4096 * g.val + 4096 + p.val) (h0 + l.val / 64) (l.val % 64))
  (hx6 : ∀ (p : Fin 4096) (l : Fin 128), x6 (ix2 p l) = W (4096 * g.val + p.val) (h0 + l.val / 64) (l.val % 64))
  (hx7 : 1 ≤ g.val → ∀ (p : Fin 1024) (l : Fin 128), x7 (ix2 p l) = W (4096 * g.val + p.val - 1024) (h0 + l.val / 64) (l.val % 64))
  (hx8 : g.val < 3 → ∀ (p : Fin 1024) (l : Fin 128), x8 (ix2 p l) = W (4096 * g.val + 4096 + p.val) (h0 + l.val / 64) (l.val % 64))

include hx2 in
theorem hQ_of (p : Fin 4096) (l : Fin 128) : arg10.view.read (Elt Ideal) (F10 (F := Ideal) c arg2 harg2 arg10 x2) (ix2 p l) = Q (4096 * g.val + p.val) (h0 + l.val / 64) (l.val % 64) * c8 :=
  (F10_read c arg2 harg2 arg10 x2 p l).trans (hx2 p l)
include hx3 hx4 hx5 in
theorem hK_of (p : Fin 6144) (l : Fin 128) (h1 : 1024 ≤ 4096 * g.val + p.val) (h2 : 4096 * g.val + p.val < 17408) :
    arg11.view.read (Elt Ideal) (F11 (F := Ideal) c arg3 harg3 arg4 harg4 arg5 harg5 arg11 x3 x4 x5) (ix2 p l) = K (4096 * g.val + p.val - 1024) (h0 + l.val / 64) (l.val % 64) :=
  (F11_read c arg3 harg3 arg4 harg4 arg5 harg5 arg11 x3 x4 x5 p l).trans (join3_at g.val h0 K x4 x3 x5 g.isLt hx3 hx4 hx5 p l h1 h2)
include hx6 hx7 hx8 in
theorem hW_of (p : Fin 6144) (l : Fin 128) (h1 : 1024 ≤ 4096 * g.val + p.val) (h2 : 4096 * g.val + p.val < 17408) :
    arg12.view.read (Elt Ideal) (F12 (F := Ideal) c arg6 harg6 arg7 harg7 arg8 harg8 arg12 x6 x7 x8) (ix2 p l) = W (4096 * g.val + p.val - 1024) (h0 + l.val / 64) (l.val % 64) :=
  (F12_read c arg6 harg6 arg7 harg7 arg8 harg8 arg12 x6 x7 x8 p l).trans (join3_at g.val h0 W x7 x6 x8 g.isLt hx6 hx7 hx8 p l h1 h2)

include hgi in
theorem hv_of : kernelRun.sl.v10 i = BitVec.ofNat 32 (4096 * g.val) := by rw [hgi]; exact v10_eq i

include hgi hx2 hx3 hx4 hx5 hx6 hx7 hx8 in
theorem accAt_val (y : S4096x128.Idx) : accAt (F := Ideal) c i arg2 harg2 arg3 harg3 arg4 harg4 arg5 harg5 arg6 harg6 arg7 harg7 arg8 harg8 arg10 arg11 arg12 x2 x3 x4 x5 x6 x7 x8 y =
    run3 (fun b => top (score c8 Q K (dil b) (4096 * g.val + (y 0).val) (h0 + (y 1).val / 64))) (fun b => wsum (score c8 Q K (dil b) (4096 * g.val + (y 0).val) (h0 + (y 1).val / 64)) (val W (dil b) (4096 * g.val + (y 0).val) (h0 + (y 1).val / 64) ((y 1).val % 64))) :=
  merged _ _ _ _ _ _ _ _
    (M1_row c arg10 arg11 _ _ c8 Q K g h0 (hQ_of c arg2 harg2 arg10 x2 c8 Q g h0 hx2) (hK_of c arg3 harg3 arg4 harg4 arg5 harg5 arg11 x3 x4 x5 K g h0 hx3 hx4 hx5) y (kernelRun.sl.v10 i) (hv_of i g hgi))
    (M2_row c arg10 arg11 _ _ c8 Q K g h0 (hQ_of c arg2 harg2 arg10 x2 c8 Q g h0 hx2) (hK_of c arg3 harg3 arg4 harg4 arg5 harg5 arg11 x3 x4 x5 K g h0 hx3 hx4 hx5) y (kernelRun.sl.v10 i) (hv_of i g hgi))
    (M3_row c arg10 arg11 _ _ c8 Q K g h0 (hQ_of c arg2 harg2 arg10 x2 c8 Q g h0 hx2) (hK_of c arg3 harg3 arg4 harg4 arg5 harg5 arg11 x3 x4 x5 K g h0 hx3 hx4 hx5) y (kernelRun.sl.v10 i) (hv_of i g hgi))
    (U1_row c arg10 arg11 arg12 _ _ _ c8 Q K W g h0 (hQ_of c arg2 harg2 arg10 x2 c8 Q g h0 hx2) (hK_of c arg3 harg3 arg4 harg4 arg5 harg5 arg11 x3 x4 x5 K g h0 hx3 hx4 hx5) (hW_of c arg6 harg6 arg7 harg7 arg8 harg8 arg12 x6 x7 x8 W g h0 hx6 hx7 hx8) y (kernelRun.sl.v10 i) (hv_of i g hgi))
    (U2_row c arg10 arg11 arg12 _ _ _ c8 Q K W g h0 (hQ_of c arg2 harg2 arg10 x2 c8 Q g h0 hx2) (hK_of c arg3 harg3 arg4 harg4 arg5 harg5 arg11 x3 x4 x5 K g h0 hx3 hx4 hx5) (hW_of c arg6 harg6 arg7 harg7 arg8 harg8 arg12 x6 x7 x8 W g h0 hx6 hx7 hx8) y (kernelRun.sl.v10 i) (hv_of i g hgi))
    (U3_row c arg10 arg11 arg12 _ _ _ c8 Q K W g h0 (hQ_of c arg2 harg2 arg10 x2 c8 Q g h0 hx2) (hK_of c arg3 harg3 arg4 harg4 arg5 harg5 arg11 x3 x4 x5 K g h0 hx3 hx4 hx5) (hW_of c arg6 harg6 arg7 harg7 arg8 harg8 arg12 x6 x7 x8 W g h0 hx6 hx7 hx8) y (kernelRun.sl.v10 i) (hv_of i g hgi))

include hgi hx2 hx3 hx4 hx5 in
theorem massAt_val (y : S4096x128.Idx) : massAt (F := Ideal) c i arg2 harg2 arg3 harg3 arg4 harg4 arg5 harg5 arg10 arg11 x2 x3 x4 x5 y =
    run3 (fun b => top (score c8 Q K (dil b) (4096 * g.val + (y 0).val) (h0 + (y 1).val / 64))) (fun b => mass (score c8 Q K (dil b) (4096 * g.val + (y 0).val) (h0 + (y 1).val / 64))) :=
  merged _ _ _ _ _ _ _ _
    (M1_row c arg10 arg11 _ _ c8 Q K g h0 (hQ_of c arg2 harg2 arg10 x2 c8 Q g h0 hx2) (hK_of c arg3 harg3 arg4 harg4 arg5 harg5 arg11 x3 x4 x5 K g h0 hx3 hx4 hx5) y (kernelRun.sl.v10 i) (hv_of i g hgi))
    (M2_row c arg10 arg11 _ _ c8 Q K g h0 (hQ_of c arg2 harg2 arg10 x2 c8 Q g h0 hx2) (hK_of c arg3 harg3 arg4 harg4 arg5 harg5 arg11 x3 x4 x5 K g h0 hx3 hx4 hx5) y (kernelRun.sl.v10 i) (hv_of i g hgi))
    (M3_row c arg10 arg11 _ _ c8 Q K g h0 (hQ_of c arg2 harg2 arg10 x2 c8 Q g h0 hx2) (hK_of c arg3 harg3 arg4 harg4 arg5 harg5 arg11 x3 x4 x5 K g h0 hx3 hx4 hx5) y (kernelRun.sl.v10 i) (hv_of i g hgi))
    (L1_row c arg10 arg11 _ _ c8 Q K g h0 (hQ_of c arg2 harg2 arg10 x2 c8 Q g h0 hx2) (hK_of c arg3 harg3 arg4 harg4 arg5 harg5 arg11 x3 x4 x5 K g h0 hx3 hx4 hx5) y (kernelRun.sl.v10 i) (hv_of i g hgi))
    (L2_row c arg10 arg11 _ _ c8 Q K g h0 (hQ_of c arg2 harg2 arg10 x2 c8 Q g h0 hx2) (hK_of c arg3 harg3 arg4 harg4 arg5 harg5 arg11 x3 x4 x5 K g h0 hx3 hx4 hx5) y (kernelRun.sl.v10 i) (hv_of i g hgi))
    (L3_row c arg10 arg11 _ _ c8 Q K g h0 (hQ_of c arg2 harg2 arg10 x2 c8 Q g h0 hx2) (hK_of c arg3 harg3 arg4 harg4 arg5 harg5 arg11 x3 x4 x5 K g h0 hx3 hx4 hx5) y (kernelRun.sl.v10 i) (hv_of i g hgi))

/-- The last division, entry by entry. -/
theorem pay8_at (a b : FVec Ideal S4096x128 .f32) (y : S4096x128.Idx) : k0_pay8 (F := Ideal) a b y = Ideal.div (a y) (b y) := rfl

include hgi hx2 hx3 hx4 hx5 hx6 hx7 hx8 in
/-- A grid point's result is the attention over its rows. -/
theorem outVal_at (y : S4096x128.Idx) : outVal (F := Ideal) c i arg2 harg2 arg3 harg3 arg4 harg4 arg5 harg5 arg6 harg6 arg7 harg7 arg8 harg8 arg10 arg11 arg12 x2 x3 x4 x5 x6 x7 x8 y =
    attn c8 Q K W (4096 * g.val + (y 0).val) (h0 + (y 1).val / 64) ((y 1).val % 64) :=
  (pay8_at _ _ y).trans (congr (congrArg Ideal.div (accAt_val c i arg2 harg2 arg3 harg3 arg4 harg4 arg5 harg5 arg6 harg6 arg7 harg7 arg8 harg8 arg10 arg11 arg12 x2 x3 x4 x5 x6 x7 x8 c8 Q K W g hgi h0 hx2 hx3 hx4 hx5 hx6 hx7 hx8 y))
    (massAt_val c i arg2 harg2 arg3 harg3 arg4 harg4 arg5 harg5 arg10 arg11 x2 x3 x4 x5 c8 Q K g hgi h0 hx2 hx3 hx4 hx5 y))

end

end Cert.Proof.At
-- ==== Proof.At.Args.lean ====
module

public import proofs.«01_k».proof.Proof.At.Spec
public import Idealize.ShloMosaic.Lib.Pointwise

@[expose] public section

noncomputable section

namespace Cert.Proof.At

open Idealize.ShloMosaic

/-! ## The arguments, by position, head and lane -/

/-- The queries or keys. -/
def heads (a : (⟨4, ![1, 16384, 16, 64]⟩ : Shape).Idx → EReal) (x h e : ℕ) : EReal :=
  a (ix4 0 ⟨x % 16384, Nat.mod_lt _ (by norm_num)⟩ ⟨h % 16, Nat.mod_lt _ (by norm_num)⟩ ⟨e % 64, Nat.mod_lt _ (by norm_num)⟩)

/-- The values, which lie from column 2048 of the projections on. -/
def vals (a : (⟨3, ![1, 16384, 5120]⟩ : Shape).Idx → EReal) (x h e : ℕ) : EReal :=
  a (ix3 0 ⟨x % 16384, Nat.mod_lt _ (by norm_num)⟩ ⟨(2048 + (h * 64 + e)) % 5120, Nat.mod_lt _ (by norm_num)⟩)

theorem heads_at (a) (x : Fin 16384) (h : Fin 16) (e : Fin 64) : a (ix4 0 x h e) = heads a x.val h.val e.val := by
  unfold heads
  congr 2 <;> exact Fin.ext (Nat.mod_eq_of_lt (Fin.isLt _)).symm

theorem vals_at (a) (x : Fin 16384) (h e : ℕ) (k : Fin 5120) (hk : k.val = 2048 + (h * 64 + e)) : a (ix3 0 x k) = vals a x.val h e := by
  unfold vals
  congr 2
  · exact Fin.ext (Nat.mod_eq_of_lt x.isLt).symm
  · exact Fin.ext (by rw [hk]; exact (Nat.mod_eq_of_lt (hk ▸ k.isLt)).symm)

/-- The scores' factor, one eighth. -/
def c8 : EReal := Ideal.ofBits .f32 0x3E000000#32
theorem c8_real : c8 = ((1 / 8 : ℝ) : EReal) := by
  unfold c8
  simp [Ideal.ofBits, Ideal.ieee, -EReal.coe_mul]
  norm_num

end Cert.Proof.At
-- ==== Proof.At.Array.lean ====
module

public import proofs.«01_k».proof.Proof.At.KVal
public import proofs.«01_k».proof.Proof.At.Args
public import proofs.«01_k».proof.Proof.KI.Run
public import Idealize.ShloMosaic.Lib.StableHlo.ReadAt
public import Idealize.ShloMosaic.Lib.Quiescent

@[expose] public section

set_option maxRecDepth 16384

noncomputable section

namespace Cert.Proof.At

open Cert.KernelIdeal Cert.KernelIdeal.Gen
open Cert.Proof.KI hiding run3
open Idealize.ShloMosaic Idealize.ShloMosaic.TcCoe Idealize.ShloMosaic.Tactic
open Idealize.SL.Sem
open Idealize.ShloMosaic.Pipeline (Dat Window)

variable (m : (ℓ : Loc nD τ sig) → Buf (Elt Ideal) ℓ)

/-! ## The launch's arrays -/

abbrev A0 (c : Dev nD) : S1x16384x16x64.Idx → EReal := m ((c.tc : Thread nD τ).loc main_arg0)
abbrev A1 (c : Dev nD) : S1x16384x16x64.Idx → EReal := m ((c.tc : Thread nD τ).loc main_arg1)
abbrev A2 (c : Dev nD) : S1x16384x5120.Idx → EReal := m ((c.tc : Thread nD τ).loc main_arg2)

/-- The array of scaled queries and keys, at an index. -/
theorem V5_at (c : Dev nD) (r : Fin 16384) (l : Fin 2048) : (V m c main_v5 : S16384x2048.Idx → EReal) (ix2 r l) =
    if h : l.val < 1024 then A0 m c (ix4 0 r ⟨l.val / 64, by omega⟩ ⟨l.val % 64, by omega⟩) * c8
    else A1 m c (ix4 0 r ⟨(l.val - 1024) / 64, by omega⟩ ⟨(l.val - 1024) % 64, by omega⟩) := by
  unfold V
  after_reads_at
  by_cases h : l.val < 1024
  · rw [dif_pos h, dif_pos h]
    after_reads_at
    rfl
  · rw [dif_neg h, dif_neg h]
    after_reads_at

/-- The array of projections, at an index. -/
theorem V7_at (c : Dev nD) (r : Fin 16384) (l : Fin 5120) : (V m c main_v7 : S16384x5120.Idx → EReal) (ix2 r l) = A2 m c (ix3 0 r l) := by
  unfold V
  after_reads_at

/-! ## The windows' blocks -/

theorem idx0 : ∀ t : Fin cfg0.N, win0_0.index t 0 = (grid0.coords t 0).val ∧ win0_0.index t 1 = (grid0.coords t 1).val :=
  (by decide +kernel : ∀ t : Fin grid0.N, _)
theorem idx1 : ∀ t : Fin cfg0.N, win0_1.index t 0 = (grid0.coords t 0).val ∧ win0_1.index t 1 = 8 + (grid0.coords t 1).val :=
  (by decide +kernel : ∀ t : Fin grid0.N, _)
theorem idx2 : ∀ t : Fin cfg0.N, win0_2.index t 0 = 4 * (grid0.coords t 0).val - 1 ∧ win0_2.index t 1 = 8 + (grid0.coords t 1).val :=
  (by decide +kernel : ∀ t : Fin grid0.N, _)
theorem idx3 : ∀ t : Fin cfg0.N, win0_3.index t 0 = min (4 * (grid0.coords t 0).val + 4) 15 ∧ win0_3.index t 1 = 8 + (grid0.coords t 1).val :=
  (by decide +kernel : ∀ t : Fin grid0.N, _)
theorem idx4 : ∀ t : Fin cfg0.N, win0_4.index t 0 = (grid0.coords t 0).val ∧ win0_4.index t 1 = 16 + (grid0.coords t 1).val :=
  (by decide +kernel : ∀ t : Fin grid0.N, _)
theorem idx5 : ∀ t : Fin cfg0.N, win0_5.index t 0 = 4 * (grid0.coords t 0).val - 1 ∧ win0_5.index t 1 = 16 + (grid0.coords t 1).val :=
  (by decide +kernel : ∀ t : Fin grid0.N, _)
theorem idx6 : ∀ t : Fin cfg0.N, win0_6.index t 0 = min (4 * (grid0.coords t 0).val + 4) 15 ∧ win0_6.index t 1 = 16 + (grid0.coords t 1).val :=
  (by decide +kernel : ∀ t : Fin grid0.N, _)
theorem idx7 : ∀ t : Fin cfg0.N, win0_7.index t 0 = (grid0.coords t 0).val ∧ win0_7.index t 1 = (grid0.coords t 1).val :=
  (by decide +kernel : ∀ t : Fin grid0.N, _)

theorem g_lt (t : Fin cfg0.N) : (grid0.coords t 0).val < 4 := (grid0.coords t 0).isLt
theorem hp_lt (t : Fin cfg0.N) : (grid0.coords t 1).val < 8 := (grid0.coords t 1).isLt

theorem blk0_at (c : Dev nD) (t : Fin cfg0.N) (p : Fin 4096) (l : Fin 128) : (iblk m c 0 t : S4096x128.Idx → EReal) (ix2 p l) =
    heads (A0 m c) (4096 * (grid0.coords t 0).val + p.val) (2 * (grid0.coords t 1).val + l.val / 64) (l.val % 64) * c8 := by
  have hg := g_lt t
  have hh := hp_lt t
  have e : (iblk m c 0 t : S4096x128.Idx → EReal) (ix2 p l) = (V m c main_v5 : S16384x2048.Idx → EReal)
      (ix2 ⟨4096 * (grid0.coords t 0).val + p.val, by omega⟩ ⟨128 * ((grid0.coords t 1).val) + l.val, by omega⟩) := by
    refine congrArg (V m c main_v5 : S16384x2048.Idx → EReal) ?_
    funext a
    apply Fin.ext
    match a with
    | ⟨0, _⟩ =>
      refine (Window.rect_emb_val win0_0 t (ix2 p l) 0).trans ?_
      rw [(idx0 t).1]
      show (grid0.coords t 0).val * 4096 + p.val = 4096 * (grid0.coords t 0).val + p.val
      omega
    | ⟨1, _⟩ =>
      refine (Window.rect_emb_val win0_0 t (ix2 p l) 1).trans ?_
      rw [(idx0 t).2]
      show ((grid0.coords t 1).val) * 128 + l.val = 128 * ((grid0.coords t 1).val) + l.val
      omega
  rw [e, V5_at, dif_pos (show 128 * ((grid0.coords t 1).val) + l.val < 1024 by omega), heads_at (A0 m c)]
  exact congrArg (· * c8) (app3 (heads (A0 m c)) rfl (by simp only []; omega) (by simp only []; omega))

theorem blk1_at (c : Dev nD) (t : Fin cfg0.N) (p : Fin 4096) (l : Fin 128) : (iblk m c 1 t : S4096x128.Idx → EReal) (ix2 p l) =
    heads (A1 m c) (4096 * (grid0.coords t 0).val + p.val) (2 * (grid0.coords t 1).val + l.val / 64) (l.val % 64) := by
  have hg := g_lt t
  have hh := hp_lt t
  have e : (iblk m c 1 t : S4096x128.Idx → EReal) (ix2 p l) = (V m c main_v5 : S16384x2048.Idx → EReal)
      (ix2 ⟨4096 * (grid0.coords t 0).val + p.val, by omega⟩ ⟨128 * (8 + (grid0.coords t 1).val) + l.val, by omega⟩) := by
    refine congrArg (V m c main_v5 : S16384x2048.Idx → EReal) ?_
    funext a
    apply Fin.ext
    match a with
    | ⟨0, _⟩ =>
      refine (Window.rect_emb_val win0_1 t (ix2 p l) 0).trans ?_
      rw [(idx1 t).1]
      show (grid0.coords t 0).val * 4096 + p.val = 4096 * (grid0.coords t 0).val + p.val
      omega
    | ⟨1, _⟩ =>
      refine (Window.rect_emb_val win0_1 t (ix2 p l) 1).trans ?_
      rw [(idx1 t).2]
      show (8 + (grid0.coords t 1).val) * 128 + l.val = 128 * (8 + (grid0.coords t 1).val) + l.val
      omega
  rw [e, V5_at, dif_neg (show ¬128 * (8 + (grid0.coords t 1).val) + l.val < 1024 by omega), heads_at (A1 m c)]
  exact app3 (heads (A1 m c)) rfl (by simp only []; omega) (by simp only []; omega)

theorem blk2_at (c : Dev nD) (t : Fin cfg0.N) (h : 1 ≤ (grid0.coords t 0).val) (p : Fin 1024) (l : Fin 128) : (iblk m c 2 t : S1024x128.Idx → EReal) (ix2 p l) =
    heads (A1 m c) (4096 * (grid0.coords t 0).val + p.val - 1024) (2 * (grid0.coords t 1).val + l.val / 64) (l.val % 64) := by
  have hg := g_lt t
  have hh := hp_lt t
  have e : (iblk m c 2 t : S1024x128.Idx → EReal) (ix2 p l) = (V m c main_v5 : S16384x2048.Idx → EReal)
      (ix2 ⟨4096 * (grid0.coords t 0).val + p.val - 1024, by omega⟩ ⟨128 * (8 + (grid0.coords t 1).val) + l.val, by omega⟩) := by
    refine congrArg (V m c main_v5 : S16384x2048.Idx → EReal) ?_
    funext a
    apply Fin.ext
    match a with
    | ⟨0, _⟩ =>
      refine (Window.rect_emb_val win0_2 t (ix2 p l) 0).trans ?_
      rw [(idx2 t).1]
      show (4 * (grid0.coords t 0).val - 1) * 1024 + p.val = 4096 * (grid0.coords t 0).val + p.val - 1024
      omega
    | ⟨1, _⟩ =>
      refine (Window.rect_emb_val win0_2 t (ix2 p l) 1).trans ?_
      rw [(idx2 t).2]
      show (8 + (grid0.coords t 1).val) * 128 + l.val = 128 * (8 + (grid0.coords t 1).val) + l.val
      omega
  rw [e, V5_at, dif_neg (show ¬128 * (8 + (grid0.coords t 1).val) + l.val < 1024 by omega), heads_at (A1 m c)]
  exact app3 (heads (A1 m c)) rfl (by simp only []; omega) (by simp only []; omega)

theorem blk3_at (c : Dev nD) (t : Fin cfg0.N) (h : (grid0.coords t 0).val < 3) (p : Fin 1024) (l : Fin 128) : (iblk m c 3 t : S1024x128.Idx → EReal) (ix2 p l) =
    heads (A1 m c) (4096 * (grid0.coords t 0).val + 4096 + p.val) (2 * (grid0.coords t 1).val + l.val / 64) (l.val % 64) := by
  have hg := g_lt t
  have hh := hp_lt t
  have e : (iblk m c 3 t : S1024x128.Idx → EReal) (ix2 p l) = (V m c main_v5 : S16384x2048.Idx → EReal)
      (ix2 ⟨4096 * (grid0.coords t 0).val + 4096 + p.val, by omega⟩ ⟨128 * (8 + (grid0.coords t 1).val) + l.val, by omega⟩) := by
    refine congrArg (V m c main_v5 : S16384x2048.Idx → EReal) ?_
    funext a
    apply Fin.ext
    match a with
    | ⟨0, _⟩ =>
      refine (Window.rect_emb_val win0_3 t (ix2 p l) 0).trans ?_
      rw [(idx3 t).1]
      show (min (4 * (grid0.coords t 0).val + 4) 15) * 1024 + p.val = 4096 * (grid0.coords t 0).val + 4096 + p.val
      omega
    | ⟨1, _⟩ =>
      refine (Window.rect_emb_val win0_3 t (ix2 p l) 1).trans ?_
      rw [(idx3 t).2]
      show (8 + (grid0.coords t 1).val) * 128 + l.val = 128 * (8 + (grid0.coords t 1).val) + l.val
      omega
  rw [e, V5_at, dif_neg (show ¬128 * (8 + (grid0.coords t 1).val) + l.val < 1024 by omega), heads_at (A1 m c)]
  exact app3 (heads (A1 m c)) rfl (by simp only []; omega) (by simp only []; omega)

theorem blk4_at (c : Dev nD) (t : Fin cfg0.N) (p : Fin 4096) (l : Fin 128) : (iblk m c 4 t : S4096x128.Idx → EReal) (ix2 p l) =
    vals (A2 m c) (4096 * (grid0.coords t 0).val + p.val) (2 * (grid0.coords t 1).val + l.val / 64) (l.val % 64) := by
  have hg := g_lt t
  have hh := hp_lt t
  have e : (iblk m c 4 t : S4096x128.Idx → EReal) (ix2 p l) = (V m c main_v7 : S16384x5120.Idx → EReal)
      (ix2 ⟨4096 * (grid0.coords t 0).val + p.val, by omega⟩ ⟨128 * (16 + (grid0.coords t 1).val) + l.val, by omega⟩) := by
    refine congrArg (V m c main_v7 : S16384x5120.Idx → EReal) ?_
    funext a
    apply Fin.ext
    match a with
    | ⟨0, _⟩ =>
      refine (Window.rect_emb_val win0_4 t (ix2 p l) 0).trans ?_
      rw [(idx4 t).1]
      show (grid0.coords t 0).val * 4096 + p.val = 4096 * (grid0.coords t 0).val + p.val
      omega
    | ⟨1, _⟩ =>
      refine (Window.rect_emb_val win0_4 t (ix2 p l) 1).trans ?_
      rw [(idx4 t).2]
      show (16 + (grid0.coords t 1).val) * 128 + l.val = 128 * (16 + (grid0.coords t 1).val) + l.val
      omega
  rw [e, V7_at, vals_at (A2 m c) _ (2 * (grid0.coords t 1).val + l.val / 64) (l.val % 64) _ (by show 128 * (16 + (grid0.coords t 1).val) + l.val = _; omega)]

theorem blk5_at (c : Dev nD) (t : Fin cfg0.N) (h : 1 ≤ (grid0.coords t 0).val) (p : Fin 1024) (l : Fin 128) : (iblk m c 5 t : S1024x128.Idx → EReal) (ix2 p l) =
    vals (A2 m c) (4096 * (grid0.coords t 0).val + p.val - 1024) (2 * (grid0.coords t 1).val + l.val / 64) (l.val % 64) := by
  have hg := g_lt t
  have hh := hp_lt t
  have e : (iblk m c 5 t : S1024x128.Idx → EReal) (ix2 p l) = (V m c main_v7 : S16384x5120.Idx → EReal)
      (ix2 ⟨4096 * (grid0.coords t 0).val + p.val - 1024, by omega⟩ ⟨128 * (16 + (grid0.coords t 1).val) + l.val, by omega⟩) := by
    refine congrArg (V m c main_v7 : S16384x5120.Idx → EReal) ?_
    funext a
    apply Fin.ext
    match a with
    | ⟨0, _⟩ =>
      refine (Window.rect_emb_val win0_5 t (ix2 p l) 0).trans ?_
      rw [(idx5 t).1]
      show (4 * (grid0.coords t 0).val - 1) * 1024 + p.val = 4096 * (grid0.coords t 0).val + p.val - 1024
      omega
    | ⟨1, _⟩ =>
      refine (Window.rect_emb_val win0_5 t (ix2 p l) 1).trans ?_
      rw [(idx5 t).2]
      show (16 + (grid0.coords t 1).val) * 128 + l.val = 128 * (16 + (grid0.coords t 1).val) + l.val
      omega
  rw [e, V7_at, vals_at (A2 m c) _ (2 * (grid0.coords t 1).val + l.val / 64) (l.val % 64) _ (by show 128 * (16 + (grid0.coords t 1).val) + l.val = _; omega)]

theorem blk6_at (c : Dev nD) (t : Fin cfg0.N) (h : (grid0.coords t 0).val < 3) (p : Fin 1024) (l : Fin 128) : (iblk m c 6 t : S1024x128.Idx → EReal) (ix2 p l) =
    vals (A2 m c) (4096 * (grid0.coords t 0).val + 4096 + p.val) (2 * (grid0.coords t 1).val + l.val / 64) (l.val % 64) := by
  have hg := g_lt t
  have hh := hp_lt t
  have e : (iblk m c 6 t : S1024x128.Idx → EReal) (ix2 p l) = (V m c main_v7 : S16384x5120.Idx → EReal)
      (ix2 ⟨4096 * (grid0.coords t 0).val + 4096 + p.val, by omega⟩ ⟨128 * (16 + (grid0.coords t 1).val) + l.val, by omega⟩) := by
    refine congrArg (V m c main_v7 : S16384x5120.Idx → EReal) ?_
    funext a
    apply Fin.ext
    match a with
    | ⟨0, _⟩ =>
      refine (Window.rect_emb_val win0_6 t (ix2 p l) 0).trans ?_
      rw [(idx6 t).1]
      show (min (4 * (grid0.coords t 0).val + 4) 15) * 1024 + p.val = 4096 * (grid0.coords t 0).val + 4096 + p.val
      omega
    | ⟨1, _⟩ =>
      refine (Window.rect_emb_val win0_6 t (ix2 p l) 1).trans ?_
      rw [(idx6 t).2]
      show (16 + (grid0.coords t 1).val) * 128 + l.val = 128 * (16 + (grid0.coords t 1).val) + l.val
      omega
  rw [e, V7_at, vals_at (A2 m c) _ (2 * (grid0.coords t 1).val + l.val / 64) (l.val % 64) _ (by show 128 * (16 + (grid0.coords t 1).val) + l.val = _; omega)]

/-! ## The whole result -/

/-- The attention over the launch's queries, keys and values. -/
def G (c : Dev nD) : S16384x1024.Idx → EReal := fun y =>
  attn c8 (heads (A0 m c)) (heads (A1 m c)) (vals (A2 m c)) (y 0).val ((y 1).val / 64) ((y 1).val % 64)

theorem outs_at (c : Dev nD) (t : Fin cfg0.N) (y : S4096x128.Idx) : (outsAt m c t : S4096x128.Idx → EReal) y =
    attn c8 (heads (A0 m c)) (heads (A1 m c)) (vals (A2 m c)) (4096 * (grid0.coords t 0).val + (y 0).val)
      (2 * (grid0.coords t 1).val + (y 1).val / 64) ((y 1).val % 64) := by
  exact outVal_at c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (Memref.whole cc0_scratch0) (Memref.whole cc0_scratch1) (Memref.whole cc0_scratch2)
    (iblk m c 0 t) (iblk m c 1 t) (iblk m c 2 t) (iblk m c 3 t) (iblk m c 4 t) (iblk m c 5 t) (iblk m c 6 t)
    c8 (heads (A0 m c)) (heads (A1 m c)) (vals (A2 m c)) ⟨(grid0.coords t 0).val, g_lt t⟩ rfl (2 * (grid0.coords t 1).val)
    (blk0_at m c t) (blk1_at m c t) (fun h => blk2_at m c t h) (fun h => blk3_at m c t h)
    (blk4_at m c t) (fun h => blk5_at m c t h) (fun h => blk6_at m c t h) y

/-- An index lies in a grid point's block exactly where its coordinates divide to the block's. -/
theorem mem_blk (t : Fin cfg0.N) (i : S16384x1024.Idx) : i ∈ ((cfg0.win 7).blk t).view.set ↔
    (i 0).val / 4096 = (grid0.coords t 0).val ∧ (i 1).val / 128 = (grid0.coords t 1).val := by
  have key : (∀ a : Fin 2, win0_7.index t a * win0_7.size a ≤ (i a).val ∧ (i a).val < win0_7.index t a * win0_7.size a + win0_7.size a) ↔
      (i 0).val / 4096 = (grid0.coords t 0).val ∧ (i 1).val / 128 = (grid0.coords t 1).val := by
    rw [Fin.forall_fin_two, (idx7 t).1, (idx7 t).2]
    show ((grid0.coords t 0).val * 4096 ≤ (i 0).val ∧ (i 0).val < (grid0.coords t 0).val * 4096 + 4096) ∧
      ((grid0.coords t 1).val * 128 ≤ (i 1).val ∧ (i 1).val < (grid0.coords t 1).val * 128 + 128) ↔ _
    omega
  show i ∈ ((View.whole main_v8).slice (win0_7.rect t)).set ↔ _
  rw [View.set_slice_whole, Rect.mem_set_unit]
  exact key

theorem point_of : ∀ (a : Fin 4) (b : Fin 8), ∃ t : Fin cfg0.N, a.val = (grid0.coords t 0).val ∧ b.val = (grid0.coords t 1).val :=
  (by decide +kernel : ∀ (a : Fin 4) (b : Fin 8), ∃ t : Fin grid0.N, _)

theorem cover (i : S16384x1024.Idx) : ∃ t : Fin cfg0.N, (cfg0.win 7).flush t = true ∧ i ∈ ((cfg0.win 7).blk t).view.set := by
  have h0 : (i 0).val < 16384 := (i 0).isLt
  have h1 : (i 1).val < 1024 := (i 1).isLt
  obtain ⟨t, ha, hb⟩ := point_of ⟨(i 0).val / 4096, by omega⟩ ⟨(i 1).val / 128, by omega⟩
  exact ⟨t, flush0_7 t, (mem_blk t i).mpr ⟨ha, hb⟩⟩

/-- What a grid point writes back is its block of the attention. -/
theorem flushed_eq (c : Dev nD) (t : Fin cfg0.N) : (dats m 0 c).flushed 7 t = ((cfg0.win 7).blk t).view.read (Elt Ideal) (G m c) := by
  show (cfg0.win 7).cut (grid0.coords t) ((dats m 0 c).after 7 t) = _
  rw [after0_7]
  funext y
  have hg := g_lt t
  have hh := hp_lt t
  have h0 : (y 0).val < 4096 := (y 0).isLt
  have h1 : (y 1).val < 128 := (y 1).isLt
  have e0 : ((win0_7.rect t).emb y 0 : Nat) = 4096 * (grid0.coords t 0).val + (y 0).val := by
    refine (Window.rect_emb_val win0_7 t y 0).trans ?_
    rw [(idx7 t).1]
    exact congrArg (· + (y 0).val) (Nat.mul_comm _ 4096)
  have e1 : ((win0_7.rect t).emb y 1 : Nat) = 128 * (grid0.coords t 1).val + (y 1).val := by
    refine (Window.rect_emb_val win0_7 t y 1).trans ?_
    rw [(idx7 t).2]
    exact congrArg (· + (y 1).val) (Nat.mul_comm _ 128)
  refine (outs_at m c t y).trans ?_
  show _ = attn c8 (heads (A0 m c)) (heads (A1 m c)) (vals (A2 m c)) ((win0_7.rect t).emb y 0 : Nat) (((win0_7.rect t).emb y 1 : Nat) / 64) (((win0_7.rect t).emb y 1 : Nat) % 64)
  rw [e0, e1, show (128 * (grid0.coords t 1).val + (y 1).val) / 64 = 2 * (grid0.coords t 1).val + (y 1).val / 64 by omega,
    show (128 * (grid0.coords t 1).val + (y 1).val) % 64 = (y 1).val % 64 by omega]

/-- The result array ends at the attention. -/
theorem final (c : Dev nD) : (dats m 0 c).arrAt 7 cfg0.N = G m c :=
  (dats m 0 c).arrAt_eq_of_cover 7 (G m c) (fun t _ => flushed_eq m c t) cover

/-- Every run ends with the result array at the attention and the arguments as they began. -/
theorem run (ρ : Dev nD → PrngReg) : θ_run defs (onTc (τ := τ) (main (F := Ideal))) ⟨m, fun _ => 0, ρ⟩ (fun r => ∀ c : Dev nD,
      r.2.mem ((c.tc : Thread nD τ).loc main_v8) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 7).trans (final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_main m ρ)

end Cert.Proof.At
-- ==== Proof.At.RefVal.lean ====
module

public import proofs.«01_k».proof.Proof.At.Spec
public import proofs.«01_k».proof.Proof.At.Args
public import proofs.«01_k».proof.Proof.Gen.ReferenceIdeal
public import proofs.«01_k».proof.Proof.Gen.ReferenceIdeal.Run
public import Idealize.ShloMosaic.Lib.Pointwise
public import Idealize.ShloMosaic.Lib.WordCmp

@[expose] public section

set_option maxRecDepth 16384

noncomputable section

namespace Cert.Proof.At.Ref

open Cert.ReferenceIdeal Cert.ReferenceIdeal.Gen Cert.ReferenceIdeal.Value
open Idealize.ShloMosaic Idealize.ShloMosaic.TcCoe Idealize.ShloMosaic.Tactic Idealize.ShloMosaic.WordCmp

/-! ## The reference's steps, named -/

/-- The position of each key. -/
def rPos : IVec S16384x3x129 32 :=
  addi (broadcastInDim S16384x3x129 ![0, 1, 2] bcast_S16384x1x1_S16384x3x129_0_1_2 (broadcastInDim S16384x1x1 ![0] bcast_S16384_S16384x1x1_0 (iotaInDim S16384 32 0))) (broadcastInDim S16384x3x129 ![0, 1, 2] bcast_S1x3x129_S16384x3x129_0_1_2 (broadcastInDim S1x3x129 ![1, 2] bcast_S3x129_S1x3x129_1_2 (muli (broadcastInDim S3x129 ![0, 1] bcast_S3x1_S3x129_0_1 (broadcastInDim S3x1 ![0] bcast_S3_S3x1_0 ((fun i => lit0 (S3.rowMajor i))))) (broadcastInDim S3x129 ![0, 1] bcast_S1x129_S3x129_0_1 (broadcastInDim S1x129 ![1] bcast_S129_S1x129_1 (subi (iotaInDim S129 32 0) (broadcastInDim S129 ![] bcast_S_S129 (constantI S_ 32 64#32))))))))

/-- Whether the key is one of the sequence's. -/
def rIn : IVec S16384x3x129 1 :=
  andi (cmpi .sge rPos (broadcastInDim S16384x3x129 ![] bcast_S_S16384x3x129 (constantI S_ 32 0#32))) (cmpi .slt rPos (broadcastInDim S16384x3x129 ![] bcast_S_S16384x3x129 (constantI S_ 32 16384#32)))

/-- The row fetched for each key. -/
def rIdx : IVec S16384x3x129x1 32 :=
  broadcastInDim S16384x3x129x1 ![0, 1, 2] bcast_S16384x3x129_S16384x3x129x1_0_1_2 (select (cmpi .slt rPos (broadcastInDim S16384x3x129 ![] bcast_S_S16384x3x129 (constantI S_ 32 0#32))) (addi rPos (broadcastInDim S16384x3x129 ![] bcast_S_S16384x3x129 (constantI S_ 32 16384#32))) rPos)

/-- Rows fetched. -/
def rRows (x : FVec Ideal S16384x16x64 .f32) : FVec Ideal S16384x3x129x16x64 .f32 :=
  Host.gather gather_S16384x16x64_S16384x3x129x1_S16384x3x129x16x64_34_0_n_n_0_3_11664 x rIdx

/-- The masked scores. -/
def rS (q : FVec Ideal S16384x16x64 .f32) (k : FVec Ideal S16384x3x129x16x64 .f32) : FVec Ideal S16384x16x3x129 .f32 :=
  select (broadcastInDim S16384x16x3x129 ![0, 1, 2, 3] bcast_S16384x1x3x129_S16384x16x3x129_0_1_2_3 (broadcastInDim S16384x1x3x129 ![0, 2, 3] bcast_S16384x3x129_S16384x1x3x129_0_2_3 rIn))
    (mulf (Host.dotGeneral dot_S16384x16x64_S16384x3x129x16x64_S16384x16x3x129_2_4_n_12_01_03 none q k) (broadcastInDim S16384x16x3x129 ![] bcast_S_S16384x16x3x129 (constant S_ .f32 0x3E000000#32)))
    (broadcastInDim S16384x16x3x129 ![] bcast_S_S16384x16x3x129 (id (constant S_ .f32 0xFF800000#32)))

/-- Each branch's greatest score. -/
def rM (s : FVec Ideal S16384x16x3x129 .f32) : FVec Ideal S16384x16x3 .f32 :=
  Host.reduce FloatOps.maximumf s (constant S_ .f32 0xFF800000#32) reducesTo_S16384x16x3x129_S16384x16x3_d3 h_S_

/-- The exponentials. -/
def rE (s : FVec Ideal S16384x16x3x129 .f32) (g : FVec Ideal S16384x16x3 .f32) : FVec Ideal S16384x16x3x129 .f32 :=
  Host.exp (subf s (broadcastInDim S16384x16x3x129 ![0, 1, 2, 3] bcast_S16384x16x3x1_S16384x16x3x129_0_1_2_3 (broadcastInDim S16384x16x3x1 ![0, 1, 2] bcast_S16384x16x3_S16384x16x3x1_0_1_2 g)))

/-- Each branch's mass. -/
def rL (p : FVec Ideal S16384x16x3x129 .f32) : FVec Ideal S16384x16x3 .f32 :=
  Host.reduceAdd p (constant S_ .f32 0x00000000#32) reducesTo_S16384x16x3x129_S16384x16x3_d3 h_S_

/-- Each branch's normalised output. -/
def rO (p : FVec Ideal S16384x16x3x129 .f32) (w : FVec Ideal S16384x3x129x16x64 .f32) (l : FVec Ideal S16384x16x3 .f32) : FVec Ideal S16384x16x3x64 .f32 :=
  Host.divf (Host.dotGeneral dot_S16384x16x3x129_S16384x3x129x16x64_S16384x16x3x64_3_2_n_4_012_031 none p w) (broadcastInDim S16384x16x3x64 ![0, 1, 2, 3] bcast_S16384x16x3x1_S16384x16x3x64_0_1_2_3 (broadcastInDim S16384x16x3x1 ![0, 1, 2] bcast_S16384x16x3_S16384x16x3x1_0_1_2 l))

/-- The greatest score of the three branches. -/
def rT (g : FVec Ideal S16384x16x3 .f32) : FVec Ideal S16384x16 .f32 :=
  Host.reduce FloatOps.maximumf g (constant S_ .f32 0xFF800000#32) reducesTo_S16384x16x3_S16384x16_d2 h_S_

/-- Each branch's mass, relative to the greatest score. -/
def rW (l g : FVec Ideal S16384x16x3 .f32) (t : FVec Ideal S16384x16 .f32) : FVec Ideal S16384x16x3 .f32 :=
  mulf l (Host.exp (subf g (broadcastInDim S16384x16x3 ![0, 1, 2] bcast_S16384x16x1_S16384x16x3_0_1_2 (broadcastInDim S16384x16x1 ![0, 1] bcast_S16384x16_S16384x16x1_0_1 t))))

/-- The merge of the three branches. -/
def rOut (w : FVec Ideal S16384x16x3 .f32) (o : FVec Ideal S16384x16x3x64 .f32) : FVec Ideal S16384x16x64 .f32 :=
  Host.divf (Host.reduceAdd (mulf (broadcastInDim S16384x16x3x64 ![0, 1, 2, 3] bcast_S16384x16x3x1_S16384x16x3x64_0_1_2_3 (broadcastInDim S16384x16x3x1 ![0, 1, 2] bcast_S16384x16x3_S16384x16x3x1_0_1_2 w)) o) (constant S_ .f32 0x00000000#32) reducesTo_S16384x16x3x64_S16384x16x64_d2 h_S_)
    (broadcastInDim S16384x16x64 ![0, 1, 2] bcast_S16384x16x1_S16384x16x64_0_1_2 (broadcastInDim S16384x16x1 ![0, 1] bcast_S16384x16_S16384x16x1_0_1 (Host.reduceAdd w (constant S_ .f32 0x00000000#32) reducesTo_S16384x16x3_S16384x16_d2 h_S_)))

/-- The branches' outputs merged, from the scores and the values. -/
def rAll (s : FVec Ideal S16384x16x3x129 .f32) (w : FVec Ideal S16384x3x129x16x64 .f32) : FVec Ideal S16384x16x64 .f32 :=
  rOut (rW (rL (rE s (rM s))) (rM s) (rT (rM s))) (rO (rE s (rM s)) w (rL (rE s (rM s))))

/-- The queries or keys, and the values, by position, head and lane. -/
def rQ (a : FVec Ideal S1x16384x16x64 .f32) : FVec Ideal S16384x16x64 .f32 := shapeCast S16384x16x64 a shapeCasts_S1x16384x16x64_S16384x16x64
def rV (a : FVec Ideal S1x16384x5120 .f32) : FVec Ideal S16384x16x64 .f32 :=
  shapeCast S16384x16x64 (shapeCast S16384x1024 (extractStridedSlice S1x16384x1024 ![0, 0, 2048] a slices_S1x16384x5120_S1x16384x1024_0_0_2048) shapeCasts_S1x16384x1024_S16384x1024) shapeCasts_S16384x1024_S16384x16x64

/-- The reference's result. -/
def rRes (a0 a1 : FVec Ideal S1x16384x16x64 .f32) (a2 : FVec Ideal S1x16384x5120 .f32) : FVec Ideal S16384x1024 .bf16 :=
  shapeCast S16384x1024 (truncf .bf16 (rAll (rS (rQ a0) (rRows (rQ a1))) (rRows (rV a2))) bitsLt_bf16_f32) shapeCasts_S16384x16x64_S16384x1024

theorem res_eq (m : (ℓ : Loc nD τ sig) → Buf (Elt Ideal) ℓ) (c : Dev nD) :
    res_main_v68 m c = rRes (m ((c.tc : Thread nD τ).loc main_arg0)) (m ((c.tc : Thread nD τ).loc main_arg1)) (m ((c.tc : Thread nD τ).loc main_arg2)) := by
  unfold res_main_v68
  rfl

/-! ## Read at an index -/

theorem off_toInt : ∀ (b : Fin 3) (j : Fin 129), (lit0 b * (BitVec.ofNat 32 j.val - 64#32)).toInt = (dil b : ℤ) * ((j.val : ℤ) - 64) := by decide +kernel
theorem dil_pos : ∀ b : Fin 3, 1 ≤ dil b ∧ dil b ≤ 16 := by decide

theorem lit_at (b : Fin 3) : lit0 (S3.rowMajor (ix1 b)) = lit0 b := by
  refine congrArg lit0 (Fin.ext ?_)
  fin_cases b <;> rfl

theorem rPos_word (x : Fin 16384) (b : Fin 3) (j : Fin 129) :
    rPos (ix3 x b j) = BitVec.ofNat 32 x.val + lit0 b * (BitVec.ofNat 32 j.val - 64#32) := by
  pointwise [rPos]
  rw [lit_at]; rfl

theorem rPos_toInt (x : Fin 16384) (b : Fin 3) (j : Fin 129) : (rPos (ix3 x b j)).toInt = (x.val : ℤ) + (dil b : ℤ) * ((j.val : ℤ) - 64) := by
  have h1 := dil_pos b
  have h2 := j.isLt
  have h3 := x.isLt
  have h4 : (dil b : ℤ) * ((j.val : ℤ) - 64) ≤ 1024 := by nlinarith
  have h5 : -1024 ≤ (dil b : ℤ) * ((j.val : ℤ) - 64) := by nlinarith
  rw [rPos_word, BitVec.toInt_add, off_toInt, toInt_ofNat_of_lt (w := 32) (by omega)]
  exact Int.bmod_eq_of_le (by norm_num; omega) (by norm_num; omega)

theorem rIn_apply (x : Fin 16384) (b : Fin 3) (j : Fin 129) :
    rIn (ix3 x b j) = IntOp.andi (IntOp.cmpi .sge (rPos (ix3 x b j)) 0#32) (IntOp.cmpi .slt (rPos (ix3 x b j)) 16384#32) := by
  pointwise [rIn]

theorem rIdx_apply (x : Fin 16384) (b : Fin 3) (j : Fin 129) :
    rIdx (ix4 x b j 0) = Scalar.select (IntOp.cmpi .slt (rPos (ix3 x b j)) 0#32) (IntOp.addi (rPos (ix3 x b j)) 16384#32) (rPos (ix3 x b j)) := by
  pointwise [rIdx]

theorem rS_apply (q k) (x : Fin 16384) (h : Fin 16) (b : Fin 3) (j : Fin 129) :
    rS q k (ix4 x h b j) = Scalar.select (rIn (ix3 x b j)) ((∑ e : Fin 64, q (ix3 x h e) * k (ix5 x b j h e)) * Ideal.ofBits .f32 0x3E000000#32) (Ideal.ofBits .f32 0xFF800000#32) := by
  pointwise [rS]
  rfl

theorem bot_bits : Ideal.ofBits .f32 0xFF800000#32 = ⊥ := by simp [Ideal.ofBits, Ideal.ieee]

theorem fold_top {ι : Type} [Fintype ι] (f : ι → EReal) : Finset.fold max (⊥ : EReal) f Finset.univ = top f := rfl

theorem rM_apply (s) (x : Fin 16384) (h : Fin 16) (b : Fin 3) :
    rM s (ix3 x h b) = top fun j : Fin 129 => s (ix4 x h b j) := by
  pointwise [rM]
  rw [bot_bits, fold_top]

theorem rE_apply (s g) (x : Fin 16384) (h : Fin 16) (b : Fin 3) (j : Fin 129) :
    rE s g (ix4 x h b j) = Ideal.exp (s (ix4 x h b j) - g (ix3 x h b)) := by
  pointwise [rE]

theorem rL_apply (p) (x : Fin 16384) (h : Fin 16) (b : Fin 3) :
    rL p (ix3 x h b) = ∑ j : Fin 129, p (ix4 x h b j) := by
  pointwise [rL]

theorem rO_apply (p w l) (x : Fin 16384) (h : Fin 16) (b : Fin 3) (e : Fin 64) :
    rO p w l (ix4 x h b e) = Ideal.div (∑ j : Fin 129, p (ix4 x h b j) * w (ix5 x b j h e)) (l (ix3 x h b)) := by
  pointwise [rO]

theorem rT_apply (g) (x : Fin 16384) (h : Fin 16) :
    rT g (ix2 x h) = top fun b : Fin 3 => g (ix3 x h b) := by
  pointwise [rT]
  rw [bot_bits, fold_top]

theorem rW_apply (l g t) (x : Fin 16384) (h : Fin 16) (b : Fin 3) :
    rW l g t (ix3 x h b) = l (ix3 x h b) * Ideal.exp (g (ix3 x h b) - t (ix2 x h)) := by
  pointwise [rW]

theorem rOut_apply (w o) (x : Fin 16384) (h : Fin 16) (e : Fin 64) :
    rOut w o (ix3 x h e) = Ideal.div (∑ b : Fin 3, w (ix3 x h b) * o (ix4 x h b e)) (∑ b : Fin 3, w (ix3 x h b)) := by
  pointwise [rOut]

/-- The merged output at an index, from the scores and the values there. -/
theorem rAll_apply (s w) (x : Fin 16384) (h : Fin 16) (e : Fin 64) (g v : Fin 3 → Fin 129 → EReal)
    (hg : ∀ b j, s (ix4 x h b j) = g b j) (hv : ∀ b j, w (ix5 x b j h e) = v b j) :
    rAll s w (ix3 x h e) = Ideal.div (run3 (fun b => top (g b)) fun b => wsum (g b) (v b)) (run3 (fun b => top (g b)) fun b => mass (g b)) := by
  have hM : ∀ b, rM s (ix3 x h b) = top (g b) := fun b => by rw [rM_apply]; exact congrArg top (funext (hg b))
  have hE : ∀ b j, rE s (rM s) (ix4 x h b j) = wt (g b) j := fun b j => by rw [rE_apply, hM, hg]; rfl
  have hL : ∀ b, rL (rE s (rM s)) (ix3 x h b) = mass (g b) := fun b => by rw [rL_apply]; exact Finset.sum_congr rfl fun j _ => hE b j
  have hO : ∀ b, rO (rE s (rM s)) w (rL (rE s (rM s))) (ix4 x h b e) = Ideal.div (wsum (g b) (v b)) (mass (g b)) := fun b => by
    rw [rO_apply, hL]
    exact congrArg (Ideal.div · _) (Finset.sum_congr rfl fun j _ => by rw [hE, hv])
  have hT : rT (rM s) (ix2 x h) = top fun b => top (g b) := by rw [rT_apply]; exact congrArg top (funext hM)
  have hW : ∀ b, rW (rL (rE s (rM s))) (rM s) (rT (rM s)) (ix3 x h b) = mass (g b) * Ideal.exp (top (g b) - top fun b => top (g b)) := fun b => by
    rw [rW_apply, hL, hM, hT]
  rw [← merge_eq g v]
  unfold rAll
  rw [rOut_apply]
  exact congr (congrArg Ideal.div (Finset.sum_congr rfl fun b _ => by rw [hW, hO])) (Finset.sum_congr rfl fun b _ => by rw [hW])

theorem rQ_apply (a) (x : Fin 16384) (h : Fin 16) (e : Fin 64) : rQ a (ix3 x h e) = a (ix4 0 x h e) := by
  pointwise [rQ]

theorem rV_apply (a) (x : Fin 16384) (h : Fin 16) (e : Fin 64) : rV a (ix3 x h e) = a (ix3 0 x ⟨2048 + (h.val * 64 + e.val), by omega⟩) := by
  pointwise [rV]

theorem rRes_apply (a0 a1 a2) (x : Fin 16384) (col : Fin 1024) :
    rRes a0 a1 a2 (ix2 x col) = rAll (rS (rQ a0) (rRows (rQ a1))) (rRows (rV a2)) (ix3 x ⟨col.val / 64, by omega⟩ ⟨col.val % 64, by omega⟩) := by
  unfold rRes
  generalize rAll (rS (rQ a0) (rRows (rQ a1))) (rRows (rV a2)) = y
  pointwise

/-- The fetch's dimension numbers. -/
abbrev gd := gather_S16384x16x64_S16384x3x129x1_S16384x3x129x16x64_34_0_n_n_0_3_11664

theorem gd_kept : gd.sKept = [1, 2] := by decide +kernel
theorem gd_siKept : gd.siKept = [0, 1, 2] := by decide +kernel
theorem gd_batch : gd.batchDims = [0, 1, 2] := by decide +kernel

theorem gd_si (x : Fin 16384) (b : Fin 3) (j : Fin 129) (h : Fin 16) (e : Fin 64) (c : Fin gd.startIndexMap.length) :
    gd.siIdx (ix5 x b j h e) c = ix4 x b j 0 := by
  funext a
  apply Fin.ext
  match a with
  | ⟨0, _⟩ => rfl
  | ⟨1, _⟩ => rfl
  | ⟨2, _⟩ => rfl
  | ⟨3, _⟩ =>
    have h3 := (gd.siIdx (ix5 x b j h e) c (⟨3, by decide⟩ : Fin S16384x3x129x1.rank)).isLt
    exact Nat.lt_one_iff.mp h3

theorem gather_at (k : FVec Ideal S16384x16x64 .f32) (idx : IVec S16384x3x129x1 32) (x : Fin 16384) (b : Fin 3) (j : Fin 129) (h : Fin 16) (e : Fin 64) :
    Host.gather gd k idx (ix5 x b j h e) = k (ix3 ⟨min (idx (ix4 x b j 0)).toInt.toNat 16383, by omega⟩ h e) := by
  unfold Host.gather
  refine congrArg k ?_
  funext a
  apply Fin.ext
  show gd.start _ idx a + gd.batchCoord _ a + gd.offCoord _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ gd.startIndexMap from List.mem_singleton.mpr rfl), gd_si]
    rfl
  | ⟨1, _⟩ =>
    unfold GatherDims.start
    rw [dif_neg (show ¬ (⟨1, by decide⟩ : Fin 3) ∈ gd.startIndexMap by decide)]
    unfold GatherDims.offCoord
    rw [dif_pos (show (⟨1, by decide⟩ : Fin 3) ∈ gd.sKept by rw [gd_kept]; decide)]
    exact Nat.zero_add _
  | ⟨2, _⟩ =>
    unfold GatherDims.start
    rw [dif_neg (show ¬ (⟨2, by decide⟩ : Fin 3) ∈ gd.startIndexMap by decide)]
    unfold GatherDims.offCoord
    rw [dif_pos (show (⟨2, by decide⟩ : Fin 3) ∈ gd.sKept by rw [gd_kept]; decide)]
    exact Nat.zero_add _

theorem rRows_apply (k : FVec Ideal S16384x16x64 .f32) (x : Fin 16384) (b : Fin 3) (j : Fin 129) (h : Fin 16) (e : Fin 64) :
    rRows k (ix5 x b j h e) = k (ix3 ⟨min (rIdx (ix4 x b j 0)).toInt.toNat 16383, by omega⟩ h e) :=
  gather_at k rIdx x b j h e

/-- The key is one of the sequence's. -/
abbrev inside (x : Fin 16384) (b : Fin 3) (j : Fin 129) : Prop := 64 * dil b ≤ x.val + j.val * dil b ∧ x.val + j.val * dil b < 16384 + 64 * dil b

theorem pos_inside (x : Fin 16384) (b : Fin 3) (j : Fin 129) (hi : inside x b j) :
    (rPos (ix3 x b j)).toInt = ((x.val + j.val * dil b - 64 * dil b : ℕ) : ℤ) := by
  rw [rPos_toInt, Nat.cast_sub hi.1]; push_cast; ring

theorem inside_iff (x : Fin 16384) (b : Fin 3) (j : Fin 129) : inside x b j ↔ 0 ≤ (rPos (ix3 x b j)).toInt ∧ (rPos (ix3 x b j)).toInt < 16384 := by
  have e : (dil b : ℤ) * ((j.val : ℤ) - 64) = (j.val : ℤ) * (dil b : ℤ) - 64 * (dil b : ℤ) := by ring
  rw [rPos_toInt, e]
  constructor
  · rintro ⟨h1, h2⟩; zify at h1 h2; constructor <;> linarith
  · rintro ⟨h1, h2⟩; constructor <;> zify <;> linarith

theorem rIn_eq (x : Fin 16384) (b : Fin 3) (j : Fin 129) : rIn (ix3 x b j) = BitVec.ofBool (decide (inside x b j)) := by
  rw [rIn_apply, cmpi_sge_eq, cmpi_slt_eq, andi_ofBool]
  congr 1
  rw [← Bool.decide_and]
  exact decide_eq_decide.mpr (inside_iff x b j).symm

theorem row_inside (k : FVec Ideal S16384x16x64 .f32) (x : Fin 16384) (b : Fin 3) (j : Fin 129) (h : Fin 16) (e : Fin 64) (hi : inside x b j) :
    rRows k (ix5 x b j h e) = k (ix3 ⟨x.val + j.val * dil b - 64 * dil b, by have := hi.1; have := hi.2; omega⟩ h e) := by
  rw [rRows_apply]
  have hp := pos_inside x b j hi
  have hlt : x.val + j.val * dil b - 64 * dil b < 16384 := by have := hi.1; have := hi.2; omega
  have hn : IntOp.cmpi .slt (rPos (ix3 x b j)) 0#32 = 0#1 := by
    rw [cmpi_slt_eq, hp, ofBool_decide_eq_zero_iff]
    exact not_lt.mpr (Int.natCast_nonneg _)
  have hx : rIdx (ix4 x b j 0) = rPos (ix3 x b j) := by
    rw [rIdx_apply, hn]; exact if_neg (by decide)
  congr 2
  apply Fin.ext
  show min (rIdx (ix4 x b j 0)).toInt.toNat 16383 = _
  rw [hx, hp, Int.toNat_natCast]
  exact Nat.min_eq_left (by omega)

theorem score_at (a0 a1) (x : Fin 16384) (h : Fin 16) (b : Fin 3) (j : Fin 129) :
    rS (rQ a0) (rRows (rQ a1)) (ix4 x h b j) = score c8 (heads a0) (heads a1) (dil b) x.val h.val j := by
  rw [rS_apply, rIn_eq, bot_bits]
  unfold score
  by_cases hi : inside x b j
  · rw [if_pos hi, decide_eq_true hi]
    refine (if_pos rfl).trans ?_
    change _ * c8 = _
    rw [c8_real, mul_comm, ← mul_sum_real _ _ (by norm_num)]
    refine Finset.sum_congr rfl fun e _ => ?_
    rw [row_inside _ x b j h e hi, rQ_apply, rQ_apply, heads_at a0, heads_at a1, ← mul_assoc, mul_comm (_ : EReal) (heads a0 _ _ _)]
  · rw [if_neg hi, decide_eq_false hi]
    exact if_neg (by decide)

/-- The reference's result at an index. -/
theorem result_at (a0 a1 a2) (x : Fin 16384) (col : Fin 1024) :
    rRes a0 a1 a2 (ix2 x col) = attn c8 (heads a0) (heads a1) (vals a2) x.val (col.val / 64) (col.val % 64) := by
  rw [rRes_apply, rAll_apply _ _ x _ _ _ _ (fun b j => score_at a0 a1 x _ b j) (fun b j => rfl)]
  unfold attn
  congr 2
  funext b
  refine wsum_congr _ _ _ fun j hj => ?_
  have hi : inside x b j := by by_contra hh; exact hj (if_neg hh)
  rw [row_inside _ x b j _ _ hi, rV_apply]
  exact vals_at a2 _ _ _ _ rfl

/-- The reference's result, as a function of its index. -/
theorem result_eq (a0 a1 a2) : rRes a0 a1 a2 = fun y => attn c8 (heads a0) (heads a1) (vals a2) (y 0).val ((y 1).val / 64) ((y 1).val % 64) := by
  funext y
  have hy : y = ix2 (n0 := 16384) (n1 := 1024) (y 0) (y 1) := by
    funext a
    match a with
    | ⟨0, _⟩ => rfl
    | ⟨1, _⟩ => rfl
  exact (congrArg (rRes a0 a1 a2) hy).trans (result_at a0 a1 a2 (y 0) (y 1))

end Cert.Proof.At.Ref
-- ==== Proof.In.Pay.lean ====
module

public import proofs.«01_k».proof.Proof.Gen.InProjIdeal.Skeleton
public import Idealize.ShloMosaic.Lib.Pointwise

@[expose] public section

set_option maxRecDepth 16384

noncomputable section

namespace Cert.Proof.In

open Cert.InProjIdeal Cert.InProjIdeal.Gen
open Idealize.ShloMosaic

/-- A row's entry over the root of the row's mean square, times its gain. -/
def normed (x g : Fin 2048 → EReal) (k : Fin 2048) : EReal :=
  x k * Ideal.rsqrt (Ideal.div (∑ j, x j * x j) (Ideal.ofBits .f32 0x45000000#32) + Ideal.ofBits .f32 0x358637BD#32) * g k

/-- The normed row against a column of weights. -/
def proj (x g w : Fin 2048 → EReal) : EReal := ∑ k, normed x g k * w k

theorem pay1_at (x : FVec Ideal S1024x2048 .f32) (g : FVec Ideal S1x2048 .f32) (p : Fin 1024) (k : Fin 2048) :
    k0_pay1 (F := Ideal) x g (ix2 p k) = normed (fun k => x (ix2 p k)) (fun k => g (ix2 0 k)) k := by
  unfold k0_pay1
  pointwise
  rfl

theorem pay2_at (h : FVec Ideal S1024x2048 .bf16) (w : FVec Ideal S2048x1024 .bf16) (p : Fin 1024) (n : Fin 1024) :
    k0_pay2 (F := Ideal) h w (ix2 p n) = ∑ k, h (ix2 p k) * w (ix2 k n) := by
  unfold k0_pay2
  pointwise

end Cert.Proof.In
-- ==== Proof.In.Block.lean ====
module

public import proofs.«01_k».proof.Proof.In.Pay
public import proofs.«01_k».proof.Proof.Gen.InProjIdeal.Value
public import Idealize.ShloMosaic.Lib.StableHlo.ReadAt
public import Idealize.ShloMosaic.Lib.Tactic

@[expose] public section

set_option maxRecDepth 16384

noncomputable section

namespace Cert.Proof.In

open Cert.InProjIdeal Cert.InProjIdeal.Gen
open Idealize.ShloMosaic Idealize.ShloMosaic.TcCoe Idealize.ShloMosaic.Tactic
open Idealize.SL.Sem
open Idealize.ShloMosaic.Pipeline (Dat Window)

theorem hz : (![0, 0] : Fin 2 → Nat) = fun _ => 0 := funext fun a => by fin_cases a <;> rfl

section Cases
variable {F : FTy → Type} [FloatOps F]
variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S2048x1024 .bf16) (h4 : a4.IsWhole)
  (a5 : Memref sig .tc .vmem S1024x1024 .bf16) (h5 : a5.IsWhole) (a6 : Memref sig .tc .vmem S1024x2048 .bf16) (h6 : a6.IsWhole)
  (x : Vec F S1024x2048 .f32) (g : Vec F S1x2048 .f32) (w : Vec F S2048x1024 .bf16) (s : Vec F S1024x2048 .bf16)

/-- Where the rows are new, they are normed into the scratch, -/
theorem sout_A (hc : cond0_0 i) : sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- and multiplied out; -/
theorem out_A (hc : cond0_0 i) : out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero hz, View.readCov_unit_zero (S := S1024x2048) _ hz]
  simp only [View.readAt_eq_ld, h2.read_unread, h3.read_unread, h4.read_unread, View.ld_unit_zero (S := S1024x2048) hz, View.ld_unit_zero (S := S1x2048) hz,
    View.ld_unit_zero (S := S2048x1024) hz]

/-- elsewhere the scratch is multiplied out. -/
theorem out_B (hc : ¬cond0_0 i) : out0_B_3 c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  rw [View.canon_unit_zero hz]
  simp only [View.readAt_eq_ld, h4.read_unread, h6.read_unread, View.ld_unit_zero (S := S1024x2048) hz, View.ld_unit_zero (S := S2048x1024) hz]

end Cases

end Cert.Proof.In
-- ==== Proof.In.Array.lean ====
module

public import proofs.«01_k».proof.Proof.In.Block

@[expose] public section

set_option maxRecDepth 16384

noncomputable section

namespace Cert.Proof.In

open Cert.InProjIdeal Cert.InProjIdeal.Gen
open Idealize.ShloMosaic Idealize.ShloMosaic.TcCoe Idealize.ShloMosaic.Tactic
open Idealize.SL.Sem
open Idealize.ShloMosaic.Pipeline (Dat Window)

variable (m : (ℓ : Loc nD τ sig) → Buf (Elt Ideal) ℓ)

/-! ## The launch's arrays and the windows' blocks -/

abbrev A0 (c : Dev nD) : S1x16384x2048.Idx → EReal := m ((c.tc : Thread nD τ).loc main_arg0)
abbrev A1 (c : Dev nD) : S2048.Idx → EReal := m ((c.tc : Thread nD τ).loc main_arg1)
abbrev A2 (c : Dev nD) : S2048x5120.Idx → EReal := m ((c.tc : Thread nD τ).loc main_arg2)

theorem V0_at (c : Dev nD) (r : Fin 16384) (k : Fin 2048) : (V m c main_v0 : S16384x2048.Idx → EReal) (ix2 r k) = A0 m c (ix3 0 r k) := by
  unfold V
  after_reads_at

theorem V1_at (c : Dev nD) (k : Fin 2048) (n : Fin 5120) : (V m c main_v1 : S2048x5120.Idx → EReal) (ix2 k n) = A2 m c (ix2 k n) := by
  unfold V
  after_reads_at

theorem V2_at (c : Dev nD) (k : Fin 2048) : (V m c main_v2 : S1x2048.Idx → EReal) (ix2 0 k) = A1 m c (ix1 k) := by
  unfold V
  after_reads_at

theorem idx0 : ∀ t : Fin cfg0.N, win0_0.index t 0 = t.val / 5 ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = t.val % 5 := (by decide +kernel : ∀ t : Fin grid0.N, _)
theorem idx3 : ∀ t : Fin cfg0.N, win0_3.index t 0 = t.val / 5 ∧ win0_3.index t 1 = t.val % 5 := (by decide +kernel : ∀ t : Fin grid0.N, _)

theorem t_lt (t : Fin cfg0.N) : t.val < 80 := Nat.lt_of_lt_of_eq t.isLt N_0

/-- The row of the result that a block's row is, -/
abbrev rowOf (n : ℕ) (hn : n < 80) (p : Fin 1024) : Fin 16384 := ⟨1024 * (n / 5) + p.val, by omega⟩
/-- and the column. -/
abbrev colOf (n : ℕ) (q : Fin 1024) : Fin 5120 := ⟨1024 * (n % 5) + q.val, by omega⟩

theorem blk0_at (c : Dev nD) (t : Fin cfg0.N) (p : Fin 1024) (k : Fin 2048) :
    (iblk m c 0 t : S1024x2048.Idx → EReal) (ix2 p k) = A0 m c (ix3 0 (rowOf t.val (t_lt t) p) k) := by
  refine Eq.trans ?_ (V0_at m c (rowOf t.val (t_lt t) p) k)
  refine congrArg (V m c main_v0 : S16384x2048.Idx → EReal) ?_
  funext a
  apply Fin.ext
  match a with
  | ⟨0, _⟩ =>
    refine (Window.rect_emb_val win0_0 t (ix2 p k) 0).trans ?_
    rw [(idx0 t).1]
    exact congrArg (· + p.val) (Nat.mul_comm _ 1024)
  | ⟨1, _⟩ =>
    refine (Window.rect_emb_val win0_0 t (ix2 p k) 1).trans ?_
    rw [(idx0 t).2]
    show 0 * 2048 + k.val = k.val
    omega

theorem blk1_at (c : Dev nD) (t : Fin cfg0.N) (k : Fin 2048) :
    (iblk m c 1 t : S1x2048.Idx → EReal) (ix2 0 k) = A1 m c (ix1 k) := by
  refine Eq.trans ?_ (V2_at m c k)
  refine congrArg (V m c main_v2 : S1x2048.Idx → EReal) ?_
  funext a
  apply Fin.ext
  match a with
  | ⟨0, _⟩ =>
    refine (Window.rect_emb_val win0_1 t (ix2 0 k) 0).trans ?_
    rw [(idx1 t).1]
    show 0 * 1 + 0 = 0
    omega
  | ⟨1, _⟩ =>
    refine (Window.rect_emb_val win0_1 t (ix2 0 k) 1).trans ?_
    rw [(idx1 t).2]
    show 0 * 2048 + k.val = k.val
    omega

theorem blk2_at (c : Dev nD) (t : Fin cfg0.N) (k : Fin 2048) (q : Fin 1024) :
    (iblk m c 2 t : S2048x1024.Idx → EReal) (ix2 k q) = A2 m c (ix2 k (colOf t.val q)) := by
  refine Eq.trans ?_ (V1_at m c k (colOf t.val q))
  refine congrArg (V m c main_v1 : S2048x5120.Idx → EReal) ?_
  funext a
  apply Fin.ext
  match a with
  | ⟨0, _⟩ =>
    refine (Window.rect_emb_val win0_2 t (ix2 k q) 0).trans ?_
    rw [(idx2 t).1]
    show 0 * 2048 + k.val = k.val
    omega
  | ⟨1, _⟩ =>
    refine (Window.rect_emb_val win0_2 t (ix2 k q) 1).trans ?_
    rw [(idx2 t).2]
    exact congrArg (· + q.val) (Nat.mul_comm _ 1024)

/-! ## The scratch after each point, and what the point writes -/

/-- The normed rows of a point's block. -/
def rows (c : Dev nD) (n : ℕ) (hn : n < 80) (p : Fin 1024) (k : Fin 2048) : EReal :=
  normed (fun k => A0 m c (ix3 0 (rowOf n hn p) k)) (fun k => A1 m c (ix1 k)) k

theorem pay1_blk (c : Dev nD) (t : Fin cfg0.N) (p : Fin 1024) (k : Fin 2048) :
    k0_pay1 (F := Ideal) (iblk m c 0 t) (iblk m c 1 t) (ix2 p k) = rows m c t.val (t_lt t) p k := by
  refine (pay1_at (iblk m c 0 t) (iblk m c 1 t) p k).trans ?_
  unfold rows
  rw [funext fun k => blk0_at m c t p k, funext fun k => blk1_at m c t k]

/-- After a point the scratch holds the normed rows of its block. -/
theorem scratch_at (c : Dev nD) : ∀ (n : ℕ) (h : n < cfg0.N) (p : Fin 1024) (k : Fin 2048),
    ((outsAt0 m c n h).2 : S1024x2048.Idx → EReal) (ix2 p k) = rows m c n (Nat.lt_of_lt_of_eq h N_0) p k
  | 0, h, p, k => by
    rw [outsAt0_A m c ⟨0, h⟩ rfl]
    dsimp only
    rw [sout_A]
    exact pay1_blk m c ⟨0, h⟩ p k
  | n + 1, h, p, k => by
    by_cases h0 : (⟨n + 1, h⟩ : Fin cfg0.N).val % 5 = 0
    · rw [outsAt0_A m c ⟨n + 1, h⟩ h0]
      dsimp only
      rw [sout_A]
      exact pay1_blk m c ⟨n + 1, h⟩ p k
    · rw [outsAt0_B m c ⟨n + 1, h⟩ h0]
      refine (scratch_at c n (Nat.lt_of_succ_lt h) p k).trans ?_
      have e : n / 5 = (n + 1) / 5 := by
        have h0 : ¬(n + 1) % 5 = 0 := h0
        omega
      unfold rows
      refine congrArg (fun r => normed (fun k => A0 m c (ix3 0 r k)) (fun k => A1 m c (ix1 k)) k) ?_
      apply Fin.ext
      show 1024 * (n / 5) + p.val = 1024 * ((n + 1) / 5) + p.val
      rw [e]

theorem pay2_blk (c : Dev nD) (t : Fin cfg0.N) (s : FVec Ideal S1024x2048 .bf16)
    (hs : ∀ p k, s (ix2 p k) = rows m c t.val (t_lt t) p k) (p q : Fin 1024) :
    k0_pay2 (F := Ideal) s (iblk m c 2 t) (ix2 p q) =
      proj (fun k => A0 m c (ix3 0 (rowOf t.val (t_lt t) p) k)) (fun k => A1 m c (ix1 k)) (fun k => A2 m c (ix2 k (colOf t.val q))) := by
  refine (pay2_at s (iblk m c 2 t) p q).trans ?_
  unfold proj
  refine Finset.sum_congr rfl fun k _ => ?_
  exact congr (congrArg HMul.hMul (hs p k)) (blk2_at m c t k q)

theorem out_at (c : Dev nD) (t : Fin cfg0.N) (p q : Fin 1024) :
    ((outsAt0 m c t.val t.isLt).1 : S1024x1024.Idx → EReal) (ix2 p q) =
      proj (fun k => A0 m c (ix3 0 (rowOf t.val (t_lt t) p) k)) (fun k => A1 m c (ix1 k)) (fun k => A2 m c (ix2 k (colOf t.val q))) := by
  by_cases h0 : t.val % 5 = 0
  · rw [outsAt0_A m c t h0]
    dsimp only
    rw [out_A]
    exact pay2_blk m c t _ (fun p k => pay1_blk m c t p k) p q
  · rw [outsAt0_B m c t h0]
    dsimp only
    rw [out_B]
    refine pay2_blk m c t _ (fun p k => ?_) p q
    have hs := scratch_at m c t.val t.isLt p k
    rw [outsAt0_B m c t h0] at hs
    exact hs

/-! ## The whole result -/

/-- The projection of every normed row. -/
def G (c : Dev nD) : S16384x5120.Idx → EReal := fun y =>
  proj (fun k => A0 m c (ix3 0 (y 0) k)) (fun k => A1 m c (ix1 k)) (fun k => A2 m c (ix2 k (y 1)))

theorem flushed_eq (c : Dev nD) (t : Fin cfg0.N) : (dats m 0 c).flushed 3 t = ((cfg0.win 3).blk t).view.read (Elt Ideal) (G m c) := by
  rw [Cert.InProjIdeal.Value.flushed3]
  funext y
  have hy : y = ix2 (n0 := 1024) (n1 := 1024) (y 0) (y 1) := by
    funext a
    match a with
    | ⟨0, _⟩ => rfl
    | ⟨1, _⟩ => rfl
  have e0 : (win0_3.rect t).emb y 0 = rowOf t.val (t_lt t) (y 0) := by
    apply Fin.ext
    refine (Window.rect_emb_val win0_3 t y 0).trans ?_
    rw [(idx3 t).1]
    exact congrArg (· + (y 0).val) (Nat.mul_comm _ 1024)
  have e1 : (win0_3.rect t).emb y 1 = colOf t.val (y 1) := by
    apply Fin.ext
    refine (Window.rect_emb_val win0_3 t y 1).trans ?_
    rw [(idx3 t).2]
    exact congrArg (· + (y 1).val) (Nat.mul_comm _ 1024)
  show ((outsAt0 m c t.val t.isLt).1 : S1024x1024.Idx → EReal) y = proj (fun k => A0 m c (ix3 0 ((win0_3.rect t).emb y 0) k)) (fun k => A1 m c (ix1 k)) (fun k => A2 m c (ix2 k ((win0_3.rect t).emb y 1)))
  rw [e0, e1]
  exact (congrArg ((outsAt0 m c t.val t.isLt).1 : S1024x1024.Idx → EReal) hy).trans (out_at m c t (y 0) (y 1))

theorem final (c : Dev nD) : (dats m 0 c).arrAt 3 cfg0.N = G m c :=
  (dats m 0 c).arrAt_eq_of_cover 3 (G m c) (fun t _ => flushed_eq m c t) fun i => (Cert.InProjIdeal.Value.covered_iff3 i).2 (by
    have h0 : (i 0).val < 16384 := (i 0).isLt
    have h1 : (i 1).val < 5120 := (i 1).isLt
    omega)

/-- Every run ends with the result array at the projection and the arguments as they began. -/
theorem run (ρ : Dev nD → PrngReg) : θ_run defs (onTc (τ := τ) (main (F := Ideal))) ⟨m, fun _ => 0, ρ⟩ (fun r => ∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c), (h c).2⟩) (Cert.InProjIdeal.Value.run_blocks m ρ)

end Cert.Proof.In
-- ==== Proof.In.Ref.lean ====
module

public import proofs.«01_k».proof.Proof.Gen.InProjReferenceIdeal
public import proofs.«01_k».proof.Proof.Gen.InProjReferenceIdeal.Run
public import proofs.«01_k».proof.Proof.In.Pay
public import Idealize.ShloMosaic.Lib.Pointwise

@[expose] public section

set_option maxRecDepth 16384

noncomputable section

namespace Cert.Proof.In.Ref

open Cert.InProjReferenceIdeal Cert.InProjReferenceIdeal.Gen
open Idealize.ShloMosaic

/-- The reference's result at an index. -/
theorem result_at (x : FVec Ideal S1x16384x2048 .f32) (g : FVec Ideal S2048 .f32) (w : FVec Ideal S2048x5120 .f32) (r : Fin 16384) (n : Fin 5120) :
    (truncf .bf16 (Host.dotGeneral dot_S16384x2048_S2048x5120_S16384x5120_1_0_0_1_n_n none (shapeCast _ (mulf (mulf x (broadcastInDim S1x16384x2048 ![0, 1, 2] bcast_S1x16384x1_S1x16384x2048_0_1_2 (Host.rsqrt (addf (Host.divf (broadcastInDim S1x16384x1 ![0, 1] bcast_S1x16384_S1x16384x1_0_1 (Host.reduceAdd (mulf x x) (constant S_ .f32 0x00000000#32) reducesTo_S1x16384x2048_S1x16384_d2 h_S_)) (broadcastInDim S1x16384x1 ![] bcast_S_S1x16384x1 (constant S_ .f32 0x45000000#32))) (broadcastInDim S1x16384x1 ![] bcast_S_S1x16384x1 (constant S_ .f32 0x358637BD#32)))))) (broadcastInDim S1x16384x2048 ![0, 1, 2] bcast_S1x1x2048_S1x16384x2048_0_1_2 (broadcastInDim S1x1x2048 ![2] bcast_S2048_S1x1x2048_2 g))) shapeCasts_S1x16384x2048_S16384x2048) w) bitsLt_bf16_f32 : FVec Ideal S16384x5120 .bf16) (ix2 r n) =
      proj (fun k => x (ix3 0 r k)) (fun k => g (ix1 k)) (fun k => w (ix2 k n)) := by
  pointwise
  rfl

/-- The reference's result, as a function of its index. -/
theorem result_eq (x : FVec Ideal S1x16384x2048 .f32) (g : FVec Ideal S2048 .f32) (w : FVec Ideal S2048x5120 .f32) :
    (truncf .bf16 (Host.dotGeneral dot_S16384x2048_S2048x5120_S16384x5120_1_0_0_1_n_n none (shapeCast _ (mulf (mulf x (broadcastInDim S1x16384x2048 ![0, 1, 2] bcast_S1x16384x1_S1x16384x2048_0_1_2 (Host.rsqrt (addf (Host.divf (broadcastInDim S1x16384x1 ![0, 1] bcast_S1x16384_S1x16384x1_0_1 (Host.reduceAdd (mulf x x) (constant S_ .f32 0x00000000#32) reducesTo_S1x16384x2048_S1x16384_d2 h_S_)) (broadcastInDim S1x16384x1 ![] bcast_S_S1x16384x1 (constant S_ .f32 0x45000000#32))) (broadcastInDim S1x16384x1 ![] bcast_S_S1x16384x1 (constant S_ .f32 0x358637BD#32)))))) (broadcastInDim S1x16384x2048 ![0, 1, 2] bcast_S1x1x2048_S1x16384x2048_0_1_2 (broadcastInDim S1x1x2048 ![2] bcast_S2048_S1x1x2048_2 g))) shapeCasts_S1x16384x2048_S16384x2048) w) bitsLt_bf16_f32 : FVec Ideal S16384x5120 .bf16) =
      fun y => proj (fun k => x (ix3 0 (y 0) k)) (fun k => g (ix1 k)) (fun k => w (ix2 k (y 1))) := by
  funext y
  have hy : y = ix2 (n0 := 16384) (n1 := 5120) (y 0) (y 1) := by
    funext a
    match a with
    | ⟨0, _⟩ => rfl
    | ⟨1, _⟩ => rfl
  rw [hy]
  exact result_at x g w (y 0) (y 1)

end Cert.Proof.In.Ref
-- ==== Proof.Out.Pay.lean ====
module

public import proofs.«01_k».proof.Proof.Gen.OutProjIdeal.Skeleton
public import Idealize.ShloMosaic.Lib.Pointwise

@[expose] public section

set_option maxRecDepth 16384

noncomputable section

namespace Cert.Proof.Out

open Cert.OutProjIdeal Cert.OutProjIdeal.Gen
open Idealize.ShloMosaic

/-- A row's entry over the root of the row's mean square (`d` is the row's length), times its gain. -/
def rmsOf (d : EReal) {n : ℕ} (x g : Fin n → EReal) (k : Fin n) : EReal :=
  x k * Ideal.rsqrt (Ideal.div (∑ j, x j * x j) d + Ideal.ofBits .f32 0x358637BD#32) * g k

/-- The lengths of a group's row and of a whole row. -/
abbrev dGroup : EReal := Ideal.ofBits .f32 0x44800000#32
abbrev dRow : EReal := Ideal.ofBits .f32 0x45000000#32

/-- The weights' rows that the attention group meets, -/
abbrev lo (k : Fin 1024) : Fin 2048 := ⟨k.val, by omega⟩
/-- and those of the convolution group. -/
abbrev hi (k : Fin 1024) : Fin 2048 := ⟨1024 + k.val, by omega⟩

/-- A row with the projection of its two normed groups added. -/
def added (x : Fin 2048 → EReal) (a ga b gb : Fin 1024 → EReal) (w : Fin 2048 → Fin 2048 → EReal) (n : Fin 2048) : EReal :=
  x n + (∑ k, rmsOf dGroup a ga k * w (lo k) n + ∑ k, rmsOf dGroup b gb k * w (hi k) n)

theorem pay3_at (x : FVec Ideal S512x1024 .bf16) (g : FVec Ideal S1x1024 .f32) (p : Fin 512) (k : Fin 1024) :
    k0_pay3 (F := Ideal) x g (ix2 p k) = rmsOf dGroup (fun k => x (ix2 p k)) (fun k => g (ix2 0 k)) k := by
  unfold k0_pay3
  pointwise
  rfl

theorem pay4_at (x : FVec Ideal S512x1024 .bf16) (g : FVec Ideal S1x1024 .f32) (w : FVec Ideal S1024x2048 .bf16) (p : Fin 512) (n : Fin 2048) :
    k0_pay4 (F := Ideal) x g w (ix2 p n) = ∑ k, rmsOf dGroup (fun k => x (ix2 p k)) (fun k => g (ix2 0 k)) k * w (ix2 k n) := by
  unfold k0_pay4
  pointwise
  rfl

theorem pay1_at (h : FVec Ideal S512x1024 .bf16) (s : FVec Ideal S512x2048 .f32) (w : FVec Ideal S1024x2048 .bf16) (x : FVec Ideal S512x2048 .f32)
    (p : Fin 512) (n : Fin 2048) :
    k0_pay1 (F := Ideal) h s w x (ix2 p n) = x (ix2 p n) + (s (ix2 p n) + ∑ k, h (ix2 p k) * w (ix2 k n)) := by
  unfold k0_pay1
  pointwise

theorem pay2_at (h : FVec Ideal S512x1024 .bf16) (s : FVec Ideal S512x2048 .f32) (w : FVec Ideal S1024x2048 .bf16) (x : FVec Ideal S512x2048 .f32)
    (g : FVec Ideal S1x2048 .f32) (n : Fin 2048) (p : Fin 512) :
    k0_pay2 (F := Ideal) h s w x g (ix2 n p) = rmsOf dRow (fun n => k0_pay1 (F := Ideal) h s w x (ix2 p n)) (fun n => g (ix2 0 n)) n := by
  unfold k0_pay2
  generalize k0_pay1 (F := Ideal) h s w x = y
  pointwise
  rfl

end Cert.Proof.Out
-- ==== Proof.Out.Array.lean ====
module

public import proofs.«01_k».proof.Proof.Out.Pay
public import proofs.«01_k».proof.Proof.Gen.OutProjIdeal.Value
public import Idealize.ShloMosaic.Lib.StableHlo.ReadAt
public import Idealize.ShloMosaic.Lib.Tactic

@[expose] public section

set_option maxRecDepth 16384

noncomputable section

namespace Cert.Proof.Out

open Cert.OutProjIdeal Cert.OutProjIdeal.Gen
open Idealize.ShloMosaic Idealize.ShloMosaic.TcCoe Idealize.ShloMosaic.Tactic
open Idealize.SL.Sem
open Idealize.ShloMosaic.Pipeline (Dat Window)

theorem hz : (![0, 0] : Fin 2 → Nat) = fun _ => 0 := funext fun a => by fin_cases a <;> rfl

/-! ## What the body leaves, of the blocks it reads -/

section Block
variable (x0 : FVec Ideal S512x2048 .f32) (x1 x2 : FVec Ideal S512x1024 .bf16) (x3 x4 : FVec Ideal S1x1024 .f32) (x5 : FVec Ideal S2048x2048 .bf16) (x6 : FVec Ideal S1x2048 .f32)

/-- A block's row with its mixture added. -/
abbrev blockRow (p : Fin 512) : Fin 2048 → EReal :=
  added (fun n => x0 (ix2 p n)) (fun k => x1 (ix2 p k)) (fun k => x3 (ix2 0 k)) (fun k => x2 (ix2 p k)) (fun k => x4 (ix2 0 k)) (fun k n => x5 (ix2 k n))

theorem ld_lo (k : Fin 1024) (n : Fin 2048) : View.ld (Val := Elt Ideal) (e' := .bf16) x5 r0_2 (ix2 k n) = x5 (ix2 (lo k) n) := by
  refine congrArg x5 ?_
  funext a
  apply Fin.ext
  match a with
  | ⟨0, _⟩ => show 0 + 1 * k.val = k.val; omega
  | ⟨1, _⟩ => show 0 + 1 * n.val = n.val; omega

theorem ld_hi (k : Fin 1024) (n : Fin 2048) : View.ld (Val := Elt Ideal) (e' := .bf16) x5 r0_3 (ix2 k n) = x5 (ix2 (hi k) n) := by
  refine congrArg x5 ?_
  funext a
  apply Fin.ext
  match a with
  | ⟨0, _⟩ => show 1024 + 1 * k.val = 1024 + k.val; omega
  | ⟨1, _⟩ => show 0 + 1 * n.val = n.val; omega

theorem pay_row (p : Fin 512) (n : Fin 2048) :
    k0_pay1 (F := Ideal) (k0_pay5 x0 x1 x2 x3 x4 x5 x6) (k0_pay6 x0 x1 x2 x3 x4 x5 x6) (View.ld x5 r0_3) (View.ld x0 r0_4) (ix2 p n) = blockRow x0 x1 x2 x3 x4 x5 p n := by
  unfold k0_pay5 k0_pay6
  simp only [View.ld_unit_zero (S := S512x2048) hz, View.ld_unit_zero (S := S512x1024) hz, View.ld_unit_zero (S := S1x1024) hz]
  refine (pay1_at _ _ _ _ p n).trans ?_
  unfold blockRow added
  refine congrArg (x0 (ix2 p n) + ·) ?_
  refine congr (congrArg HAdd.hAdd ((pay4_at x1 x3 _ p n).trans (Finset.sum_congr rfl fun k _ => ?_))) (Finset.sum_congr rfl fun k _ => ?_)
  · exact congrArg (rmsOf dGroup _ _ k * ·) (ld_lo x5 k n)
  · exact congr (congrArg HMul.hMul (pay3_at x2 x4 p k)) (ld_hi x5 k n)

theorem out7_at (p : Fin 512) (n : Fin 2048) : out0_7 (F := Ideal) x0 x1 x2 x3 x4 x5 x6 (ix2 p n) = blockRow x0 x1 x2 x3 x4 x5 p n := by
  unfold out0_7
  rw [View.canon_unit_zero hz]
  exact pay_row x0 x1 x2 x3 x4 x5 x6 p n

theorem out8_at (n : Fin 2048) (p : Fin 512) : out0_8 (F := Ideal) x0 x1 x2 x3 x4 x5 x6 (ix2 n p) = rmsOf dRow (blockRow x0 x1 x2 x3 x4 x5 p) (fun n => x6 (ix2 0 n)) n := by
  unfold out0_8
  rw [View.canon_unit_zero hz]
  refine (pay2_at _ _ _ _ _ n p).trans ?_
  rw [View.ld_unit_zero (S := S1x2048) hz]
  exact congrArg (fun f => rmsOf dRow f (fun n => x6 (ix2 0 n)) n) (funext fun n => pay_row x0 x1 x2 x3 x4 x5 x6 p n)

end Block

variable (m : (ℓ : Loc nD τ sig) → Buf (Elt Ideal) ℓ)

/-! ## The launch's arrays and the windows' blocks -/

abbrev A0 (c : Dev nD) : S1x16384x2048.Idx → EReal := m ((c.tc : Thread nD τ).loc main_arg0)
abbrev A1 (c : Dev nD) : S1x16384x1024.Idx → EReal := m ((c.tc : Thread nD τ).loc main_arg1)
abbrev A2 (c : Dev nD) : S1x16384x1024.Idx → EReal := m ((c.tc : Thread nD τ).loc main_arg2)
abbrev A3 (c : Dev nD) : S1024.Idx → EReal := m ((c.tc : Thread nD τ).loc main_arg3)
abbrev A4 (c : Dev nD) : S1024.Idx → EReal := m ((c.tc : Thread nD τ).loc main_arg4)
abbrev A5 (c : Dev nD) : S2048x2048.Idx → EReal := m ((c.tc : Thread nD τ).loc main_arg5)
abbrev A6 (c : Dev nD) : S2048.Idx → EReal := m ((c.tc : Thread nD τ).loc main_arg6)

theorem V0_at (c : Dev nD) (r : Fin 16384) (k : Fin 2048) : (V m c main_v0 : S16384x2048.Idx → EReal) (ix2 r k) = A0 m c (ix3 0 r k) := by
  unfold V
  after_reads_at

theorem V3_at (c : Dev nD) (r : Fin 16384) (k : Fin 1024) : (V m c main_v3 : S16384x1024.Idx → EReal) (ix2 r k) = A1 m c (ix3 0 r k) := by
  unfold V
  after_reads_at

theorem V4_at (c : Dev nD) (r : Fin 16384) (k : Fin 1024) : (V m c main_v4 : S16384x1024.Idx → EReal) (ix2 r k) = A2 m c (ix3 0 r k) := by
  unfold V
  after_reads_at

theorem V5_at (c : Dev nD) (k n : Fin 2048) : (V m c main_v5 : S2048x2048.Idx → EReal) (ix2 k n) = A5 m c (ix2 k n) := by
  unfold V
  after_reads_at

theorem V6_at (c : Dev nD) (k : Fin 1024) : (V m c main_v6 : S1x1024.Idx → EReal) (ix2 0 k) = A3 m c (ix1 k) := by
  unfold V
  after_reads_at

theorem V7_at (c : Dev nD) (k : Fin 1024) : (V m c main_v7 : S1x1024.Idx → EReal) (ix2 0 k) = A4 m c (ix1 k) := by
  unfold V
  after_reads_at

theorem V8_at (c : Dev nD) (k : Fin 2048) : (V m c main_v8 : S1x2048.Idx → EReal) (ix2 0 k) = A6 m c (ix1 k) := by
  unfold V
  after_reads_at

theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = 0 ∧ win0_6.index t 1 = 0 := (by decide +kernel : ∀ t : Fin grid0.N, _)
theorem idx7 : ∀ t : Fin cfg0.N, win0_7.index t 0 = t.val ∧ win0_7.index t 1 = 0 := (by decide +kernel : ∀ t : Fin grid0.N, _)
theorem idx8 : ∀ t : Fin cfg0.N, win0_8.index t 0 = 0 ∧ win0_8.index t 1 = t.val := (by decide +kernel : ∀ t : Fin grid0.N, _)

theorem t_lt (t : Fin cfg0.N) : t.val < 32 := Nat.lt_of_lt_of_eq t.isLt N_0

/-- The row of the whole array that a block's row is. -/
abbrev rowOf (t : Fin cfg0.N) (p : Fin 512) : Fin 16384 := ⟨512 * t.val + p.val, by have := t_lt t; omega⟩

theorem blk0_at (c : Dev nD) (t : Fin cfg0.N) (p : Fin 512) (k : Fin 2048) : (iblk m c 0 t : S512x2048.Idx → EReal) (ix2 p k) = A0 m c (ix3 0 (rowOf t p) k) := by
  refine Eq.trans ?_ (V0_at m c (rowOf t p) k)
  refine congrArg (V m c main_v0 : S16384x2048.Idx → EReal) ?_
  funext a
  apply Fin.ext
  match a with
  | ⟨0, _⟩ =>
    refine (Window.rect_emb_val win0_0 t (ix2 p k) 0).trans ?_
    rw [(idx0 t).1]
    exact congrArg (· + p.val) (Nat.mul_comm _ 512)
  | ⟨1, _⟩ =>
    refine (Window.rect_emb_val win0_0 t (ix2 p k) 1).trans ?_
    rw [(idx0 t).2]
    show 0 * 2048 + k.val = k.val
    omega

theorem blk1_at (c : Dev nD) (t : Fin cfg0.N) (p : Fin 512) (k : Fin 1024) : (iblk m c 1 t : S512x1024.Idx → EReal) (ix2 p k) = A1 m c (ix3 0 (rowOf t p) k) := by
  refine Eq.trans ?_ (V3_at m c (rowOf t p) k)
  refine congrArg (V m c main_v3 : S16384x1024.Idx → EReal) ?_
  funext a
  apply Fin.ext
  match a with
  | ⟨0, _⟩ =>
    refine (Window.rect_emb_val win0_1 t (ix2 p k) 0).trans ?_
    rw [(idx1 t).1]
    exact congrArg (· + p.val) (Nat.mul_comm _ 512)
  | ⟨1, _⟩ =>
    refine (Window.rect_emb_val win0_1 t (ix2 p k) 1).trans ?_
    rw [(idx1 t).2]
    show 0 * 1024 + k.val = k.val
    omega

theorem blk2_at (c : Dev nD) (t : Fin cfg0.N) (p : Fin 512) (k : Fin 1024) : (iblk m c 2 t : S512x1024.Idx → EReal) (ix2 p k) = A2 m c (ix3 0 (rowOf t p) k) := by
  refine Eq.trans ?_ (V4_at m c (rowOf t p) k)
  refine congrArg (V m c main_v4 : S16384x1024.Idx → EReal) ?_
  funext a
  apply Fin.ext
  match a with
  | ⟨0, _⟩ =>
    refine (Window.rect_emb_val win0_2 t (ix2 p k) 0).trans ?_
    rw [(idx2 t).1]
    exact congrArg (· + p.val) (Nat.mul_comm _ 512)
  | ⟨1, _⟩ =>
    refine (Window.rect_emb_val win0_2 t (ix2 p k) 1).trans ?_
    rw [(idx2 t).2]
    show 0 * 1024 + k.val = k.val
    omega

theorem blk3_at (c : Dev nD) (t : Fin cfg0.N) (k : Fin 1024) : (iblk m c 3 t : S1x1024.Idx → EReal) (ix2 0 k) = A3 m c (ix1 k) := by
  refine Eq.trans ?_ (V6_at m c k)
  refine congrArg (V m c main_v6 : S1x1024.Idx → EReal) ?_
  funext a
  apply Fin.ext
  match a with
  | ⟨0, _⟩ =>
    refine (Window.rect_emb_val win0_3 t (ix2 0 k) 0).trans ?_
    rw [(idx3 t).1]
    show 0 * 1 + 0 = 0
    omega
  | ⟨1, _⟩ =>
    refine (Window.rect_emb_val win0_3 t (ix2 0 k) 1).trans ?_
    rw [(idx3 t).2]
    show 0 * 1024 + k.val = k.val
    omega

theorem blk4_at (c : Dev nD) (t : Fin cfg0.N) (k : Fin 1024) : (iblk m c 4 t : S1x1024.Idx → EReal) (ix2 0 k) = A4 m c (ix1 k) := by
  refine Eq.trans ?_ (V7_at m c k)
  refine congrArg (V m c main_v7 : S1x1024.Idx → EReal) ?_
  funext a
  apply Fin.ext
  match a with
  | ⟨0, _⟩ =>
    refine (Window.rect_emb_val win0_4 t (ix2 0 k) 0).trans ?_
    rw [(idx4 t).1]
    show 0 * 1 + 0 = 0
    omega
  | ⟨1, _⟩ =>
    refine (Window.rect_emb_val win0_4 t (ix2 0 k) 1).trans ?_
    rw [(idx4 t).2]
    show 0 * 1024 + k.val = k.val
    omega

theorem blk5_at (c : Dev nD) (t : Fin cfg0.N) (p k : Fin 2048) : (iblk m c 5 t : S2048x2048.Idx → EReal) (ix2 p k) = A5 m c (ix2 p k) := by
  refine Eq.trans ?_ (V5_at m c p k)
  refine congrArg (V m c main_v5 : S2048x2048.Idx → EReal) ?_
  funext a
  apply Fin.ext
  match a with
  | ⟨0, _⟩ =>
    refine (Window.rect_emb_val win0_5 t (ix2 p k) 0).trans ?_
    rw [(idx5 t).1]
    show 0 * 2048 + p.val = p.val
    omega
  | ⟨1, _⟩ =>
    refine (Window.rect_emb_val win0_5 t (ix2 p k) 1).trans ?_
    rw [(idx5 t).2]
    show 0 * 2048 + k.val = k.val
    omega

theorem blk6_at (c : Dev nD) (t : Fin cfg0.N) (k : Fin 2048) : (iblk m c 6 t : S1x2048.Idx → EReal) (ix2 0 k) = A6 m c (ix1 k) := by
  refine Eq.trans ?_ (V8_at m c k)
  refine congrArg (V m c main_v8 : S1x2048.Idx → EReal) ?_
  funext a
  apply Fin.ext
  match a with
  | ⟨0, _⟩ =>
    refine (Window.rect_emb_val win0_6 t (ix2 0 k) 0).trans ?_
    rw [(idx6 t).1]
    show 0 * 1 + 0 = 0
    omega
  | ⟨1, _⟩ =>
    refine (Window.rect_emb_val win0_6 t (ix2 0 k) 1).trans ?_
    rw [(idx6 t).2]
    show 0 * 2048 + k.val = k.val
    omega

/-! ## The whole results -/

/-- A row of the first result. -/
abbrev row (c : Dev nD) (r : Fin 16384) : Fin 2048 → EReal :=
  added (fun n => A0 m c (ix3 0 r n)) (fun k => A1 m c (ix3 0 r k)) (fun k => A3 m c (ix1 k)) (fun k => A2 m c (ix3 0 r k)) (fun k => A4 m c (ix1 k)) (fun k n => A5 m c (ix2 k n))

/-- The rows with their mixture added, -/
def G7 (c : Dev nD) : S16384x2048.Idx → EReal := fun y => row m c (y 0) (y 1)
/-- and normed, transposed. -/
def G8 (c : Dev nD) : S2048x16384.Idx → EReal := fun y => rmsOf dRow (row m c (y 1)) (fun n => A6 m c (ix1 n)) (y 0)

theorem blockRow_eq (c : Dev nD) (t : Fin cfg0.N) (p : Fin 512) :
    blockRow (iblk m c 0 t) (iblk m c 1 t) (iblk m c 2 t) (iblk m c 3 t) (iblk m c 4 t) (iblk m c 5 t) p = row m c (rowOf t p) := by
  unfold blockRow row
  rw [funext fun n => blk0_at m c t p n, funext fun k => blk1_at m c t p k, funext fun k => blk2_at m c t p k, funext fun k => blk3_at m c t k,
    funext fun k => blk4_at m c t k, funext fun k => funext fun n => blk5_at m c t k n]

theorem flushed7_eq (c : Dev nD) (t : Fin cfg0.N) : (dats m 0 c).flushed 7 t = ((cfg0.win 7).blk t).view.read (Elt Ideal) (G7 m c) := by
  rw [Cert.OutProjIdeal.Value.flushed7]
  funext y
  have hy : y = ix2 (n0 := 512) (n1 := 2048) (y 0) (y 1) := by
    funext a
    match a with
    | ⟨0, _⟩ => rfl
    | ⟨1, _⟩ => rfl
  have e0 : (win0_7.rect t).emb y 0 = rowOf t (y 0) := by
    apply Fin.ext
    refine (Window.rect_emb_val win0_7 t y 0).trans ?_
    rw [(idx7 t).1]
    exact congrArg (· + (y 0).val) (Nat.mul_comm _ 512)
  have e1 : (win0_7.rect t).emb y 1 = y 1 := by
    apply Fin.ext
    refine (Window.rect_emb_val win0_7 t y 1).trans ?_
    rw [(idx7 t).2]
    show 0 * 2048 + (y 1).val = (y 1).val
    omega
  show (out0_7 (F := Ideal) (iblk m c 0 t) (iblk m c 1 t) (iblk m c 2 t) (iblk m c 3 t) (iblk m c 4 t) (iblk m c 5 t) (iblk m c 6 t) : S512x2048.Idx → EReal) y
    = row m c ((win0_7.rect t).emb y 0) ((win0_7.rect t).emb y 1)
  rw [e0, e1]
  refine (congrArg (out0_7 (F := Ideal) (iblk m c 0 t) (iblk m c 1 t) (iblk m c 2 t) (iblk m c 3 t) (iblk m c 4 t) (iblk m c 5 t) (iblk m c 6 t) : S512x2048.Idx → EReal) hy).trans ?_
  refine (out7_at (iblk m c 0 t) (iblk m c 1 t) (iblk m c 2 t) (iblk m c 3 t) (iblk m c 4 t) (iblk m c 5 t) (iblk m c 6 t) (y 0) (y 1)).trans ?_
  exact congrFun (blockRow_eq m c t (y 0)) (y 1)

theorem flushed8_eq (c : Dev nD) (t : Fin cfg0.N) : (dats m 0 c).flushed 8 t = ((cfg0.win 8).blk t).view.read (Elt Ideal) (G8 m c) := by
  rw [Cert.OutProjIdeal.Value.flushed8]
  funext y
  have hy : y = ix2 (n0 := 2048) (n1 := 512) (y 0) (y 1) := by
    funext a
    match a with
    | ⟨0, _⟩ => rfl
    | ⟨1, _⟩ => rfl
  have e0 : (win0_8.rect t).emb y 0 = y 0 := by
    apply Fin.ext
    refine (Window.rect_emb_val win0_8 t y 0).trans ?_
    rw [(idx8 t).1]
    show 0 * 2048 + (y 0).val = (y 0).val
    omega
  have e1 : (win0_8.rect t).emb y 1 = rowOf t (y 1) := by
    apply Fin.ext
    refine (Window.rect_emb_val win0_8 t y 1).trans ?_
    rw [(idx8 t).2]
    exact congrArg (· + (y 1).val) (Nat.mul_comm _ 512)
  show (out0_8 (F := Ideal) (iblk m c 0 t) (iblk m c 1 t) (iblk m c 2 t) (iblk m c 3 t) (iblk m c 4 t) (iblk m c 5 t) (iblk m c 6 t) : S2048x512.Idx → EReal) y
    = rmsOf dRow (row m c ((win0_8.rect t).emb y 1)) (fun n => A6 m c (ix1 n)) ((win0_8.rect t).emb y 0)
  rw [e0, e1]
  refine (congrArg (out0_8 (F := Ideal) (iblk m c 0 t) (iblk m c 1 t) (iblk m c 2 t) (iblk m c 3 t) (iblk m c 4 t) (iblk m c 5 t) (iblk m c 6 t) : S2048x512.Idx → EReal) hy).trans ?_
  refine (out8_at (iblk m c 0 t) (iblk m c 1 t) (iblk m c 2 t) (iblk m c 3 t) (iblk m c 4 t) (iblk m c 5 t) (iblk m c 6 t) (y 0) (y 1)).trans ?_
  rw [blockRow_eq m c t (y 1), funext fun n => blk6_at m c t n]

theorem flush7 : ∀ t : Fin cfg0.N, (cfg0.win 7).flush t = true := (by decide +kernel : ∀ t : Fin grid0.N, _)
theorem flush8 : ∀ t : Fin cfg0.N, (cfg0.win 8).flush t = true := (by decide +kernel : ∀ t : Fin grid0.N, _)

theorem mem7 (t : Fin cfg0.N) (i : S16384x2048.Idx) (h : ∀ a : Fin 2, win0_7.index t a * S512x2048.size a ≤ (i a).val ∧ (i a).val < win0_7.index t a * S512x2048.size a + S512x2048.size a) :
    i ∈ ((cfg0.win 7).blk t).view.set := by
  show i ∈ ((View.whole main_v9_0).slice (win0_7.rect t)).set
  rw [View.set_slice_whole, Rect.mem_set_unit]
  exact h

theorem mem8 (t : Fin cfg0.N) (i : S2048x16384.Idx) (h : ∀ a : Fin 2, win0_8.index t a * S2048x512.size a ≤ (i a).val ∧ (i a).val < win0_8.index t a * S2048x512.size a + S2048x512.size a) :
    i ∈ ((cfg0.win 8).blk t).view.set := by
  show i ∈ ((View.whole main_v9_1).slice (win0_8.rect t)).set
  rw [View.set_slice_whole, Rect.mem_set_unit]
  exact h

/-- Every index of the first result is in the block of the point that its row belongs to, -/
theorem cover7 (i : S16384x2048.Idx) : ∃ t : Fin cfg0.N, (cfg0.win 7).flush t = true ∧ i ∈ ((cfg0.win 7).blk t).view.set := by
  have h0 : (i 0).val < 16384 := (i 0).isLt
  have h1 : (i 1).val < 2048 := (i 1).isLt
  refine ⟨⟨(i 0).val / 512, Nat.lt_of_lt_of_eq (by omega) N_0.symm⟩, flush7 _, mem7 _ i fun a => ?_⟩
  match a with
  | ⟨0, _⟩ =>
    show win0_7.index _ 0 * 512 ≤ (i 0).val ∧ (i 0).val < win0_7.index _ 0 * 512 + 512
    rw [(idx7 _).1]
    dsimp only
    omega
  | ⟨1, _⟩ =>
    show win0_7.index _ 1 * 2048 ≤ (i 1).val ∧ (i 1).val < win0_7.index _ 1 * 2048 + 2048
    rw [(idx7 _).2]
    omega

/-- and of the second, its column. -/
theorem cover8 (i : S2048x16384.Idx) : ∃ t : Fin cfg0.N, (cfg0.win 8).flush t = true ∧ i ∈ ((cfg0.win 8).blk t).view.set := by
  have h0 : (i 0).val < 2048 := (i 0).isLt
  have h1 : (i 1).val < 16384 := (i 1).isLt
  refine ⟨⟨(i 1).val / 512, Nat.lt_of_lt_of_eq (by omega) N_0.symm⟩, flush8 _, mem8 _ i fun a => ?_⟩
  match a with
  | ⟨0, _⟩ =>
    show win0_8.index _ 0 * 2048 ≤ (i 0).val ∧ (i 0).val < win0_8.index _ 0 * 2048 + 2048
    rw [(idx8 _).1]
    omega
  | ⟨1, _⟩ =>
    show win0_8.index _ 1 * 512 ≤ (i 1).val ∧ (i 1).val < win0_8.index _ 1 * 512 + 512
    rw [(idx8 _).2]
    dsimp only
    omega

theorem final7 (c : Dev nD) : (dats m 0 c).arrAt 7 cfg0.N = G7 m c :=
  (dats m 0 c).arrAt_eq_of_cover 7 (G7 m c) (fun t _ => flushed7_eq m c t) cover7
theorem final8 (c : Dev nD) : (dats m 0 c).arrAt 8 cfg0.N = G8 m c :=
  (dats m 0 c).arrAt_eq_of_cover 8 (G8 m c) (fun t _ => flushed8_eq m c t) cover8

/-- Every run ends with both result arrays as named above and the arguments as they began. -/
theorem run (ρ : Dev nD → PrngReg) : θ_run defs (onTc (τ := τ) (main (F := Ideal))) ⟨m, fun _ => 0, ρ⟩ (fun r => ∀ c : Dev nD,
      r.2.mem ((c.tc : Thread nD τ).loc main_v9_0) = G7 m c
      ∧ r.2.mem ((c.tc : Thread nD τ).loc main_v9_1) = G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (final7 m c), (h c).2.1.trans (final8 m c), (h c).2.2⟩) (Cert.OutProjIdeal.Value.run_blocks m ρ)

end Cert.Proof.Out
-- ==== Proof.Out.Ref.lean ====
module

public import proofs.«01_k».proof.Proof.Gen.OutProjReferenceIdeal
public import proofs.«01_k».proof.Proof.Gen.OutProjReferenceIdeal.Run
public import proofs.«01_k».proof.Proof.Out.Pay
public import Idealize.ShloMosaic.Lib.Pointwise

@[expose] public section

set_option maxRecDepth 16384

noncomputable section

namespace Cert.Proof.Out.Ref

open Cert.OutProjReferenceIdeal Cert.OutProjReferenceIdeal.Gen
open Idealize.ShloMosaic

/-- The reference's norm of a group of channels, -/
abbrev group (a : FVec Ideal S1x16384x1024 .f32) (g : FVec Ideal S1024 .f32) : FVec Ideal S1x16384x1024 .f32 :=
  mulf (mulf a (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf a a) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32))))))
    (broadcastInDim S1x16384x1024 ![0, 1, 2] bcast_S1x1x1024_S1x16384x1024_0_1_2 (broadcastInDim S1x1x1024 ![2] bcast_S1024_S1x1x1024_2 g))

/-- the two groups side by side, -/
abbrev both (a b : FVec Ideal S1x16384x1024 .f32) : FVec Ideal S1x16384x2048 .f32 :=
  concatenate S1x16384x2048 2 [⟨S1x16384x1024, a⟩, ⟨S1x16384x1024, b⟩] concatenates_S1x16384x1024_S1x16384x1024_S1x16384x2048_d2

/-- their projection added, -/
abbrev mixed (x : FVec Ideal S1x16384x2048 .f32) (h : FVec Ideal S1x16384x2048 .f32) (w : FVec Ideal S2048x2048 .f32) : FVec Ideal S1x16384x2048 .f32 :=
  addf x (Host.dotGeneral dot_S1x16384x2048_S2048x2048_S1x16384x2048_2_0_01_1_n_n none h w)

/-- and the last norm, transposed. -/
abbrev last (y : FVec Ideal S1x16384x2048 .f32) (g : FVec Ideal S2048 .f32) : FVec Ideal S2048x16384 .bf16 :=
  truncf .bf16 (transpose S2048x16384 [1, 0] (shapeCast S16384x2048 (mulf (mulf y (broadcastInDim S1x16384x2048 ![0, 1, 2] bcast_S1x16384x1_S1x16384x2048_0_1_2 (Host.rsqrt (addf (Host.divf (broadcastInDim S1x16384x1 ![0, 1] bcast_S1x16384_S1x16384x1_0_1 (Host.reduceAdd (mulf y y) (constant S_ .f32 0x00000000#32) reducesTo_S1x16384x2048_S1x16384_d2 h_S_)) (broadcastInDim S1x16384x1 ![] bcast_S_S1x16384x1 (constant S_ .f32 0x45000000#32))) (broadcastInDim S1x16384x1 ![] bcast_S_S1x16384x1 (constant S_ .f32 0x358637BD#32)))))) (broadcastInDim S1x16384x2048 ![0, 1, 2] bcast_S1x1x2048_S1x16384x2048_0_1_2 (broadcastInDim S1x1x2048 ![2] bcast_S2048_S1x1x2048_2 g))) shapeCasts_S1x16384x2048_S16384x2048) transposes_S16384x2048_S2048x16384_1_0) bitsLt_bf16_f32

theorem group_at (a : FVec Ideal S1x16384x1024 .f32) (g : FVec Ideal S1024 .f32) (r : Fin 16384) (k : Fin 1024) :
    group a g (ix3 0 r k) = rmsOf dGroup (fun k => a (ix3 0 r k)) (fun k => g (ix1 k)) k := by
  unfold group
  pointwise
  rfl

theorem both_lo (a b : FVec Ideal S1x16384x1024 .f32) (r : Fin 16384) (k : Fin 1024) : both a b (ix3 0 r (lo k)) = a (ix3 0 r k) := by
  unfold both
  pointwise

theorem both_hi (a b : FVec Ideal S1x16384x1024 .f32) (r : Fin 16384) (k : Fin 1024) : both a b (ix3 0 r (hi k)) = b (ix3 0 r k) := by
  unfold both
  pointwise

theorem mixed_at (x h : FVec Ideal S1x16384x2048 .f32) (w : FVec Ideal S2048x2048 .f32) (r : Fin 16384) (n : Fin 2048) :
    mixed x h w (ix3 0 r n) = x (ix3 0 r n) + ∑ k, h (ix3 0 r k) * w (ix2 k n) := by
  unfold mixed
  pointwise

theorem last_at (y : FVec Ideal S1x16384x2048 .f32) (g : FVec Ideal S2048 .f32) (n : Fin 2048) (r : Fin 16384) :
    last y g (ix2 n r) = rmsOf dRow (fun n => y (ix3 0 r n)) (fun n => g (ix1 n)) n := by
  unfold last
  pointwise
  rfl

/-- The reference's rows. -/
theorem row_at (x : FVec Ideal S1x16384x2048 .f32) (a b : FVec Ideal S1x16384x1024 .f32) (ga gb : FVec Ideal S1024 .f32) (w : FVec Ideal S2048x2048 .f32)
    (r : Fin 16384) (n : Fin 2048) :
    mixed x (both (group a ga) (group b gb)) w (ix3 0 r n) =
      added (fun n => x (ix3 0 r n)) (fun k => a (ix3 0 r k)) (fun k => ga (ix1 k)) (fun k => b (ix3 0 r k)) (fun k => gb (ix1 k)) (fun k n => w (ix2 k n)) n := by
  rw [mixed_at]
  unfold added
  refine congrArg (x (ix3 0 r n) + ·) ?_
  refine (Fin.sum_univ_add (a := 1024) (b := 1024) _).trans ?_
  refine congr (congrArg HAdd.hAdd (Finset.sum_congr rfl fun k _ => ?_)) (Finset.sum_congr rfl fun k _ => ?_)
  · refine congrArg (· * w (ix2 (lo k) n)) ?_
    exact (both_lo _ _ r k).trans (group_at a ga r k)
  · refine congrArg (· * w (ix2 (hi k) n)) ?_
    exact (both_hi _ _ r k).trans (group_at b gb r k)

/-- The first result: the rows with their mixture added. -/
theorem fst_eq (x : FVec Ideal S1x16384x2048 .f32) (a b : FVec Ideal S1x16384x1024 .f32) (ga gb : FVec Ideal S1024 .f32) (w : FVec Ideal S2048x2048 .f32) :
    (shapeCast S16384x2048 (mixed x (both (group a ga) (group b gb)) w) shapeCasts_S1x16384x2048_S16384x2048 : FVec Ideal S16384x2048 .f32) =
      fun y => added (fun n => x (ix3 0 (y 0) n)) (fun k => a (ix3 0 (y 0) k)) (fun k => ga (ix1 k)) (fun k => b (ix3 0 (y 0) k)) (fun k => gb (ix1 k)) (fun k n => w (ix2 k n)) (y 1) := by
  funext y
  have hy : y = ix2 (n0 := 16384) (n1 := 2048) (y 0) (y 1) := by
    funext a
    match a with
    | ⟨0, _⟩ => rfl
    | ⟨1, _⟩ => rfl
  rw [hy]
  refine Eq.trans ?_ (row_at x a b ga gb w (y 0) (y 1))
  generalize mixed x (both (group a ga) (group b gb)) w = z
  pointwise

/-- The second: those rows normed, transposed. -/
theorem snd_eq (x : FVec Ideal S1x16384x2048 .f32) (a b : FVec Ideal S1x16384x1024 .f32) (ga gb : FVec Ideal S1024 .f32) (w : FVec Ideal S2048x2048 .f32) (g : FVec Ideal S2048 .f32) :
    last (mixed x (both (group a ga) (group b gb)) w) g =
      fun y => rmsOf dRow (added (fun n => x (ix3 0 (y 1) n)) (fun k => a (ix3 0 (y 1) k)) (fun k => ga (ix1 k)) (fun k => b (ix3 0 (y 1) k)) (fun k => gb (ix1 k)) (fun k n => w (ix2 k n)))
        (fun n => g (ix1 n)) (y 0) := by
  funext y
  have hy : y = ix2 (n0 := 2048) (n1 := 16384) (y 0) (y 1) := by
    funext a
    match a with
    | ⟨0, _⟩ => rfl
    | ⟨1, _⟩ => rfl
  rw [hy]
  refine (last_at _ g (y 0) (y 1)).trans ?_
  exact congrArg (fun f => rmsOf dRow f (fun n => g (ix1 n)) (y 0)) (funext fun n => row_at x a b ga gb w (y 1) n)

open Idealize.ShloMosaic.TcCoe in
/-- The run's name for the second result. -/
theorem res_eq (m : (ℓ : Loc nD τ sig) → Buf (Elt Ideal) ℓ) (c : Dev nD) :
    Cert.OutProjReferenceIdeal.Value.res_out1 m c =
      last (mixed (m ((c.tc : Thread nD τ).loc main_arg0)) (both (group (m ((c.tc : Thread nD τ).loc main_arg1)) (m ((c.tc : Thread nD τ).loc main_arg3)))
        (group (m ((c.tc : Thread nD τ).loc main_arg2)) (m ((c.tc : Thread nD τ).loc main_arg4)))) (m ((c.tc : Thread nD τ).loc main_arg5))) (m ((c.tc : Thread nD τ).loc main_arg6)) := rfl

end Cert.Proof.Out.Ref
-- ==== Proof.lean ====
module

public import proofs.«01_k».proof.Defs
public import proofs.«01_k».proof.Proof.KB.Run
public import proofs.«01_k».proof.Proof.KI.Run
public import proofs.«01_k».proof.Proof.At.Array
public import proofs.«01_k».proof.Proof.At.RefVal
public import proofs.«01_k».proof.Proof.In.Array
public import proofs.«01_k».proof.Proof.In.Ref
public import proofs.«01_k».proof.Proof.Out.Array
public import proofs.«01_k».proof.Proof.Out.Ref
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

theorem frame_p : Cert.quiescent_Kernel := fun m ρ _ => Cert.Proof.KB.frame (F := Bits) m ρ
theorem frame_pi : Cert.quiescent_KernelIdeal := fun m ρ _ => Cert.Proof.KI.frame (F := Ideal) m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The mask's constant is named the least extended real. -/
theorem preserves : Cert.preserves_Kernel_KernelIdeal :=
  IdealRules.named_const.statement Cert.KernelIdeal.κ "mask" .f32 0xF149F2CA#32 ⊥ rfl

/-- Of arguments that agree both results are the attention: the kernel's array (`At.run`) and, at every index, the
    reference's (`At.Ref.result_eq`). -/
theorem algebraic : Cert.algebraic_KernelIdeal_ReferenceIdeal := by
  intro m ρ m' ρ' _ hagree
  refine ⟨_, Cert.Proof.At.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2⟩ := hagree c
  rw [Cert.Proof.At.Ref.res_eq, e0, e1, e2]
  exact Cert.Proof.At.Ref.result_eq _ _ _

/-! ## The input projection -/

theorem frame_p2 : Cert.quiescent_InProj := fun m ρ _ => Cert.InProj.Gen.frame (F := Bits) m ρ
theorem frame_pi2 : Cert.quiescent_InProjIdeal := fun m ρ _ => Cert.InProjIdeal.Gen.frame (F := Ideal) m ρ
theorem frame_ri2 : Cert.quiescent_InProjReferenceIdeal := fun m ρ _ =>
  (θ_run Cert.InProjReferenceIdeal.defs _ _).mono (fun r h => ⟨fun c => (h c).2,
      Idealize.ShloMosaic.sem_eq_zero_of_no_sems (by decide) r.2⟩)
    (Cert.InProjReferenceIdeal.Value.run (F := Ideal) m ρ)

/-- The ideal pass rewrote nothing here. -/
theorem preserves2 : Cert.preserves_InProj_InProjIdeal := trivial

/-- Of arguments that agree both results are the projection of the normed rows. -/
theorem algebraic2 : Cert.algebraic_InProjIdeal_InProjReferenceIdeal := by
  intro m ρ m' ρ' _ hagree
  refine ⟨_, Cert.Proof.In.run m ρ, ?_⟩
  refine (θ_run Cert.InProjReferenceIdeal.defs _ _).mono (fun _ h c => ⟨(h c).1.trans ?_, (h c).2⟩)
    (Cert.InProjReferenceIdeal.Value.run (F := Ideal) m' ρ')
  obtain ⟨e0, e1, e2⟩ := hagree c
  rw [e0, e1, e2]
  exact Cert.Proof.In.Ref.result_eq _ _ _

/-! ## The output projection -/

theorem frame_p3 : Cert.quiescent_OutProj := fun m ρ _ => Cert.OutProj.Gen.frame (F := Bits) m ρ
theorem frame_pi3 : Cert.quiescent_OutProjIdeal := fun m ρ _ => Cert.OutProjIdeal.Gen.frame (F := Ideal) m ρ
theorem frame_ri3 : Cert.quiescent_OutProjReferenceIdeal := fun m ρ _ =>
  (θ_run Cert.OutProjReferenceIdeal.defs _ _).mono (fun r h => ⟨fun c => (h c).2.2,
      Idealize.ShloMosaic.sem_eq_zero_of_no_sems (by decide) r.2⟩)
    (Cert.OutProjReferenceIdeal.Value.run (F := Ideal) m ρ)

/-- The ideal pass rewrote nothing here. -/
theorem preserves3 : Cert.preserves_OutProj_OutProjIdeal := trivial

/-- Of arguments that agree both programs end with the same rows and the same normed rows. -/
theorem algebraic3 : Cert.algebraic_OutProjIdeal_OutProjReferenceIdeal := by
  intro m ρ m' ρ' _ hagree
  refine ⟨_, _, Cert.Proof.Out.run m ρ, ?_⟩
  refine (θ_run Cert.OutProjReferenceIdeal.defs _ _).mono (fun _ h c => ⟨(h c).1.trans ?_, (h c).2.1.trans ?_, (h c).2.2⟩)
    (Cert.OutProjReferenceIdeal.Value.run (F := Ideal) m' ρ')
  · obtain ⟨e0, e1, e2, e3, e4, e5, e6⟩ := hagree c
    rw [e0, e1, e2, e3, e4, e5]
    exact Cert.Proof.Out.Ref.fst_eq _ _ _ _ _ _
  · refine (Cert.Proof.Out.Ref.res_eq m' c).trans ?_
    obtain ⟨e0, e1, e2, e3, e4, e5, e6⟩ := hagree c
    rw [e0, e1, e2, e3, e4, e5, e6]
    exact Cert.Proof.Out.Ref.snd_eq _ _ _ _ _ _ _

theorem claim : Cert.Claim :=
  ⟨Cert.Kernel.Gen.facts, Cert.KernelIdeal.Gen.facts, Cert.ReferenceIdeal.Gen.facts, Cert.InProj.Gen.facts, Cert.InProjIdeal.Gen.facts,
    Cert.InProjReferenceIdeal.Gen.facts, Cert.OutProj.Gen.facts, Cert.OutProjIdeal.Gen.facts, Cert.OutProjReferenceIdeal.Gen.facts,
    frame_p, frame_pi, frame_ri, frame_p2, frame_pi2, frame_ri2, frame_p3, frame_pi3, frame_ri3,
    preserves, algebraic, preserves2, algebraic2, preserves3, algebraic3⟩

end Cert.Proof

end
